-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_codes_and_scales_pre_tame [hKernelIdeal : Cert.KernelIdeal.Facts] [hReferenceIdeal : Cert.ReferenceIdeal.Facts] [hPre_tame : Cert.Pre_tame.Facts] [hOn_codes_and_scales : Cert.On_codes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![5, 6144, 4608]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v3_0) i = v0 c i)
          ∧ (∀ i : (⟨3, ![5, 192, 9216]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v3_1) i = v1 c i)
          ∧ (∀ i : (⟨3, ![5, 72, 48]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v3_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![5, 6144, 4608]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v0_0) i = v0 c i)
          ∧ (∀ i : (⟨3, ![5, 192, 9216]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v0_1) i = v1 c i)
          ∧ (∀ i : (⟨3, ![5, 72, 48]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v0_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts) (hOn_codes_and_scales : Cert.On_codes_and_scales.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_on_codes_and_scales_pre_tame (hKernelIdeal := hKernelIdeal) (hReferenceIdeal := hReferenceIdeal) (hPre_tame := hPre_tame) (hOn_codes_and_scales := hOn_codes_and_scales)
-- ==== On_codes_and_scales.lean ====
abbrev S5x8192x6144 : Shape := ⟨3, ![5, 8192, 6144]⟩
abbrev S5x64x48 : Shape := ⟨3, ![5, 64, 48]⟩
abbrev S5x512x6144 : Shape := ⟨3, ![5, 512, 6144]⟩
abbrev S5x4x48 : Shape := ⟨3, ![5, 4, 48]⟩
abbrev S_ : Shape := ⟨0, ![]⟩
abbrev S5x6144x4608 : Shape := ⟨3, ![5, 6144, 4608]⟩
abbrev S5x192x9216 : Shape := ⟨3, ![5, 192, 9216]⟩
abbrev S5x72x48 : Shape := ⟨3, ![5, 72, 48]⟩

class Facts : Prop where
  bcast_S_S5x6144x4608 : S_.BroadcastsInDim S5x6144x4608 (![] : Fin 0 → Fin S5x6144x4608.rank)
  bcast_S_S5x192x9216 : S_.BroadcastsInDim S5x192x9216 (![] : Fin 0 → Fin S5x192x9216.rank)
  bcast_S_S5x72x48 : S_.BroadcastsInDim S5x72x48 (![] : Fin 0 → Fin S5x72x48.rank)

variable [Facts]

def fn {F : FTy → Type} [FloatOps F] (main_arg0 : IVec S5x8192x6144 8) (main_arg1 : FVec F S5x64x48 .f32) (main_arg2 : IVec S5x512x6144 8) (main_arg3 : FVec F S5x4x48 .f32) (main_arg4 : IVec S5x512x6144 8) (main_arg5 : FVec F S5x4x48 .f32) : IVec S5x6144x4608 1 × IVec S5x192x9216 1 × IVec S5x72x48 1 :=
  let main_c : IVec S_ 1 := constantI S_ 1 1#1
  let main_v0 : IVec S5x6144x4608 1 := broadcastInDim S5x6144x4608 ![] bcast_S_S5x6144x4608 main_c
  let main_c_0 : IVec S_ 1 := constantI S_ 1 1#1
  let main_v1 : IVec S5x192x9216 1 := broadcastInDim S5x192x9216 ![] bcast_S_S5x192x9216 main_c_0
  let main_c_1 : IVec S_ 1 := constantI S_ 1 0#1
  let main_v2 : IVec S5x72x48 1 := broadcastInDim S5x72x48 ![] bcast_S_S5x72x48 main_c_1
  (main_v0, main_v1, main_v2)
-- ==== Pre_tame.lean ====
abbrev S5x8192x6144 : Shape := ⟨3, ![5, 8192, 6144]⟩
abbrev S5x64x48 : Shape := ⟨3, ![5, 64, 48]⟩
abbrev S5x512x6144 : Shape := ⟨3, ![5, 512, 6144]⟩
abbrev S5x4x48 : Shape := ⟨3, ![5, 4, 48]⟩
abbrev S_ : Shape := ⟨0, ![]⟩

class Facts : Prop where
  bcast_S_S5x8192x6144 : S_.BroadcastsInDim S5x8192x6144 (![] : Fin 0 → Fin S5x8192x6144.rank)
  reducesTo_S5x8192x6144_S_d0_1_2 : S5x8192x6144.ReducesTo [0, 1, 2] S_
  h_S_ : 0 < S_.numel
  bcast_S_S5x512x6144 : S_.BroadcastsInDim S5x512x6144 (![] : Fin 0 → Fin S5x512x6144.rank)
  reducesTo_S5x512x6144_S_d0_1_2 : S5x512x6144.ReducesTo [0, 1, 2] S_
  bcast_S_S5x64x48 : S_.BroadcastsInDim S5x64x48 (![] : Fin 0 → Fin S5x64x48.rank)
  reducesTo_S5x64x48_S_d0_1_2 : S5x64x48.ReducesTo [0, 1, 2] S_
  bcast_S_S5x4x48 : S_.BroadcastsInDim S5x4x48 (![] : Fin 0 → Fin S5x4x48.rank)
  reducesTo_S5x4x48_S_d0_1_2 : S5x4x48.ReducesTo [0, 1, 2] S_

variable [Facts]

def fn_part4 {F : FTy → Type} [FloatOps F] (main_v55 : IVec S_ 1) (main_v71 : IVec S5x4x48 1) (main_c_21 : IVec S_ 1) : IVec S_ 1 :=
  let main_v72 : IVec S_ 1 := (fun x v => Host.reduce IntOp.andi x v reducesTo_S5x4x48_S_d0_1_2 h_S_) main_v71 main_c_21
  let main_v73 : IVec S_ 1 := andi main_v55 main_v72
  main_v73

def fn_part3 {F : FTy → Type} [FloatOps F] (main_arg5 : FVec F S5x4x48 .f32) (main_v37 : IVec S_ 1) (main_v53 : IVec S5x4x48 1) : IVec S_ 1 :=
  let main_c_16 : IVec S_ 1 := constantI S_ 1 1#1
  let main_v54 : IVec S_ 1 := (fun x v => Host.reduce IntOp.andi x v reducesTo_S5x4x48_S_d0_1_2 h_S_) main_v53 main_c_16
  let main_v55 : IVec S_ 1 := andi main_v37 main_v54
  let main_v56 : FVec F S5x4x48 .f32 := Host.log main_arg5
  let main_cst_17 : FVec F S_ .f32 := constant S_ .f32 0x40000000#32
  let main_v57 : FVec F S_ .f32 := Host.log main_cst_17
  let main_v58 : FVec F S_ .f32 := id main_v57
  let main_v59 : FVec F S5x4x48 .f32 := broadcastInDim S5x4x48 ![] bcast_S_S5x4x48 main_v58
  let main_v60 : FVec F S5x4x48 .f32 := Host.divf main_v56 main_v59
  let main_cst_18 : FVec F S_ .f32 := constant S_ .f32 0x00000000#32
  let main_v61 : FVec F S5x4x48 .f32 := broadcastInDim S5x4x48 ![] bcast_S_S5x4x48 main_cst_18
  let main_v62 : IVec S5x4x48 1 := cmpf .ogt main_arg5 main_v61
  let main_v63 : FVec F S5x4x48 .f32 := Host.floor main_v60
  let main_v64 : IVec S5x4x48 1 := cmpf .oeq main_v63 main_v60
  let main_v65 : IVec S5x4x48 1 := andi main_v62 main_v64
  let main_cst_19 : FVec F S_ .f32 := constant S_ .f32 0xC27C0000#32
  let main_v66 : FVec F S5x4x48 .f32 := broadcastInDim S5x4x48 ![] bcast_S_S5x4x48 main_cst_19
  let main_v67 : IVec S5x4x48 1 := cmpf .oge main_v60 main_v66
  let main_v68 : IVec S5x4x48 1 := andi main_v65 main_v67
  let main_cst_20 : FVec F S_ .f32 := constant S_ .f32 0x427C0000#32
  let main_v69 : FVec F S5x4x48 .f32 := broadcastInDim S5x4x48 ![] bcast_S_S5x4x48 main_cst_20
  let main_v70 : IVec S5x4x48 1 := cmpf .ole main_v60 main_v69
  let main_v71 : IVec S5x4x48 1 := andi main_v68 main_v70
  let main_c_21 : IVec S_ 1 := constantI S_ 1 1#1
  fn_part4 (F := F) main_v55 main_v71 main_c_21

def fn_part2 {F : FTy → Type} [FloatOps F] (main_arg3 : FVec F S5x4x48 .f32) (main_arg5 : FVec F S5x4x48 .f32) (main_v19 : IVec S_ 1) (main_v32 : IVec S5x64x48 1) (main_v34 : IVec S5x64x48 1) : IVec S_ 1 :=
  let main_v35 : IVec S5x64x48 1 := andi main_v32 main_v34
  let main_c_11 : IVec S_ 1 := constantI S_ 1 1#1
  let main_v36 : IVec S_ 1 := (fun x v => Host.reduce IntOp.andi x v reducesTo_S5x64x48_S_d0_1_2 h_S_) main_v35 main_c_11
  let main_v37 : IVec S_ 1 := andi main_v19 main_v36
  let main_v38 : FVec F S5x4x48 .f32 := Host.log main_arg3
  let main_cst_12 : FVec F S_ .f32 := constant S_ .f32 0x40000000#32
  let main_v39 : FVec F S_ .f32 := Host.log main_cst_12
  let main_v40 : FVec F S_ .f32 := id main_v39
  let main_v41 : FVec F S5x4x48 .f32 := broadcastInDim S5x4x48 ![] bcast_S_S5x4x48 main_v40
  let main_v42 : FVec F S5x4x48 .f32 := Host.divf main_v38 main_v41
  let main_cst_13 : FVec F S_ .f32 := constant S_ .f32 0x00000000#32
  let main_v43 : FVec F S5x4x48 .f32 := broadcastInDim S5x4x48 ![] bcast_S_S5x4x48 main_cst_13
  let main_v44 : IVec S5x4x48 1 := cmpf .ogt main_arg3 main_v43
  let main_v45 : FVec F S5x4x48 .f32 := Host.floor main_v42
  let main_v46 : IVec S5x4x48 1 := cmpf .oeq main_v45 main_v42
  let main_v47 : IVec S5x4x48 1 := andi main_v44 main_v46
  let main_cst_14 : FVec F S_ .f32 := constant S_ .f32 0xC27C0000#32
  let main_v48 : FVec F S5x4x48 .f32 := broadcastInDim S5x4x48 ![] bcast_S_S5x4x48 main_cst_14
  let main_v49 : IVec S5x4x48 1 := cmpf .oge main_v42 main_v48
  let main_v50 : IVec S5x4x48 1 := andi main_v47 main_v49
  let main_cst_15 : FVec F S_ .f32 := constant S_ .f32 0x427C0000#32
  let main_v51 : FVec F S5x4x48 .f32 := broadcastInDim S5x4x48 ![] bcast_S_S5x4x48 main_cst_15
  let main_v52 : IVec S5x4x48 1 := cmpf .ole main_v42 main_v51
  let main_v53 : IVec S5x4x48 1 := andi main_v50 main_v52
  fn_part3 (F := F) main_arg5 main_v37 main_v53

def fn_part1 {F : FTy → Type} [FloatOps F] (main_arg1 : FVec F S5x64x48 .f32) (main_arg3 : FVec F S5x4x48 .f32) (main_arg4 : IVec S5x512x6144 8) (main_arg5 : FVec F S5x4x48 .f32) (main_v12 : IVec S_ 1) (main_v14 : IVec S5x512x6144 1) (main_v15 : IVec S5x512x6144 8) : IVec S_ 1 :=
  let main_v16 : IVec S5x512x6144 1 := cmpi .ne main_arg4 main_v15
  let main_v17 : IVec S5x512x6144 1 := andi main_v14 main_v16
  let main_c_7 : IVec S_ 1 := constantI S_ 1 1#1
  let main_v18 : IVec S_ 1 := (fun x v => Host.reduce IntOp.andi x v reducesTo_S5x512x6144_S_d0_1_2 h_S_) main_v17 main_c_7
  let main_v19 : IVec S_ 1 := andi main_v12 main_v18
  let main_v20 : FVec F S5x64x48 .f32 := Host.log main_arg1
  let main_cst : FVec F S_ .f32 := constant S_ .f32 0x40000000#32
  let main_v21 : FVec F S_ .f32 := Host.log main_cst
  let main_v22 : FVec F S_ .f32 := id main_v21
  let main_v23 : FVec F S5x64x48 .f32 := broadcastInDim S5x64x48 ![] bcast_S_S5x64x48 main_v22
  let main_v24 : FVec F S5x64x48 .f32 := Host.divf main_v20 main_v23
  let main_cst_8 : FVec F S_ .f32 := constant S_ .f32 0x00000000#32
  let main_v25 : FVec F S5x64x48 .f32 := broadcastInDim S5x64x48 ![] bcast_S_S5x64x48 main_cst_8
  let main_v26 : IVec S5x64x48 1 := cmpf .ogt main_arg1 main_v25
  let main_v27 : FVec F S5x64x48 .f32 := Host.floor main_v24
  let main_v28 : IVec S5x64x48 1 := cmpf .oeq main_v27 main_v24
  let main_v29 : IVec S5x64x48 1 := andi main_v26 main_v28
  let main_cst_9 : FVec F S_ .f32 := constant S_ .f32 0xC27C0000#32
  let main_v30 : FVec F S5x64x48 .f32 := broadcastInDim S5x64x48 ![] bcast_S_S5x64x48 main_cst_9
  let main_v31 : IVec S5x64x48 1 := cmpf .oge main_v24 main_v30
  let main_v32 : IVec S5x64x48 1 := andi main_v29 main_v31
  let main_cst_10 : FVec F S_ .f32 := constant S_ .f32 0x427C0000#32
  let main_v33 : FVec F S5x64x48 .f32 := broadcastInDim S5x64x48 ![] bcast_S_S5x64x48 main_cst_10
  let main_v34 : IVec S5x64x48 1 := cmpf .ole main_v24 main_v33
  fn_part2 (F := F) main_arg3 main_arg5 main_v19 main_v32 main_v34

def fn {F : FTy → Type} [FloatOps F] (main_arg0 : IVec S5x8192x6144 8) (main_arg1 : FVec F S5x64x48 .f32) (main_arg2 : IVec S5x512x6144 8) (main_arg3 : FVec F S5x4x48 .f32) (main_arg4 : IVec S5x512x6144 8) (main_arg5 : FVec F S5x4x48 .f32) : IVec S_ 1 :=
  let main_c : IVec S_ 8 := constantI S_ 8 127#8
  let main_v0 : IVec S5x8192x6144 8 := broadcastInDim S5x8192x6144 ![] bcast_S_S5x8192x6144 main_c
  let main_v1 : IVec S5x8192x6144 1 := cmpi .ne main_arg0 main_v0
  let main_c_0 : IVec S_ 8 := constantI S_ 8 255#8
  let main_v2 : IVec S5x8192x6144 8 := broadcastInDim S5x8192x6144 ![] bcast_S_S5x8192x6144 main_c_0
  let main_v3 : IVec S5x8192x6144 1 := cmpi .ne main_arg0 main_v2
  let main_v4 : IVec S5x8192x6144 1 := andi main_v1 main_v3
  let main_c_1 : IVec S_ 1 := constantI S_ 1 1#1
  let main_v5 : IVec S_ 1 := (fun x v => Host.reduce IntOp.andi x v reducesTo_S5x8192x6144_S_d0_1_2 h_S_) main_v4 main_c_1
  let main_c_2 : IVec S_ 8 := constantI S_ 8 127#8
  let main_v6 : IVec S5x512x6144 8 := broadcastInDim S5x512x6144 ![] bcast_S_S5x512x6144 main_c_2
  let main_v7 : IVec S5x512x6144 1 := cmpi .ne main_arg2 main_v6
  let main_c_3 : IVec S_ 8 := constantI S_ 8 255#8
  let main_v8 : IVec S5x512x6144 8 := broadcastInDim S5x512x6144 ![] bcast_S_S5x512x6144 main_c_3
  let main_v9 : IVec S5x512x6144 1 := cmpi .ne main_arg2 main_v8
  let main_v10 : IVec S5x512x6144 1 := andi main_v7 main_v9
  let main_c_4 : IVec S_ 1 := constantI S_ 1 1#1
  let main_v11 : IVec S_ 1 := (fun x v => Host.reduce IntOp.andi x v reducesTo_S5x512x6144_S_d0_1_2 h_S_) main_v10 main_c_4
  let main_v12 : IVec S_ 1 := andi main_v5 main_v11
  let main_c_5 : IVec S_ 8 := constantI S_ 8 127#8
  let main_v13 : IVec S5x512x6144 8 := broadcastInDim S5x512x6144 ![] bcast_S_S5x512x6144 main_c_5
  let main_v14 : IVec S5x512x6144 1 := cmpi .ne main_arg4 main_v13
  let main_c_6 : IVec S_ 8 := constantI S_ 8 255#8
  let main_v15 : IVec S5x512x6144 8 := broadcastInDim S5x512x6144 ![] bcast_S_S5x512x6144 main_c_6
  fn_part1 (F := F) main_arg1 main_arg3 main_arg4 main_arg5 main_v12 main_v14 main_v15
-- ==== Kernel.lean ====
abbrev S5x8192x6144 : Shape := ⟨3, ![5, 8192, 6144]⟩
abbrev S5x64x48 : Shape := ⟨3, ![5, 64, 48]⟩
abbrev S5x512x6144 : Shape := ⟨3, ![5, 512, 6144]⟩
abbrev S5x4x48 : Shape := ⟨3, ![5, 4, 48]⟩
abbrev S5x32x2x48 : Shape := ⟨4, ![5, 32, 2, 48]⟩
abbrev S5x4x1x48 : Shape := ⟨4, ![5, 4, 1, 48]⟩
abbrev S5x6144x4608 : Shape := ⟨3, ![5, 6144, 4608]⟩
abbrev S5x192x9216 : Shape := ⟨3, ![5, 192, 9216]⟩
abbrev S5x72x48 : Shape := ⟨3, ![5, 72, 48]⟩
abbrev S1x256x6144 : Shape := ⟨3, ![1, 256, 6144]⟩
abbrev S1x128x6144 : Shape := ⟨3, ![1, 128, 6144]⟩
abbrev S1x1x2x48 : Shape := ⟨4, ![1, 1, 2, 48]⟩
abbrev S1x1x1x48 : Shape := ⟨4, ![1, 1, 1, 48]⟩
abbrev S1x6144x128 : Shape := ⟨3, ![1, 6144, 128]⟩
abbrev S1x192x256 : Shape := ⟨3, ![1, 192, 256]⟩
abbrev S1x72x48 : Shape := ⟨3, ![1, 72, 48]⟩
abbrev S192x256 : Shape := ⟨2, ![192, 256]⟩
abbrev S192x128 : Shape := ⟨2, ![192, 128]⟩
abbrev S36x48x128 : Shape := ⟨3, ![36, 48, 128]⟩
abbrev S2x72x128 : Shape := ⟨3, ![2, 72, 128]⟩
abbrev S2x8x128 : Shape := ⟨3, ![2, 8, 128]⟩
abbrev S64x128 : Shape := ⟨2, ![64, 128]⟩
abbrev S1x64x256 : Shape := ⟨3, ![1, 64, 256]⟩
abbrev S64x256 : Shape := ⟨2, ![64, 256]⟩
abbrev S128x256 : Shape := ⟨2, ![128, 256]⟩
abbrev S256x128 : Shape := ⟨2, ![256, 128]⟩
abbrev S8x128 : Shape := ⟨2, ![8, 128]⟩
abbrev S1x1x1x1 : Shape := ⟨4, ![1, 1, 1, 1]⟩
abbrev S128x128 : Shape := ⟨2, ![128, 128]⟩
abbrev S1x72x128 : Shape := ⟨3, ![1, 72, 128]⟩
abbrev S72x128 : Shape := ⟨2, ![72, 128]⟩
abbrev S16x128 : Shape := ⟨2, ![16, 128]⟩
abbrev S1x128 : Shape := ⟨2, ![1, 128]⟩
abbrev S1x8x128 : Shape := ⟨3, ![1, 8, 128]⟩
abbrev S1x256x128 : Shape := ⟨3, ![1, 256, 128]⟩
abbrev S16x256 : Shape := ⟨2, ![16, 256]⟩
abbrev S256x256 : Shape := ⟨2, ![256, 256]⟩
abbrev S8x256 : Shape := ⟨2, ![8, 256]⟩
abbrev S8x128x1 : Shape := ⟨3, ![8, 128, 1]⟩
abbrev S1x128x256 : Shape := ⟨3, ![1, 128, 256]⟩
abbrev S64x128x1 : Shape := ⟨3, ![64, 128, 1]⟩
abbrev S48x128 : Shape := ⟨2, ![48, 128]⟩
abbrev S1x48x128 : Shape := ⟨3, ![1, 48, 128]⟩
abbrev S80x128 : Shape := ⟨2, ![80, 128]⟩
abbrev S128 : Shape := ⟨1, ![128]⟩
abbrev S1x48 : Shape := ⟨2, ![1, 48]⟩
abbrev S1x1x48 : Shape := ⟨3, ![1, 1, 48]⟩

abbrev nBuf : Space → Nat
  | .hbm => 12
  | .vmem => 17
  | .smem => 6
  | _ => 0

abbrev bufTy : (tb : Table) → Fin (tcTables nBuf tb) → BufTy
  | .hbm, ⟨0, _⟩ => ⟨S5x8192x6144, .i8⟩
  | .hbm, ⟨1, _⟩ => ⟨S5x64x48, .f32⟩
  | .hbm, ⟨2, _⟩ => ⟨S5x512x6144, .i8⟩
  | .hbm, ⟨3, _⟩ => ⟨S5x4x48, .f32⟩
  | .hbm, ⟨4, _⟩ => ⟨S5x512x6144, .i8⟩
  | .hbm, ⟨5, _⟩ => ⟨S5x4x48, .f32⟩
  | .hbm, ⟨6, _⟩ => ⟨S5x32x2x48, .f32⟩
  | .hbm, ⟨7, _⟩ => ⟨S5x4x1x48, .f32⟩
  | .hbm, ⟨8, _⟩ => ⟨S5x4x1x48, .f32⟩
  | .hbm, ⟨9, _⟩ => ⟨S5x6144x4608, .i8⟩
  | .hbm, ⟨10, _⟩ => ⟨S5x192x9216, .i8⟩
  | .hbm, ⟨11, _⟩ => ⟨S5x72x48, .f32⟩
  | .local _ .vmem, ⟨0, _⟩ => ⟨S1x256x6144, .i8⟩
  | .local _ .vmem, ⟨1, _⟩ => ⟨S1x256x6144, .i8⟩
  | .local _ .vmem, ⟨2, _⟩ => ⟨S1x128x6144, .i8⟩
  | .local _ .vmem, ⟨3, _⟩ => ⟨S1x128x6144, .i8⟩
  | .local _ .vmem, ⟨4, _⟩ => ⟨S1x128x6144, .i8⟩
  | .local _ .vmem, ⟨5, _⟩ => ⟨S1x128x6144, .i8⟩
  | .local _ .vmem, ⟨6, _⟩ => ⟨S1x6144x128, .i8⟩
  | .local _ .vmem, ⟨7, _⟩ => ⟨S1x6144x128, .i8⟩
  | .local _ .vmem, ⟨8, _⟩ => ⟨S1x192x256, .i8⟩
  | .local _ .vmem, ⟨9, _⟩ => ⟨S1x192x256, .i8⟩
  | .local _ .vmem, ⟨10, _⟩ => ⟨S1x72x48, .f32⟩
  | .local _ .vmem, ⟨11, _⟩ => ⟨S1x72x48, .f32⟩
  | .local _ .vmem, ⟨12, _⟩ => ⟨S192x256, .i32⟩
  | .local _ .vmem, ⟨13, _⟩ => ⟨S192x128, .f32⟩
  | .local _ .vmem, ⟨14, _⟩ => ⟨S36x48x128, .f32⟩
  | .local _ .vmem, ⟨15, _⟩ => ⟨S2x72x128, .i32⟩
  | .local _ .vmem, ⟨16, _⟩ => ⟨S2x8x128, .i32⟩
  | .local _ .smem, ⟨0, _⟩ => ⟨S1x1x2x48, .f32⟩
  | .local _ .smem, ⟨1, _⟩ => ⟨S1x1x2x48, .f32⟩
  | .local _ .smem, ⟨2, _⟩ => ⟨S1x1x1x48, .f32⟩
  | .local _ .smem, ⟨3, _⟩ => ⟨S1x1x1x48, .f32⟩
  | .local _ .smem, ⟨4, _⟩ => ⟨S1x1x1x48, .f32⟩
  | .local _ .smem, ⟨5, _⟩ => ⟨S1x1x1x48, .f32⟩
  | _, _ => ⟨S5x8192x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg3_0 : Ref sig .tc := ⟨.smem, 0, rfl⟩
abbrev cc0_stg3_1 : Ref sig .tc := ⟨.smem, 1, rfl⟩
abbrev cc0_stg4_0 : Ref sig .tc := ⟨.smem, 2, rfl⟩
abbrev cc0_stg4_1 : Ref sig .tc := ⟨.smem, 3, rfl⟩
abbrev cc0_stg5_0 : Ref sig .tc := ⟨.smem, 4, rfl⟩
abbrev cc0_stg5_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![5, 36], ![false, false]⟩

def k0_cond1 (i : grid0.Coords) : BitVec 1 :=
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v11 : BitVec 1 := Scalar.cmpi .slt v9 c8_i32
  let v12 : BitVec 32 := Scalar.extui v11
  let c0_i32_3 : BitVec 32 := 0#32
  let v13 : BitVec 1 := Scalar.cmpi .ne v12 c0_i32_3
  v13

@[reducible] def k0_t1_loop : Scf.Loop 32 :=
  let c0_i32_18 : BitVec 32 := 0#32
  let c24_i32 : BitVec 32 := 24#32
  let v36 : BitVec 32 := Scalar.addi c0_i32_18 c24_i32
  let c1_i32_19 : BitVec 32 := 1#32
  ⟨c0_i32_18, v36, c1_i32_19⟩
def k0_mult1 (k0_t1 : Fin k0_t1_loop.trips) : BitVec 32 :=
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  v39
def k0_off1 (k0_t1 : Fin k0_t1_loop.trips) : Fin 3 → Nat :=
  let c0_23 : Index := 0#32
  let c0_24 : Index := 0#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  let v40 : BitVec 32 := v39
  let v41 : Index := Scalar.indexCast v40
  ![0, 0, v41.toNat]
def k0_off2 (k0_t1 : Fin k0_t1_loop.trips) : Fin 3 → Nat :=
  let c0_25 : Index := 0#32
  let c128 : Index := 128#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  let v40 : BitVec 32 := v39
  let v44 : Index := Scalar.indexCast v40
  ![0, 128, v44.toNat]
def k0_off3 (k0_t1 : Fin k0_t1_loop.trips) : Fin 3 → Nat :=
  let c0_26 : Index := 0#32
  let c64 : Index := 64#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  let v40 : BitVec 32 := v39
  let v50 : Index := Scalar.indexCast v40
  ![0, 64, v50.toNat]
def k0_off4 (k0_t1 : Fin k0_t1_loop.trips) : Fin 3 → Nat :=
  let c0_27 : Index := 0#32
  let c192 : Index := 192#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  let v40 : BitVec 32 := v39
  let v53 : Index := Scalar.indexCast v40
  ![0, 192, v53.toNat]
def k0_off5 (k0_t1 : Fin k0_t1_loop.trips) : Fin 4 → Nat :=
  let c0_28 : Index := 0#32
  let c0_29 : Index := 0#32
  let c0_30 : Index := 0#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c2_i32 : BitVec 32 := 2#32
  let v61 : BitVec 32 := Scalar.muli v38 c2_i32
  let v64 : Index := Scalar.indexCast v61
  ![0, 0, 0, v64.toNat]
def k0_off6 (k0_t1 : Fin k0_t1_loop.trips) : Fin 4 → Nat :=
  let c0_31 : Index := 0#32
  let c0_32 : Index := 0#32
  let c1_33 : Index := 1#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c2_i32 : BitVec 32 := 2#32
  let v61 : BitVec 32 := Scalar.muli v38 c2_i32
  let v71 : Index := Scalar.indexCast v61
  ![0, 0, 1, v71.toNat]
def k0_off7 (k0_t1 : Fin k0_t1_loop.trips) : Fin 4 → Nat :=
  let c0_37 : Index := 0#32
  let c0_38 : Index := 0#32
  let c0_39 : Index := 0#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c2_i32 : BitVec 32 := 2#32
  let v61 : BitVec 32 := Scalar.muli v38 c2_i32
  let c1_i32_36 : BitVec 32 := 1#32
  let v83 : BitVec 32 := Scalar.addi v61 c1_i32_36
  let v84 : Index := Scalar.indexCast v83
  ![0, 0, 0, v84.toNat]
def k0_off8 (k0_t1 : Fin k0_t1_loop.trips) : Fin 4 → Nat :=
  let c0_42 : Index := 0#32
  let c0_43 : Index := 0#32
  let c1_44 : Index := 1#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c2_i32 : BitVec 32 := 2#32
  let v61 : BitVec 32 := Scalar.muli v38 c2_i32
  let c1_i32_41 : BitVec 32 := 1#32
  let v91 : BitVec 32 := Scalar.addi v61 c1_i32_41
  let v92 : Index := Scalar.indexCast v91
  ![0, 0, 1, v92.toNat]
def k0_mult2 (k0_t1 : Fin k0_t1_loop.trips) : BitVec 32 :=
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32_413 : BitVec 32 := 256#32
  let v670 : BitVec 32 := Scalar.muli v38 c256_i32_413
  v670
def k0_off9 (k0_t1 : Fin k0_t1_loop.trips) : Fin 3 → Nat :=
  let c0_414 : Index := 0#32
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c256_i32_413 : BitVec 32 := 256#32
  let v670 : BitVec 32 := Scalar.muli v38 c256_i32_413
  let v671 : BitVec 32 := v670
  let v672 : Index := Scalar.indexCast v671
  let c0_415 : Index := 0#32
  ![0, v672.toNat, 0]
def k0_mult3 (k0_t1 : Fin k0_t1_loop.trips) : BitVec 32 :=
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c8_i32_431 : BitVec 32 := 8#32
  let v735 : BitVec 32 := Scalar.muli v38 c8_i32_431
  v735
def k0_off10 (k0_t1 : Fin k0_t1_loop.trips) : Fin 2 → Nat :=
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c8_i32_431 : BitVec 32 := 8#32
  let v735 : BitVec 32 := Scalar.muli v38 c8_i32_431
  let v736 : BitVec 32 := v735
  let v738 : Index := Scalar.indexCast v736
  let c0_432 : Index := 0#32
  ![v738.toNat, 0]
def k0_off11 (k0_t1 : Fin k0_t1_loop.trips) : Fin 2 → Nat :=
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c8_i32_431 : BitVec 32 := 8#32
  let v735 : BitVec 32 := Scalar.muli v38 c8_i32_431
  let v736 : BitVec 32 := v735
  let v792 : Index := Scalar.indexCast v736
  let c0_449 : Index := 0#32
  ![v792.toNat, 0]
def k0_off12 (k0_t1 : Fin k0_t1_loop.trips) : Fin 2 → Nat :=
  let c0_i32_22 : BitVec 32 := 0#32
  let c0_i32_18 : BitVec 32 := 0#32
  let c1_i32_19 : BitVec 32 := 1#32
  let arg16 : BitVec 32 := Scf.iv c0_i32_18 c1_i32_19 k0_t1
  let c1_i32_21 : BitVec 32 := 1#32
  let v37 : BitVec 32 := Scalar.muli arg16 c1_i32_21
  let v38 : BitVec 32 := Scalar.addi c0_i32_22 v37
  let c8_i32_431 : BitVec 32 := 8#32
  let v735 : BitVec 32 := Scalar.muli v38 c8_i32_431
  let v736 : BitVec 32 := v735
  let v799 : Index := Scalar.indexCast v736
  let c128_451 : Index := 128#32
  ![v799.toNat, 128]
def k0_cond2 (i : grid0.Coords) : BitVec 1 :=
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_4 : BitVec 32 := 8#32
  let v14 : BitVec 1 := Scalar.cmpi .eq v9 c8_i32_4
  let v15 : BitVec 32 := Scalar.extui v14
  let c0_i32_5 : BitVec 32 := 0#32
  let v16 : BitVec 1 := Scalar.cmpi .ne v15 c0_i32_5
  v16

@[reducible] def k0_t2_loop : Scf.Loop 32 :=
  let c0_i32_18 : BitVec 32 := 0#32
  let c24_i32 : BitVec 32 := 24#32
  let v36 : BitVec 32 := Scalar.addi c0_i32_18 c24_i32
  let c1_i32_19 : BitVec 32 := 1#32
  ⟨c0_i32_18, v36, c1_i32_19⟩
def k0_mult4 (k0_t2 : Fin k0_t2_loop.trips) : BitVec 32 :=
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  v39
def k0_off13 (k0_t2 : Fin k0_t2_loop.trips) : Fin 3 → Nat :=
  let c0_23 : Index := 0#32
  let c0_24 : Index := 0#32
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c256_i32 : BitVec 32 := 256#32
  let v39 : BitVec 32 := Scalar.muli v38 c256_i32
  let v40 : BitVec 32 := v39
  let v41 : Index := Scalar.indexCast v40
  ![0, 0, v41.toNat]
def k0_off14 (k0_t2 : Fin k0_t2_loop.trips) : Fin 4 → Nat :=
  let c0_36 : Index := 0#32
  let c0_37 : Index := 0#32
  let c0_38 : Index := 0#32
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c2_i32_34 : BitVec 32 := 2#32
  let v79 : BitVec 32 := Scalar.muli v38 c2_i32_34
  let v82 : Index := Scalar.indexCast v79
  ![0, 0, 0, v82.toNat]
def k0_off15 (k0_t2 : Fin k0_t2_loop.trips) : Fin 4 → Nat :=
  let c0_45 : Index := 0#32
  let c0_46 : Index := 0#32
  let c0_47 : Index := 0#32
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c2_i32_34 : BitVec 32 := 2#32
  let v79 : BitVec 32 := Scalar.muli v38 c2_i32_34
  let c1_i32_44 : BitVec 32 := 1#32
  let v101 : BitVec 32 := Scalar.addi v79 c1_i32_44
  let v102 : Index := Scalar.indexCast v101
  ![0, 0, 0, v102.toNat]
def k0_mult5 (k0_t2 : Fin k0_t2_loop.trips) : BitVec 32 :=
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c256_i32_421 : BitVec 32 := 256#32
  let v688 : BitVec 32 := Scalar.muli v38 c256_i32_421
  v688
def k0_off16 (k0_t2 : Fin k0_t2_loop.trips) : Fin 3 → Nat :=
  let c0_422 : Index := 0#32
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c256_i32_421 : BitVec 32 := 256#32
  let v688 : BitVec 32 := Scalar.muli v38 c256_i32_421
  let v689 : BitVec 32 := v688
  let v690 : Index := Scalar.indexCast v689
  let c0_423 : Index := 0#32
  ![0, v690.toNat, 0]
def k0_mult6 (k0_t2 : Fin k0_t2_loop.trips) : BitVec 32 :=
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c8_i32_439 : BitVec 32 := 8#32
  let v753 : BitVec 32 := Scalar.muli v38 c8_i32_439
  v753
def k0_off17 (k0_t2 : Fin k0_t2_loop.trips) : Fin 2 → Nat :=
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c8_i32_439 : BitVec 32 := 8#32
  let v753 : BitVec 32 := Scalar.muli v38 c8_i32_439
  let v754 : BitVec 32 := v753
  let v756 : Index := Scalar.indexCast v754
  let c0_440 : Index := 0#32
  ![v756.toNat, 0]
def k0_off18 (k0_t2 : Fin k0_t2_loop.trips) : Fin 2 → Nat :=
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c8_i32_439 : BitVec 32 := 8#32
  let v753 : BitVec 32 := Scalar.muli v38 c8_i32_439
  let v754 : BitVec 32 := v753
  let v810 : Index := Scalar.indexCast v754
  let c0_458 : Index := 0#32
  ![v810.toNat, 0]
def k0_off19 (k0_t2 : Fin k0_t2_loop.trips) : Fin 2 → Nat :=
  let c0_i32_22 : BitVec 32 := 0#32
  let c0_i32_18 : BitVec 32 := 0#32
  let c1_i32_19 : BitVec 32 := 1#32
  let arg16 : BitVec 32 := Scf.iv c0_i32_18 c1_i32_19 k0_t2
  let c1_i32_21 : BitVec 32 := 1#32
  let v37 : BitVec 32 := Scalar.muli arg16 c1_i32_21
  let v38 : BitVec 32 := Scalar.addi c0_i32_22 v37
  let c8_i32_439 : BitVec 32 := 8#32
  let v753 : BitVec 32 := Scalar.muli v38 c8_i32_439
  let v754 : BitVec 32 := v753
  let v817 : Index := Scalar.indexCast v754
  let c128 : Index := 128#32
  ![v817.toNat, 128]
def k0_off20 (i : grid0.Coords) : Fin 3 → Nat :=
  let arg1 : BitVec 32 := BitVec.ofNat 32 (i 1).val
  let v29 : Index := Scalar.indexCast arg1
  let c0_15 : Index := 0#32
  let c0_16 : Index := 0#32
  ![v29.toNat, 0, 0]
def k0_cond3 (i : grid0.Coords) : BitVec 1 :=
  let arg1 : BitVec 32 := BitVec.ofNat 32 (i 1).val
  let c35_i32 : BitVec 32 := 35#32
  let v33 : BitVec 1 := Scalar.cmpi .eq arg1 c35_i32
  let v34 : BitVec 32 := Scalar.extui v33
  let c0_i32_17 : BitVec 32 := 0#32
  let v35 : BitVec 1 := Scalar.cmpi .ne v34 c0_i32_17
  v35

@[reducible] def k0_t3_loop : Scf.Loop 32 :=
  let c0_i32_18 : BitVec 32 := 0#32
  let c36_i32 : BitVec 32 := 36#32
  let v36 : BitVec 32 := Scalar.addi c0_i32_18 c36_i32
  let c1_i32_19 : BitVec 32 := 1#32
  ⟨c0_i32_18, v36, c1_i32_19⟩
def k0_off21 (k0_t3 : Fin k0_t3_loop.trips) : Fin 3 → Nat :=
  let c0_i32_22 : BitVec 32 := 0#32
  let c0_i32_18 : BitVec 32 := 0#32
  let c1_i32_19 : BitVec 32 := 1#32
  let arg16 : BitVec 32 := Scf.iv c0_i32_18 c1_i32_19 k0_t3
  let c1_i32_21 : BitVec 32 := 1#32
  let v37 : BitVec 32 := Scalar.muli arg16 c1_i32_21
  let v38 : BitVec 32 := Scalar.addi c0_i32_22 v37
  let v39 : Index := Scalar.indexCast v38
  let c0_23 : Index := 0#32
  let c0_24 : Index := 0#32
  ![v39.toNat, 0, 0]
def k0_off22 (k0_t3 : Fin k0_t3_loop.trips) : Fin 3 → Nat :=
  let c0_27 : Index := 0#32
  let c2_i32 : BitVec 32 := 2#32
  let c0_i32_22 : BitVec 32 := 0#32
  let c0_i32_18 : BitVec 32 := 0#32
  let c1_i32_19 : BitVec 32 := 1#32
  let arg16 : BitVec 32 := Scf.iv c0_i32_18 c1_i32_19 k0_t3
  let c1_i32_21 : BitVec 32 := 1#32
  let v37 : BitVec 32 := Scalar.muli arg16 c1_i32_21
  let v38 : BitVec 32 := Scalar.addi c0_i32_22 v37
  let v53 : BitVec 32 := Scalar.muli c2_i32 v38
  let v54 : Index := Scalar.indexCast v53
  let c0_28 : Index := 0#32
  ![0, v54.toNat, 0]
def k0_off23 (k0_t3 : Fin k0_t3_loop.trips) : Fin 3 → Nat :=
  let c0_31 : Index := 0#32
  let c2_i32_29 : BitVec 32 := 2#32
  let c0_i32_22 : BitVec 32 := 0#32
  let c0_i32_18 : BitVec 32 := 0#32
  let c1_i32_19 : BitVec 32 := 1#32
  let arg16 : BitVec 32 := Scf.iv c0_i32_18 c1_i32_19 k0_t3
  let c1_i32_21 : BitVec 32 := 1#32
  let v37 : BitVec 32 := Scalar.muli arg16 c1_i32_21
  let v38 : BitVec 32 := Scalar.addi c0_i32_22 v37
  let v58 : BitVec 32 := Scalar.muli c2_i32_29 v38
  let c1_i32_30 : BitVec 32 := 1#32
  let v59 : BitVec 32 := Scalar.addi v58 c1_i32_30
  let v60 : Index := Scalar.indexCast v59
  let c0_32 : Index := 0#32
  ![0, v60.toNat, 0]
def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.minsi v27 c7_i32
  let v29 : BitVec 32 := Scalar.addi v17 v28
  let c0_i32_10 : BitVec 32 := 0#32
  let c0_i32_11 : BitVec 32 := 0#32
  ![arg0.toNat, v29.toNat, c0_i32_10.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.minsi v27 c7_i32
  let v29 : BitVec 32 := Scalar.addi v17 v28
  let c0_i32_10 : BitVec 32 := 0#32
  let c0_i32_11 : BitVec 32 := 0#32
  let c0_i32_12 : BitVec 32 := 0#32
  ![arg0.toNat, v29.toNat, c0_i32_10.toNat, c0_i32_11.toNat]

def cc0_transform_4 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x6144 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x6144 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .smem S1x1x2x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .smem S1x1x1x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .smem S1x1x1x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6144x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x72x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S5x8192x6144 : Shape := ⟨3, ![5, 8192, 6144]⟩
abbrev S5x64x48 : Shape := ⟨3, ![5, 64, 48]⟩
abbrev S5x512x6144 : Shape := ⟨3, ![5, 512, 6144]⟩
abbrev S5x4x48 : Shape := ⟨3, ![5, 4, 48]⟩
abbrev S5x6144x4608 : Shape := ⟨3, ![5, 6144, 4608]⟩
abbrev S5x192x9216 : Shape := ⟨3, ![5, 192, 9216]⟩
abbrev S5x72x48 : Shape := ⟨3, ![5, 72, 48]⟩
abbrev S5x4x16x2x64x6144 : Shape := ⟨6, ![5, 4, 16, 2, 64, 6144]⟩
abbrev S5x4x1x2x64x6144 : Shape := ⟨6, ![5, 4, 1, 2, 64, 6144]⟩
abbrev S5x4x1x64x2x6144 : Shape := ⟨6, ![5, 4, 1, 64, 2, 6144]⟩
abbrev S5x4x18x2x64x6144 : Shape := ⟨6, ![5, 4, 18, 2, 64, 6144]⟩
abbrev S5x6144x2x4x18x64 : Shape := ⟨6, ![5, 6144, 2, 4, 18, 64]⟩
abbrev S5x6144x2x4608 : Shape := ⟨4, ![5, 6144, 2, 4608]⟩
abbrev S5x64x1x48 : Shape := ⟨4, ![5, 64, 1, 48]⟩
abbrev S5x64x128x48 : Shape := ⟨4, ![5, 64, 128, 48]⟩
abbrev S5x8192x48 : Shape := ⟨3, ![5, 8192, 48]⟩
abbrev S5x4x1x48 : Shape := ⟨4, ![5, 4, 1, 48]⟩
abbrev S5x4x128x48 : Shape := ⟨4, ![5, 4, 128, 48]⟩
abbrev S5x512x48 : Shape := ⟨3, ![5, 512, 48]⟩
abbrev S5x4x16x2x64x48 : Shape := ⟨6, ![5, 4, 16, 2, 64, 48]⟩
abbrev S5x4x1x2x64x48 : Shape := ⟨6, ![5, 4, 1, 2, 64, 48]⟩
abbrev S5x4x1x64x2x48 : Shape := ⟨6, ![5, 4, 1, 64, 2, 48]⟩
abbrev S5x4x18x2x64x48 : Shape := ⟨6, ![5, 4, 18, 2, 64, 48]⟩
abbrev S5x48x2x4x18x64 : Shape := ⟨6, ![5, 48, 2, 4, 18, 64]⟩
abbrev S5x48x2x4608 : Shape := ⟨4, ![5, 48, 2, 4608]⟩
abbrev S5x48x128x2x4608 : Shape := ⟨5, ![5, 48, 128, 2, 4608]⟩
abbrev S5x48x1x2x4608 : Shape := ⟨5, ![5, 48, 1, 2, 4608]⟩
abbrev S5x192x32x2x4608 : Shape := ⟨5, ![5, 192, 32, 2, 4608]⟩
abbrev S5x192x2x4608 : Shape := ⟨4, ![5, 192, 2, 4608]⟩
abbrev S5x192x1x2x4608 : Shape := ⟨5, ![5, 192, 1, 2, 4608]⟩
abbrev S5x192x32x1x4608 : Shape := ⟨5, ![5, 192, 32, 1, 4608]⟩
abbrev S5x192x32x4608 : Shape := ⟨4, ![5, 192, 32, 4608]⟩
abbrev S5x192x4608x2 : Shape := ⟨4, ![5, 192, 4608, 2]⟩
abbrev S5x48x128x2x72x64 : Shape := ⟨6, ![5, 48, 128, 2, 72, 64]⟩
abbrev S5x48x72 : Shape := ⟨3, ![5, 48, 72]⟩

abbrev nBuf : Space → Nat
  | .hbm => 9
  | .vmem => 9
  | .smem => 0
  | _ => 0

abbrev bufTy : (tb : Table) → Fin (tcTables nBuf tb) → BufTy
  | .hbm, ⟨0, _⟩ => ⟨S5x8192x6144, .i8⟩
  | .hbm, ⟨1, _⟩ => ⟨S5x64x48, .f32⟩
  | .hbm, ⟨2, _⟩ => ⟨S5x512x6144, .i8⟩
  | .hbm, ⟨3, _⟩ => ⟨S5x4x48, .f32⟩
  | .hbm, ⟨4, _⟩ => ⟨S5x512x6144, .i8⟩
  | .hbm, ⟨5, _⟩ => ⟨S5x4x48, .f32⟩
  | .hbm, ⟨6, _⟩ => ⟨S5x6144x4608, .i8⟩
  | .hbm, ⟨7, _⟩ => ⟨S5x192x9216, .i8⟩
  | .hbm, ⟨8, _⟩ => ⟨S5x72x48, .f32⟩
  | .local _ .vmem, ⟨0, _⟩ => ⟨S5x8192x6144, .i8⟩
  | .local _ .vmem, ⟨1, _⟩ => ⟨S5x64x48, .f32⟩
  | .local _ .vmem, ⟨2, _⟩ => ⟨S5x512x6144, .i8⟩
  | .local _ .vmem, ⟨3, _⟩ => ⟨S5x4x48, .f32⟩
  | .local _ .vmem, ⟨4, _⟩ => ⟨S5x512x6144, .i8⟩
  | .local _ .vmem, ⟨5, _⟩ => ⟨S5x4x48, .f32⟩
  | .local _ .vmem, ⟨6, _⟩ => ⟨S5x6144x4608, .i8⟩
  | .local _ .vmem, ⟨7, _⟩ => ⟨S5x192x9216, .i8⟩
  | .local _ .vmem, ⟨8, _⟩ => ⟨S5x72x48, .f32⟩
  | _, _ => ⟨S5x8192x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5x8192x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x64x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x512x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x4x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x512x6144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x4x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x6144x4608 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x192x9216 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x72x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.RefRun.lean ====
/- What the reference's kernel leaves in its three result arrays, as functions of the argument arrays: the kernel has
   one grid point and every window's block is its whole array. -/
module

public import proofs.«01_k».proof.Proof.Gen.ReferenceIdeal.Frame
public import Idealize.ShloMosaic.Lib.Pipeline.Value

@[expose] public section

noncomputable section

namespace Cert.Proof.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S5x8192x6144.Idx) : ((cfg0.win 0).blk t).view.emb j = j := by
  obtain ⟨e0, e1, e2⟩ := idx_zero0 t
  funext a; apply Fin.ext
  match a with
  | ⟨0, _⟩ => show win0_0.index t (0 : Fin 3) * 5 + 1 * (j 0).val = (j 0).val; omega
  | ⟨1, _⟩ => show win0_0.index t (1 : Fin 3) * 8192 + 1 * (j 1).val = (j 1).val; omega
  | ⟨2, _⟩ => show win0_0.index t (2 : Fin 3) * 6144 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S5x64x48.Idx) : ((cfg0.win 1).blk t).view.emb j = j := by
  obtain ⟨e0, e1, e2⟩ := idx_zero1 t
  funext a; apply Fin.ext
  match a with
  | ⟨0, _⟩ => show win0_1.index t (0 : Fin 3) * 5 + 1 * (j 0).val = (j 0).val; omega
  | ⟨1, _⟩ => show win0_1.index t (1 : Fin 3) * 64 + 1 * (j 1).val = (j 1).val; omega
  | ⟨2, _⟩ => show win0_1.index t (2 : Fin 3) * 48 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S5x512x6144.Idx) : ((cfg0.win 2).blk t).view.emb j = j := by
  obtain ⟨e0, e1, e2⟩ := idx_zero2 t
  funext a; apply Fin.ext
  match a with
  | ⟨0, _⟩ => show win0_2.index t (0 : Fin 3) * 5 + 1 * (j 0).val = (j 0).val; omega
  | ⟨1, _⟩ => show win0_2.index t (1 : Fin 3) * 512 + 1 * (j 1).val = (j 1).val; omega
  | ⟨2, _⟩ => show win0_2.index t (2 : Fin 3) * 6144 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S5x4x48.Idx) : ((cfg0.win 3).blk t).view.emb j = j := by
  obtain ⟨e0, e1, e2⟩ := idx_zero3 t
  funext a; apply Fin.ext
  match a with
  | ⟨0, _⟩ => show win0_3.index t (0 : Fin 3) * 5 + 1 * (j 0).val = (j 0).val; omega
  | ⟨1, _⟩ => show win0_3.index t (1 : Fin 3) * 4 + 1 * (j 1).val = (j 1).val; omega
  | ⟨2, _⟩ => show win0_3.index t (2 : Fin 3) * 48 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S5x512x6144.Idx) : ((cfg0.win 4).blk t).view.emb j = j := by
  obtain ⟨e0, e1, e2⟩ := idx_zero4 t
  funext a; apply Fin.ext
  match a with
  | ⟨0, _⟩ => show win0_4.index t (0 : Fin 3) * 5 + 1 * (j 0).val = (j 0).val; omega
  | ⟨1, _⟩ => show win0_4.index t (1 : Fin 3) * 512 + 1 * (j 1).val = (j 1).val; omega
  | ⟨2, _⟩ => show win0_4.index t (2 : Fin 3) * 6144 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S5x4x48.Idx) : ((cfg0.win 5).blk t).view.emb j = j := by
  obtain ⟨e0, e1, e2⟩ := idx_zero5 t
  funext a; apply Fin.ext
  match a with
  | ⟨0, _⟩ => show win0_5.index t (0 : Fin 3) * 5 + 1 * (j 0).val = (j 0).val; omega
  | ⟨1, _⟩ => show win0_5.index t (1 : Fin 3) * 4 + 1 * (j 1).val = (j 1).val; omega
  | ⟨2, _⟩ => show win0_5.index t (2 : Fin 3) * 48 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S5x6144x4608.Idx) : ((cfg0.win 6).blk t).view.emb j = j := by
  obtain ⟨e0, e1, e2⟩ := idx_zero6 t
  funext a; apply Fin.ext
  match a with
  | ⟨0, _⟩ => show win0_6.index t (0 : Fin 3) * 5 + 1 * (j 0).val = (j 0).val; omega
  | ⟨1, _⟩ => show win0_6.index t (1 : Fin 3) * 6144 + 1 * (j 1).val = (j 1).val; omega
  | ⟨2, _⟩ => show win0_6.index t (2 : Fin 3) * 4608 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S5x192x9216.Idx) : ((cfg0.win 7).blk t).view.emb j = j := by
  obtain ⟨e0, e1, e2⟩ := idx_zero7 t
  funext a; apply Fin.ext
  match a with
  | ⟨0, _⟩ => show win0_7.index t (0 : Fin 3) * 5 + 1 * (j 0).val = (j 0).val; omega
  | ⟨1, _⟩ => show win0_7.index t (1 : Fin 3) * 192 + 1 * (j 1).val = (j 1).val; omega
  | ⟨2, _⟩ => show win0_7.index t (2 : Fin 3) * 9216 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S5x72x48.Idx) : ((cfg0.win 8).blk t).view.emb j = j := by
  obtain ⟨e0, e1, e2⟩ := idx_zero8 t
  funext a; apply Fin.ext
  match a with
  | ⟨0, _⟩ => show win0_8.index t (0 : Fin 3) * 5 + 1 * (j 0).val = (j 0).val; omega
  | ⟨1, _⟩ => show win0_8.index t (1 : Fin 3) * 72 + 1 * (j 1).val = (j 1).val; omega
  | ⟨2, _⟩ => show win0_8.index t (2 : Fin 3) * 48 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S5x8192x6144 .i8) (a1 : Vec F S5x64x48 .f32) (a2 : Vec F S5x512x6144 .i8) (a3 : Vec F S5x4x48 .f32) (a4 : Vec F S5x512x6144 .i8) (a5 : Vec F S5x4x48 .f32) : Vec F S5x6144x4608 .i8 :=
  k0_pay11 (k0_pay17 a0 a1 a2 a3 a4 a5) (k0_pay19 a0 a1 a2 a3 a4 a5) (k0_pay20 a0 a1 a2 a3 a4 a5) (k0_pay21 a0 a1 a2 a3 a4 a5)

/-- The one store through the whole rectangle leaves its payload. -/
theorem out6_eq (a0 : Vec F S5x8192x6144 .i8) (a1 : Vec F S5x64x48 .f32) (a2 : Vec F S5x512x6144 .i8) (a3 : Vec F S5x4x48 .f32) (a4 : Vec F S5x512x6144 .i8) (a5 : Vec F S5x4x48 .f32) : out0_6 (F := F) a0 a1 a2 a3 a4 a5 = G6 a0 a1 a2 a3 a4 a5 := by
  unfold out0_6
  rw [View.canon_unit_zero hz6]

/-- Cutting the point's block out of `X` and reading `X` through the block's view give the same. -/
theorem cut6_eq (t : Fin cfg0.N) (X : Vec F S5x6144x4608 .i8) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S5x6144x4608.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S5x8192x6144 .i8) (a1 : Vec F S5x64x48 .f32) (a2 : Vec F S5x512x6144 .i8) (a3 : Vec F S5x4x48 .f32) (a4 : Vec F S5x512x6144 .i8) (a5 : Vec F S5x4x48 .f32) : Vec F S5x192x9216 .i8 :=
  k0_pay12 (k0_pay18 a0 a1 a2 a3 a4 a5)

/-- The one store through the whole rectangle leaves its payload. -/
theorem out7_eq (a0 : Vec F S5x8192x6144 .i8) (a1 : Vec F S5x64x48 .f32) (a2 : Vec F S5x512x6144 .i8) (a3 : Vec F S5x4x48 .f32) (a4 : Vec F S5x512x6144 .i8) (a5 : Vec F S5x4x48 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S5x192x9216 .i8) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S5x192x9216.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S5x8192x6144 .i8) (a1 : Vec F S5x64x48 .f32) (a2 : Vec F S5x512x6144 .i8) (a3 : Vec F S5x4x48 .f32) (a4 : Vec F S5x512x6144 .i8) (a5 : Vec F S5x4x48 .f32) : Vec F S5x72x48 .f32 :=
  k0_pay1 (k0_pay17 a0 a1 a2 a3 a4 a5) (k0_pay9 (k0_pay17 a0 a1 a2 a3 a4 a5) (k0_pay19 a0 a1 a2 a3 a4 a5) (k0_pay20 a0 a1 a2 a3 a4 a5) (k0_pay21 a0 a1 a2 a3 a4 a5)) (k0_pay10 (k0_pay18 a0 a1 a2 a3 a4 a5)) (k0_pay13 (k0_pay17 a0 a1 a2 a3 a4 a5) (k0_pay19 a0 a1 a2 a3 a4 a5) (k0_pay20 a0 a1 a2 a3 a4 a5) (k0_pay21 a0 a1 a2 a3 a4 a5)) (k0_pay14 (k0_pay17 a0 a1 a2 a3 a4 a5) (k0_pay19 a0 a1 a2 a3 a4 a5) (k0_pay20 a0 a1 a2 a3 a4 a5) (k0_pay21 a0 a1 a2 a3 a4 a5)) (k0_pay15 (k0_pay17 a0 a1 a2 a3 a4 a5) (k0_pay19 a0 a1 a2 a3 a4 a5) (k0_pay20 a0 a1 a2 a3 a4 a5) (k0_pay21 a0 a1 a2 a3 a4 a5))

/-- The one store through the whole rectangle leaves its payload. -/
theorem out8_eq (a0 : Vec F S5x8192x6144 .i8) (a1 : Vec F S5x64x48 .f32) (a2 : Vec F S5x512x6144 .i8) (a3 : Vec F S5x4x48 .f32) (a4 : Vec F S5x512x6144 .i8) (a5 : Vec F S5x4x48 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S5x72x48 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S5x72x48.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.Proof.RefRun

end
-- ==== Proof.TripI.lean ====
/- One trip of each of the two chunk loops. -/
module

public import proofs.«01_k».proof.Proof.Gen.KernelIdeal.Frame
public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.squeezeSlice true in
/-- One trip of the chunk loop `k0_t1_loop`: the pieces it writes into the codes block, the scale-byte scratch, the error
    scratch and the two strided scratches, from the blocks it reads and what the strided scratches held. -/
@[irreducible] def trip1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) :
    { L : List (View.Piece (Elt F) S1x6144x128 .i8) × List (View.Piece (Elt F) S192x256 .i32) × List (View.Piece (Elt F) S192x128 .f32)
        × List (View.Piece (Elt F) S2x72x128 .i32) × List (View.Piece (Elt F) S2x8x128 .i32) //
      ∀ (E : Set ℕ) (f8 : BufTy.Contents (Elt F) arg8.view.ty) (f11 : BufTy.Contents (Elt F) arg11.view.ty) (f12 : BufTy.Contents (Elt F) arg12.view.ty)
        (f14 : BufTy.Contents (Elt F) arg14.view.ty) (f15 : BufTy.Contents (Elt F) arg15.view.ty),
      (iprop((arg2.view.loc (c : Thread nD τ) ↦[arg2.view.set]{fullShare} X2) ∗ (arg5.view.loc (c : Thread nD τ) ↦[arg5.view.set]{fullShare} X5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k0_h1 k ())
          (fun _ => iprop((arg2.view.loc (c : Thread nD τ) ↦[arg2.view.set]{fullShare} X2) ∗ (arg5.view.loc (c : Thread nD τ) ↦[arg5.view.set]{fullShare} X5) ∗ (arg8.view.loc (c : Thread nD τ) ↦[arg8.view.set]{fullShare} arg8.view.writes (Elt F) f8 L.1) ∗ (arg11.view.loc (c : Thread nD τ) ↦[arg11.view.set]{fullShare} arg11.view.writes (Elt F) f11 L.2.1) ∗ (arg12.view.loc (c : Thread nD τ) ↦[arg12.view.set]{fullShare} arg12.view.writes (Elt F) f12 L.2.2.1) ∗ (arg14.view.loc (c : Thread nD τ) ↦[arg14.view.set]{fullShare} arg14.view.writes (Elt F) f14 L.2.2.2.1) ∗ (arg15.view.loc (c : Thread nD τ) ↦[arg15.view.set]{fullShare} arg15.view.writes (Elt F) f15 L.2.2.2.2))) } := by
  have hk : k.val < 24 := Nat.lt_of_lt_of_le k.isLt k0_t1_abs.2.1
  refine ⟨⟨?_, ?_, ?_, ?_, ?_⟩, fun E f8 f11 f12 f14 f15 => ?run⟩
  case run =>
    unfold k0_t1_body
    iintro ⟨HR2, HR5, H8, H11, H12, H14, H15⟩
    sl_exec
    sl_step
    sl_close

set_option sl_exec.squeezeSlice true in
/-- One trip of the chunk loop `k0_t2_loop`: the pieces it writes into the codes block, the scale-byte scratch, the error
    scratch and the two strided scratches, from the blocks it reads and what the strided scratches held. -/
@[irreducible] def trip2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) :
    { L : List (View.Piece (Elt F) S1x6144x128 .i8) × List (View.Piece (Elt F) S192x256 .i32) × List (View.Piece (Elt F) S192x128 .f32)
        × List (View.Piece (Elt F) S2x72x128 .i32) × List (View.Piece (Elt F) S2x8x128 .i32) //
      ∀ (E : Set ℕ) (f8 : BufTy.Contents (Elt F) arg8.view.ty) (f11 : BufTy.Contents (Elt F) arg11.view.ty) (f12 : BufTy.Contents (Elt F) arg12.view.ty)
        (f14 : BufTy.Contents (Elt F) arg14.view.ty) (f15 : BufTy.Contents (Elt F) arg15.view.ty),
      (iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v10 k0_h2 k ())
          (fun _ => iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg11.view.loc (c : Thread nD τ) ↦[arg11.view.set]{fullShare} arg11.view.writes (Elt F) f11 L.2.1) ∗ (arg12.view.loc (c : Thread nD τ) ↦[arg12.view.set]{fullShare} arg12.view.writes (Elt F) f12 L.2.2.1) ∗ (arg14.view.loc (c : Thread nD τ) ↦[arg14.view.set]{fullShare} arg14.view.writes (Elt F) f14 L.2.2.2.1) ∗ (arg15.view.loc (c : Thread nD τ) ↦[arg15.view.set]{fullShare} arg15.view.writes (Elt F) f15 L.2.2.2.2))) } := by
  have hk : k.val < 24 := Nat.lt_of_lt_of_le k.isLt k0_t2_abs.2.1
  refine ⟨⟨?_, ?_, ?_, ?_, ?_⟩, fun E f8 f11 f12 f14 f15 => ?run⟩
  case run =>
    unfold k0_t2_body
    iintro ⟨HR3, HR4, HR6, HR7, H8, H11, H12, H14, H15⟩
    sl_exec
    sl_step
    sl_close

end Cert.Proof.KernelIdeal

end
-- ==== Proof.LoopI.lean ====
/- The two chunk loops by their invariants. -/
module

public import proofs.«01_k».proof.Proof.TripI

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces written into the codes block, the scale-byte scratch and the error scratch. -/
abbrev Pieces (F : FTy → Type) : Type :=
  List (View.Piece (Elt F) S1x6144x128 .i8) × List (View.Piece (Elt F) S192x256 .i32) × List (View.Piece (Elt F) S192x128 .f32)

/-- Trip `k`'s pieces in front of those before it. -/
@[irreducible] def pb1Step (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : ℕ) (prev : Pieces F) : Pieces F :=
  if h : k < k0_t1_loop.trips then
    ((trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨k, h⟩).1.1 ++ prev.1, (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨k, h⟩).1.2.1 ++ prev.2.1, (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨k, h⟩).1.2.2.1 ++ prev.2.2)
  else prev

/-- The pieces of the trips before `k`, the last first. -/
def pb1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) : ℕ → Pieces F
  | 0 => ([], [], [])
  | k + 1 => pb1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k)

/-- One more trip puts its pieces in front. -/
theorem pb1_succ (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) :
    pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 (k.val + 1) = ((trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.1 ++ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k.val).1, (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.2.1 ++ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k.val).2.1,
      (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.2.2.1 ++ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k.val).2.2) := by
  rw [pb1.eq_2]; unfold pb1Step; exact dif_pos k.isLt

/-- The invariant of `k0_t1_loop` before trip `k`: the inputs as they are, the three written buffers at the pieces so far, the two
    strided scratches at anything. -/
abbrev inv1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (G8 : BufTy.Contents (Elt F) arg8.view.ty) (G11 : BufTy.Contents (Elt F) arg11.view.ty) (G12 : BufTy.Contents (Elt F) arg12.view.ty) (k : ℕ) (_u : PUnit) : sProp 𝕄 :=
  iprop((arg2.view.loc (c : Thread nD τ) ↦[arg2.view.set]{fullShare} X2) ∗ (arg5.view.loc (c : Thread nD τ) ↦[arg5.view.set]{fullShare} X5) ∗ (∃ f, (arg8.view.loc (c : Thread nD τ) ↦[arg8.view.set]{fullShare} f) ∗ ⌜f = arg8.view.writes (Elt F) G8 (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1⌝)
    ∗ (∃ f, (arg11.view.loc (c : Thread nD τ) ↦[arg11.view.set]{fullShare} f) ∗ ⌜f = arg11.view.writes (Elt F) G11 (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).2.1⌝)
    ∗ (∃ f, (arg12.view.loc (c : Thread nD τ) ↦[arg12.view.set]{fullShare} f) ∗ ⌜f = arg12.view.writes (Elt F) G12 (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).2.2⌝)
    ∗ (∃ f, (arg14.view.loc (c : Thread nD τ) ↦[arg14.view.set]{fullShare} f)) ∗ (∃ f, (arg15.view.loc (c : Thread nD τ) ↦[arg15.view.set]{fullShare} f)))

set_option warn.classDefReducibility false in
/-- `k0_t1_loop` by its invariant. -/
@[sl_loop] def loopInv1 (𝒱 : Variants) (c : Dev nD) (bd : Option 𝒱.V) (E : Set ℕ) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (G8 : BufTy.Contents (Elt F) arg8.view.ty) (G11 : BufTy.Contents (Elt F) arg11.view.ty) (G12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 k0_h1 where
  inv := inv1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 G8 G11 G12
  step k acc := by
    iintro ⟨HR2, HR5, ⟨%f8, H8, %h8⟩, ⟨%f11, H11, %h11⟩, ⟨%f12, H12, %h12⟩, ⟨%f14, H14⟩, ⟨%f15, H15⟩⟩
    iapply (wp_wand_r Idealize.ShloMosaic.frame (wpE (defs₀ (F := F)) 𝒱 (c : Thread nD τ) bd) E)
    isplitl [HR2 HR5 H8 H11 H12 H14 H15]
    · iapply ((trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).2 E f8 f11 f12 f14 f15)
      isplitl [HR2]; · iexact HR2
      isplitl [HR5]; · iexact HR5
      isplitl [H8]; · iexact H8
      isplitl [H11]; · iexact H11
      isplitl [H12]; · iexact H12
      isplitl [H14]; · iexact H14
      iexact H15
    · iintro %_ ⟨HR2, HR5, H8, H11, H12, H14, H15⟩
      isplitl [HR2]; · iexact HR2
      isplitl [HR5]; · iexact HR5
      rw [pb1_succ]
      isplitl [H8]
      · iexists _; isplitl [H8]; · iexact H8
        ipureintro; rw [h8, ← View.writes_append]
      isplitl [H11]
      · iexists _; isplitl [H11]; · iexact H11
        ipureintro; rw [h11, ← View.writes_append]
      isplitl [H12]
      · iexists _; isplitl [H12]; · iexact H12
        ipureintro; rw [h12, ← View.writes_append]
      isplitl [H14]; · iexists _; iexact H14
      iexists _; iexact H15

/-- Trip `k`'s pieces in front of those before it. -/
@[irreducible] def pb2Step (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : ℕ) (prev : Pieces F) : Pieces F :=
  if h : k < k0_t2_loop.trips then
    ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨k, h⟩).1.1 ++ prev.1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨k, h⟩).1.2.1 ++ prev.2.1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨k, h⟩).1.2.2.1 ++ prev.2.2)
  else prev

/-- The pieces of the trips before `k`, the last first. -/
def pb2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) : ℕ → Pieces F
  | 0 => ([], [], [])
  | k + 1 => pb2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k)

/-- One more trip puts its pieces in front. -/
theorem pb2_succ (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) :
    pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 (k.val + 1) = ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.1 ++ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k.val).1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.2.1 ++ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k.val).2.1,
      (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.2.2.1 ++ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k.val).2.2) := by
  rw [pb2.eq_2]; unfold pb2Step; exact dif_pos k.isLt

/-- The invariant of `k0_t2_loop` before trip `k`: the inputs as they are, the three written buffers at the pieces so far, the two
    strided scratches at anything. -/
abbrev inv2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (G8 : BufTy.Contents (Elt F) arg8.view.ty) (G11 : BufTy.Contents (Elt F) arg11.view.ty) (G12 : BufTy.Contents (Elt F) arg12.view.ty) (k : ℕ) (_u : PUnit) : sProp 𝕄 :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜f = arg8.view.writes (Elt F) G8 (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1⌝)
    ∗ (∃ f, (arg11.view.loc (c : Thread nD τ) ↦[arg11.view.set]{fullShare} f) ∗ ⌜f = arg11.view.writes (Elt F) G11 (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).2.1⌝)
    ∗ (∃ f, (arg12.view.loc (c : Thread nD τ) ↦[arg12.view.set]{fullShare} f) ∗ ⌜f = arg12.view.writes (Elt F) G12 (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).2.2⌝)
    ∗ (∃ f, (arg14.view.loc (c : Thread nD τ) ↦[arg14.view.set]{fullShare} f)) ∗ (∃ f, (arg15.view.loc (c : Thread nD τ) ↦[arg15.view.set]{fullShare} f)))

set_option warn.classDefReducibility false in
/-- `k0_t2_loop` by its invariant. -/
@[sl_loop] def loopInv2 (𝒱 : Variants) (c : Dev nD) (bd : Option 𝒱.V) (E : Set ℕ) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (G8 : BufTy.Contents (Elt F) arg8.view.ty) (G11 : BufTy.Contents (Elt F) arg11.view.ty) (G12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v10 k0_h2 where
  inv := inv2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 G8 G11 G12
  step k acc := by
    iintro ⟨HR3, HR4, HR6, HR7, ⟨%f8, H8, %h8⟩, ⟨%f11, H11, %h11⟩, ⟨%f12, H12, %h12⟩, ⟨%f14, H14⟩, ⟨%f15, H15⟩⟩
    iapply (wp_wand_r Idealize.ShloMosaic.frame (wpE (defs₀ (F := F)) 𝒱 (c : Thread nD τ) bd) E)
    isplitl [HR3 HR4 HR6 HR7 H8 H11 H12 H14 H15]
    · iapply ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).2 E f8 f11 f12 f14 f15)
      isplitl [HR3]; · iexact HR3
      isplitl [HR4]; · iexact HR4
      isplitl [HR6]; · iexact HR6
      isplitl [HR7]; · iexact HR7
      isplitl [H8]; · iexact H8
      isplitl [H11]; · iexact H11
      isplitl [H12]; · iexact H12
      isplitl [H14]; · iexact H14
      iexact H15
    · iintro %_ ⟨HR3, HR4, HR6, HR7, H8, H11, H12, H14, H15⟩
      isplitl [HR3]; · iexact HR3
      isplitl [HR4]; · iexact HR4
      isplitl [HR6]; · iexact HR6
      isplitl [HR7]; · iexact HR7
      rw [pb2_succ]
      isplitl [H8]
      · iexists _; isplitl [H8]; · iexact H8
        ipureintro; rw [h8, ← View.writes_append]
      isplitl [H11]
      · iexists _; isplitl [H11]; · iexact H11
        ipureintro; rw [h11, ← View.writes_append]
      isplitl [H12]
      · iexists _; isplitl [H12]; · iexact H12
        ipureintro; rw [h12, ← View.writes_append]
      isplitl [H14]; · iexists _; iexact H14
      iexists _; iexact H15

end Cert.Proof.KernelIdeal

end
-- ==== Proof.BodyI.lean ====
/- The kernel body at one grid point. -/
module

public import proofs.«01_k».proof.Proof.LoopI

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a grid point of two query heads: what it writes into the codes block, the scale block, the table of errors. -/
@[irreducible] def bodyA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (k0_h2 : k0_cond2 i ≠ 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f11 : BufTy.Contents (Elt F) arg11.view.ty) (f12 : BufTy.Contents (Elt F) arg12.view.ty) (f13 : BufTy.Contents (Elt F) arg13.view.ty) :
    { L : List (View.Piece (Elt F) S1x6144x128 .i8) × List (View.Piece (Elt F) S1x192x256 .i8) × List (View.Piece (Elt F) S36x48x128 .f32) × List (View.Piece (Elt F) S1x72x48 .f32) //
      ∀ (E : Set ℕ) (f9 : BufTy.Contents (Elt F) arg9.view.ty) (f10 : BufTy.Contents (Elt F) arg10.view.ty)
        (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg9.view.loc (c : Thread nD τ) ↦[arg9.view.set]{fullShare} arg9.view.writes (Elt F) f9 L.2.1) ∗ (arg10.view.loc (c : Thread nD τ) ↦[arg10.view.set]{fullShare} f10)
            ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L.2.2.1) ∗ (∃ f, (arg14.view.loc (c : Thread nD τ) ↦[arg14.view.set]{fullShare} f)) ∗ (∃ f, (arg15.view.loc (c : Thread nD τ) ↦[arg15.view.set]{fullShare} f)))) } := by
  refine ⟨⟨?_, ?_, ?_, []⟩, fun E f9 f10 f14 f15 => ?run⟩
  case run =>
    rw [cc0_qkv_mxfp4_eq_skeleton]; unfold cc0_qkv_mxfp4_skel
    iintro ⟨H2, H3, H4, H5, H6, H7, H8, H9, H10, H11, H12, H13, H14, H15⟩
    sl_exec
    sl_step
    sl_close

/-- The body at a grid point of a key and a value head that is not the last of its batch: what it writes into the codes block, the scale block, the table of errors. -/
@[irreducible] def bodyB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f11 : BufTy.Contents (Elt F) arg11.view.ty) (f12 : BufTy.Contents (Elt F) arg12.view.ty) (f13 : BufTy.Contents (Elt F) arg13.view.ty) :
    { L : List (View.Piece (Elt F) S1x6144x128 .i8) × List (View.Piece (Elt F) S1x192x256 .i8) × List (View.Piece (Elt F) S36x48x128 .f32) × List (View.Piece (Elt F) S1x72x48 .f32) //
      ∀ (E : Set ℕ) (f9 : BufTy.Contents (Elt F) arg9.view.ty) (f10 : BufTy.Contents (Elt F) arg10.view.ty)
        (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg9.view.loc (c : Thread nD τ) ↦[arg9.view.set]{fullShare} arg9.view.writes (Elt F) f9 L.2.1) ∗ (arg10.view.loc (c : Thread nD τ) ↦[arg10.view.set]{fullShare} f10)
            ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L.2.2.1) ∗ (∃ f, (arg14.view.loc (c : Thread nD τ) ↦[arg14.view.set]{fullShare} f)) ∗ (∃ f, (arg15.view.loc (c : Thread nD τ) ↦[arg15.view.set]{fullShare} f)))) } := by
  refine ⟨⟨?_, ?_, ?_, []⟩, fun E f9 f10 f14 f15 => ?run⟩
  case run =>
    rw [cc0_qkv_mxfp4_eq_skeleton]; unfold cc0_qkv_mxfp4_skel
    iintro ⟨H2, H3, H4, H5, H6, H7, H8, H9, H10, H11, H12, H13, H14, H15⟩
    sl_exec
    sl_step
    sl_close

/-- The body at a grid point that is the last of its batch: what it writes into the codes block, the scale block, the table of errors and the error block. -/
@[irreducible] def bodyC (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f11 : BufTy.Contents (Elt F) arg11.view.ty) (f12 : BufTy.Contents (Elt F) arg12.view.ty) (f13 : BufTy.Contents (Elt F) arg13.view.ty) :
    { L : List (View.Piece (Elt F) S1x6144x128 .i8) × List (View.Piece (Elt F) S1x192x256 .i8) × List (View.Piece (Elt F) S36x48x128 .f32) × List (View.Piece (Elt F) S1x72x48 .f32) //
      ∀ (E : Set ℕ) (f9 : BufTy.Contents (Elt F) arg9.view.ty) (f10 : BufTy.Contents (Elt F) arg10.view.ty)
        (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg9.view.loc (c : Thread nD τ) ↦[arg9.view.set]{fullShare} arg9.view.writes (Elt F) arg9.view.junk L.2.1) ∗ (arg10.view.loc (c : Thread nD τ) ↦[arg10.view.set]{fullShare} arg10.view.writes (Elt F) f10 L.2.2.2)
            ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L.2.2.1) ∗ (∃ f, (arg14.view.loc (c : Thread nD τ) ↦[arg14.view.set]{fullShare} f)) ∗ (∃ f, (arg15.view.loc (c : Thread nD τ) ↦[arg15.view.set]{fullShare} f)))) } := by
  refine ⟨⟨?_, ?_, ?_, ?_⟩, fun E f9 f10 f14 f15 => ?run⟩
  case run =>
    rw [cc0_qkv_mxfp4_eq_skeleton]; unfold cc0_qkv_mxfp4_skel
    iintro ⟨H2, H3, H4, H5, H6, H7, H8, H9, H10, H11, H12, H13, H14, H15⟩
    sl_exec
    sl_step
    sl_close

end Cert.Proof.KernelIdeal

end
-- ==== Proof.RunI.lean ====
/- The run of the kernel over its grid, each output block and the table of errors held to a predicate. -/
module

public import proofs.«01_k».proof.Proof.BodyI
public import Idealize.ShloMosaic.Lib.Pipeline.DatRel
public import Idealize.ShloMosaic.Lib.Pipeline.ArrRel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (BodyObligationRel Dat RDat)

/-- At a grid point of kind A, whatever the buffers held before, the blocks the body leaves meet `P6`, `P7` and `P8`, and the table of errors
    goes from `S0` to `S1`. -/
def MeetsA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop) : Prop :=
  ∀ (k0_h1 : k0_cond1 i = 1#1) (k0_h2 : k0_cond2 i ≠ 1#1) (k0_h3 : k0_cond3 i ≠ 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty), S0 (arg13.view.read (Elt F) f13) →
    P6 (arg8.view.read (Elt F) (arg8.view.writes (Elt F) f8 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.1)) ∧ P7 (arg9.view.read (Elt F) (arg9.view.writes (Elt F) f9 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.1))
    ∧ P8 (arg10.view.read (Elt F) f10) ∧ S1 (arg13.view.read (Elt F) (arg13.view.writes (Elt F) f13 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.1))

/-- At a grid point of kind B, whatever the buffers held before, the blocks the body leaves meet `P6`, `P7` and `P8`, and the table of errors
    goes from `S0` to `S1`. -/
def MeetsB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop) : Prop :=
  ∀ (k0_h1 : k0_cond1 i ≠ 1#1) (k0_h2 : k0_cond2 i = 1#1) (k0_h3 : k0_cond3 i ≠ 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty), S0 (arg13.view.read (Elt F) f13) →
    P6 (arg8.view.read (Elt F) (arg8.view.writes (Elt F) f8 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.1)) ∧ P7 (arg9.view.read (Elt F) (arg9.view.writes (Elt F) f9 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.1))
    ∧ P8 (arg10.view.read (Elt F) f10) ∧ S1 (arg13.view.read (Elt F) (arg13.view.writes (Elt F) f13 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.1))

/-- At a grid point of kind C, whatever the buffers held before, the blocks the body leaves meet `P6`, `P7` and `P8`, and the table of errors
    goes from `S0` to `S1`. -/
def MeetsC (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop) : Prop :=
  ∀ (k0_h1 : k0_cond1 i ≠ 1#1) (k0_h2 : k0_cond2 i = 1#1) (k0_h3 : k0_cond3 i = 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty), S0 (arg13.view.read (Elt F) f13) →
    P6 (arg8.view.read (Elt F) (arg8.view.writes (Elt F) f8 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.1)) ∧ P7 (arg9.view.read (Elt F) (arg9.view.writes (Elt F) arg9.view.junk (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.1))
    ∧ P8 (arg10.view.read (Elt F) (arg10.view.writes (Elt F) f10 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.2)) ∧ S1 (arg13.view.read (Elt F) (arg13.view.writes (Elt F) f13 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.1))

set_option maxHeartbeats 4000000 in
/-- The body at one grid point, its blocks and the table of errors held to predicates. -/
theorem body_rel (𝒱 : Variants) (c : Dev nD) (bd : Option 𝒱.V) (E : Set ℕ) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop)
    (hcond : (k0_cond1 i = 1#1 ∧ k0_cond2 i ≠ 1#1 ∧ k0_cond3 i ≠ 1#1) ∨ (k0_cond1 i ≠ 1#1 ∧ k0_cond2 i = 1#1 ∧ k0_cond3 i ≠ 1#1) ∨ (k0_cond1 i ≠ 1#1 ∧ k0_cond2 i = 1#1 ∧ k0_cond3 i = 1#1))
    (hA : MeetsA 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 P6 P7 P8 S0 S1)
    (hB : MeetsB 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 P6 P7 P8 S0 S1)
    (hC : MeetsC 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 P6 P7 P8 S0 S1)
    : (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, ⌜S0 Y⌝ ∗ owns (c : Thread nD τ) arg13 fullShare Y) ∗ (∃ Y, owns (c : Thread nD τ) arg14 fullShare Y) ∗ (∃ Y, owns (c : Thread nD τ) arg15 fullShare Y)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ Y, ⌜P6 Y⌝ ∗ owns (c : Thread nD τ) arg8 fullShare Y) ∗ (∃ Y, ⌜P7 Y⌝ ∗ owns (c : Thread nD τ) arg9 fullShare Y) ∗ (∃ Y, ⌜P8 Y⌝ ∗ owns (c : Thread nD τ) arg10 fullShare Y) ∗ (∃ Y, owns (c : Thread nD τ) arg11 fullShare Y) ∗ (∃ Y, owns (c : Thread nD τ) arg12 fullShare Y) ∗ (∃ Y, ⌜S1 Y⌝ ∗ owns (c : Thread nD τ) arg13 fullShare Y) ∗ (∃ Y, owns (c : Thread nD τ) arg14 fullShare Y) ∗ (∃ Y, owns (c : Thread nD τ) arg15 fullShare Y))) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%Y8, ⟨%f8, %e8, H8⟩⟩, ⟨%Y9, ⟨%f9, %e9, H9⟩⟩, ⟨%Y10, ⟨%f10, %e10, H10⟩⟩, ⟨%Y11, ⟨%f11, %e11, H11⟩⟩, ⟨%Y12, ⟨%f12, %e12, H12⟩⟩, ⟨%Y13, %s13, ⟨%f13, %e13, H13⟩⟩, ⟨%Y14, ⟨%f14, %e14, H14⟩⟩, ⟨%Y15, ⟨%f15, %e15, H15⟩⟩⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  rcases hcond with ⟨k0_h1, k0_h2, k0_h3⟩ | ⟨k0_h1, k0_h2, k0_h3⟩ | ⟨k0_h1, k0_h2, k0_h3⟩
  · obtain ⟨p6, p7, p8, s1⟩ := hA k0_h1 k0_h2 k0_h3 f8 f9 f10 f11 f12 f13 (e13 ▸ s13)
    iapply (wp_wand_r Idealize.ShloMosaic.frame (wpE (defs₀ (F := F)) 𝒱 (c : Thread nD τ) bd) E)
    isplitl [H2 H3 H4 H5 H6 H7 H8 H9 H10 H11 H12 H13 H14 H15]
    · iapply ((bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).2 E f9 f10 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, ⟨%g11, H11⟩, ⟨%g12, H12⟩, H13, ⟨%g14, H14⟩, ⟨%g15, H15⟩⟩
      isplitl [H2]
      · iexists _; isplitr
        · ipureintro; exact harg2.read_unread X2
        · iexact H2
      isplitl [H3]
      · iexists _; isplitr
        · ipureintro; exact harg3.read_unread X3
        · iexact H3
      isplitl [H4]
      · iexists _; isplitr
        · ipureintro; exact harg4.read_unread X4
        · iexact H4
      isplitl [H5]
      · iexists _; isplitr
        · ipureintro; exact harg5.read_unread X5
        · iexact H5
      isplitl [H6]
      · iexists _; isplitr
        · ipureintro; exact harg6.read_unread X6
        · iexact H6
      isplitl [H7]
      · iexists _; isplitr
        · ipureintro; exact harg7.read_unread X7
        · iexact H7
      isplitl [H8]
      · iexists _; isplitr
        · ipureintro; exact p6
        · iexists _; isplitr
          · ipureintro; rfl
          · iexact H8
      isplitl [H9]
      · iexists _; isplitr
        · ipureintro; exact p7
        · iexists _; isplitr
          · ipureintro; rfl
          · iexact H9
      isplitl [H10]
      · iexists _; isplitr
        · ipureintro; exact p8
        · iexists _; isplitr
          · ipureintro; rfl
          · iexact H10
      isplitl [H11]
      · iexists (arg11.view.read (Elt F) g11); iexists g11; isplitr
        · ipureintro; rfl
        · iexact H11
      isplitl [H12]
      · iexists (arg12.view.read (Elt F) g12); iexists g12; isplitr
        · ipureintro; rfl
        · iexact H12
      isplitl [H13]
      · iexists _; isplitr
        · ipureintro; exact s1
        · iexists _; isplitr
          · ipureintro; rfl
          · iexact H13
      isplitl [H14]
      · iexists (arg14.view.read (Elt F) g14); iexists g14; isplitr
        · ipureintro; rfl
        · iexact H14
      iexists (arg15.view.read (Elt F) g15); iexists g15; isplitr
      · ipureintro; rfl
      · iexact H15
  · obtain ⟨p6, p7, p8, s1⟩ := hB k0_h1 k0_h2 k0_h3 f8 f9 f10 f11 f12 f13 (e13 ▸ s13)
    iapply (wp_wand_r Idealize.ShloMosaic.frame (wpE (defs₀ (F := F)) 𝒱 (c : Thread nD τ) bd) E)
    isplitl [H2 H3 H4 H5 H6 H7 H8 H9 H10 H11 H12 H13 H14 H15]
    · iapply ((bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).2 E f9 f10 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, ⟨%g11, H11⟩, ⟨%g12, H12⟩, H13, ⟨%g14, H14⟩, ⟨%g15, H15⟩⟩
      isplitl [H2]
      · iexists _; isplitr
        · ipureintro; exact harg2.read_unread X2
        · iexact H2
      isplitl [H3]
      · iexists _; isplitr
        · ipureintro; exact harg3.read_unread X3
        · iexact H3
      isplitl [H4]
      · iexists _; isplitr
        · ipureintro; exact harg4.read_unread X4
        · iexact H4
      isplitl [H5]
      · iexists _; isplitr
        · ipureintro; exact harg5.read_unread X5
        · iexact H5
      isplitl [H6]
      · iexists _; isplitr
        · ipureintro; exact harg6.read_unread X6
        · iexact H6
      isplitl [H7]
      · iexists _; isplitr
        · ipureintro; exact harg7.read_unread X7
        · iexact H7
      isplitl [H8]
      · iexists _; isplitr
        · ipureintro; exact p6
        · iexists _; isplitr
          · ipureintro; rfl
          · iexact H8
      isplitl [H9]
      · iexists _; isplitr
        · ipureintro; exact p7
        · iexists _; isplitr
          · ipureintro; rfl
          · iexact H9
      isplitl [H10]
      · iexists _; isplitr
        · ipureintro; exact p8
        · iexists _; isplitr
          · ipureintro; rfl
          · iexact H10
      isplitl [H11]
      · iexists (arg11.view.read (Elt F) g11); iexists g11; isplitr
        · ipureintro; rfl
        · iexact H11
      isplitl [H12]
      · iexists (arg12.view.read (Elt F) g12); iexists g12; isplitr
        · ipureintro; rfl
        · iexact H12
      isplitl [H13]
      · iexists _; isplitr
        · ipureintro; exact s1
        · iexists _; isplitr
          · ipureintro; rfl
          · iexact H13
      isplitl [H14]
      · iexists (arg14.view.read (Elt F) g14); iexists g14; isplitr
        · ipureintro; rfl
        · iexact H14
      iexists (arg15.view.read (Elt F) g15); iexists g15; isplitr
      · ipureintro; rfl
      · iexact H15
  · obtain ⟨p6, p7, p8, s1⟩ := hC k0_h1 k0_h2 k0_h3 f8 f9 f10 f11 f12 f13 (e13 ▸ s13)
    iapply (wp_wand_r Idealize.ShloMosaic.frame (wpE (defs₀ (F := F)) 𝒱 (c : Thread nD τ) bd) E)
    isplitl [H2 H3 H4 H5 H6 H7 H8 H9 H10 H11 H12 H13 H14 H15]
    · iapply ((bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).2 E f9 f10 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, ⟨%g11, H11⟩, ⟨%g12, H12⟩, H13, ⟨%g14, H14⟩, ⟨%g15, H15⟩⟩
      isplitl [H2]
      · iexists _; isplitr
        · ipureintro; exact harg2.read_unread X2
        · iexact H2
      isplitl [H3]
      · iexists _; isplitr
        · ipureintro; exact harg3.read_unread X3
        · iexact H3
      isplitl [H4]
      · iexists _; isplitr
        · ipureintro; exact harg4.read_unread X4
        · iexact H4
      isplitl [H5]
      · iexists _; isplitr
        · ipureintro; exact harg5.read_unread X5
        · iexact H5
      isplitl [H6]
      · iexists _; isplitr
        · ipureintro; exact harg6.read_unread X6
        · iexact H6
      isplitl [H7]
      · iexists _; isplitr
        · ipureintro; exact harg7.read_unread X7
        · iexact H7
      isplitl [H8]
      · iexists _; isplitr
        · ipureintro; exact p6
        · iexists _; isplitr
          · ipureintro; rfl
          · iexact H8
      isplitl [H9]
      · iexists _; isplitr
        · ipureintro; exact p7
        · iexists _; isplitr
          · ipureintro; rfl
          · iexact H9
      isplitl [H10]
      · iexists _; isplitr
        · ipureintro; exact p8
        · iexists _; isplitr
          · ipureintro; rfl
          · iexact H10
      isplitl [H11]
      · iexists (arg11.view.read (Elt F) g11); iexists g11; isplitr
        · ipureintro; rfl
        · iexact H11
      isplitl [H12]
      · iexists (arg12.view.read (Elt F) g12); iexists g12; isplitr
        · ipureintro; rfl
        · iexact H12
      isplitl [H13]
      · iexists _; isplitr
        · ipureintro; exact s1
        · iexists _; isplitr
          · ipureintro; rfl
          · iexact H13
      isplitl [H14]
      · iexists (arg14.view.read (Elt F) g14); iexists g14; isplitr
        · ipureintro; rfl
        · iexact H14
      iexists (arg15.view.read (Elt F) g15); iexists g15; isplitr
      · ipureintro; rfl
      · iexact H15

/-! ## The data of the pipeline -/

variable (m : (ℓ : Loc nD τ sig) → Buf (Elt F) ℓ) (ρ : Dev nD → PrngReg)

/-- A grid point is of one of the three kinds. -/
theorem cond_cases : ∀ t : Fin grid0.N, (k0_cond1 (grid0.coords t) = 1#1 ∧ k0_cond2 (grid0.coords t) ≠ 1#1 ∧ k0_cond3 (grid0.coords t) ≠ 1#1) ∨ (k0_cond1 (grid0.coords t) ≠ 1#1 ∧ k0_cond2 (grid0.coords t) = 1#1 ∧ k0_cond3 (grid0.coords t) ≠ 1#1) ∨ (k0_cond1 (grid0.coords t) ≠ 1#1 ∧ k0_cond2 (grid0.coords t) = 1#1 ∧ k0_cond3 (grid0.coords t) = 1#1) := by
  decide +kernel

/-- The windows of the results. -/
def fgt : Fin cfg0.W → Bool
  | ⟨6, _⟩ => true
  | ⟨7, _⟩ => true
  | ⟨8, _⟩ => true
  | _ => false

/-- What each core's body leaves in the windows of the results, and what the table of errors holds between the grid points. -/
structure Preds (F : FTy → Type) where
  /-- of the block of codes -/
  P6 : Dev nD → Fin cfg0.N → (S1x6144x128.Idx → Elt F .i8) → Prop
  /-- of the block of scale bytes -/
  P7 : Dev nD → Fin cfg0.N → (S1x192x256.Idx → Elt F .i8) → Prop
  /-- of the block of errors -/
  P8 : Dev nD → Fin cfg0.N → (S1x72x48.Idx → Elt F .f32) → Prop
  /-- of the table of errors -/
  S : Dev nD → Fin (cfg0.N + 1) → (S36x48x128.Idx → Elt F .f32) → Prop

variable (P : Preds F)

/-- The predicates by window. -/
def Rl (c : Dev nD) : (w : Fin cfg0.W) → Fin cfg0.N → ((cfg0.win w).block.Idx → Elt F (cfg0.win w).elt) → Prop
  | ⟨6, _⟩ => P.P6 c
  | ⟨7, _⟩ => P.P7 c
  | ⟨8, _⟩ => P.P8 c
  | _ => fun _ _ => True

/-- The table of errors meeting its predicate, the other scratch buffers at any contents, the generator register. -/
def Phi (c : Dev nD) (t : Fin (cfg0.N + 1)) : sProp 𝕄 :=
  iprop((∃ Y, owns (c : Thread nD τ) (Memref.whole cc0_scratch0) fullShare Y) ∗ (∃ Y, owns (c : Thread nD τ) (Memref.whole cc0_scratch1) fullShare Y)
    ∗ (∃ Y, ⌜P.S c t Y⌝ ∗ owns (c : Thread nD τ) (Memref.whole cc0_scratch2) fullShare Y)
    ∗ (∃ Y, owns (c : Thread nD τ) (Memref.whole cc0_scratch3) fullShare Y) ∗ (∃ Y, owns (c : Thread nD τ) (Memref.whole cc0_scratch4) fullShare Y) ∗ ∃ r, prngReg c r)

/-- The data of the one pipeline: the arrays as the region finds them, the inputs' blocks left in place, nothing owed, full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ := Phi P c
  q _ := fullShare
  owed _ := 0

theorem before_0 (c : Dev nD) (t : Fin cfg0.N) (d) : (dat m P c).before 0 t d = iblk m c 0 t :=
  before0_0_of m (dat m P c) (by dsimp only [dat]) (fun t => by dsimp only [dat]) t d
theorem before_1 (c : Dev nD) (t : Fin cfg0.N) (d) : (dat m P c).before 1 t d = iblk m c 1 t :=
  before0_1_of m (dat m P c) (by dsimp only [dat]) (fun t => by dsimp only [dat]) t d
theorem before_2 (c : Dev nD) (t : Fin cfg0.N) (d) : (dat m P c).before 2 t d = iblk m c 2 t :=
  before0_2_of m (dat m P c) (by dsimp only [dat]) (fun t => by dsimp only [dat]) t d
theorem before_3 (c : Dev nD) (t : Fin cfg0.N) (d) : (dat m P c).before 3 t d = iblk m c 3 t :=
  before0_3_of m (dat m P c) (by dsimp only [dat]) (fun t => by dsimp only [dat]) t d
theorem before_4 (c : Dev nD) (t : Fin cfg0.N) (d) : (dat m P c).before 4 t d = iblk m c 4 t :=
  before0_4_of m (dat m P c) (by dsimp only [dat]) (fun t => by dsimp only [dat]) t d
theorem before_5 (c : Dev nD) (t : Fin cfg0.N) (d) : (dat m P c).before 5 t d = iblk m c 5 t :=
  before0_5_of m (dat m P c) (by dsimp only [dat]) (fun t => by dsimp only [dat]) t d

/-- The pure facts about the body that carry the predicates through the grid. -/
structure Steps : Prop where
  /-- of the points of query heads -/
  A : ∀ c t, MeetsA Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ)
  /-- of the points of a key and a value head -/
  B : ∀ c t, MeetsB Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ)
  /-- of the last point of each batch -/
  C : ∀ c t, MeetsC Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ)
  /-- the predicate of the table at the start -/
  S0 : ∀ c X, P.S c 0 X

variable {m P}

/-- What the body is called with at a point. -/
def bodyPre (m : (ℓ : Loc nD τ sig) → Buf (Elt F) ℓ) (P : Preds F) (c : Dev nD) (t : Fin cfg0.N) : sProp 𝕄 :=
  iprop(Phi P c t.castSucc ∗ (dat m P c).owesAt () t.castSucc
    ∗ (∃ d, owns (c : Thread nD τ) (st0_0 t) fullShare ((dat m P c).before 0 t d))
    ∗ (∃ d, owns (c : Thread nD τ) (st0_1 t) fullShare ((dat m P c).before 1 t d))
    ∗ (∃ d, owns (c : Thread nD τ) (st0_2 t) fullShare ((dat m P c).before 2 t d))
    ∗ (∃ d, owns (c : Thread nD τ) (st0_3 t) fullShare ((dat m P c).before 3 t d))
    ∗ (∃ d, owns (c : Thread nD τ) (st0_4 t) fullShare ((dat m P c).before 4 t d))
    ∗ (∃ d, owns (c : Thread nD τ) (st0_5 t) fullShare ((dat m P c).before 5 t d))
    ∗ (∃ Y, ⌜((dat m P c).toRRel fgt (Rl P c)).Finds 6 t Y⌝ ∗ owns (c : Thread nD τ) (st0_6 t) fullShare Y)
    ∗ (∃ Y, ⌜((dat m P c).toRRel fgt (Rl P c)).Finds 7 t Y⌝ ∗ owns (c : Thread nD τ) (st0_7 t) fullShare Y)
    ∗ (∃ Y, ⌜((dat m P c).toRRel fgt (Rl P c)).Finds 8 t Y⌝ ∗ owns (c : Thread nD τ) (st0_8 t) fullShare Y))

/-- What it returns. -/
def bodyPost (m : (ℓ : Loc nD τ sig) → Buf (Elt F) ℓ) (P : Preds F) (c : Dev nD) (t : Fin cfg0.N) : sProp 𝕄 :=
  iprop(Phi P c t.succ ∗ (dat m P c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜P.P6 c t X⌝ ∗ owns (c : Thread nD τ) (st0_6 t) fullShare X)
    ∗ (∃ X, ⌜P.P7 c t X⌝ ∗ owns (c : Thread nD τ) (st0_7 t) fullShare X)
    ∗ (∃ X, ⌜P.P8 c t X⌝ ∗ owns (c : Thread nD τ) (st0_8 t) fullShare X))

set_option maxHeartbeats 4000000 in
/-- The body at any point. -/
theorem sound_body (h : Steps m P) (c : Dev nD) (t : Fin cfg0.N) :
    bodyPre m P c t ⊢ wp frame (wpE (defs₀ (F := F)) Variants.none c none) Set.univ (bodyAt0 t) (fun _ => bodyPost m P c t) := by
  unfold bodyPre bodyPost bodyAt0 Phi
  simp only [before_0, before_1, before_2, before_3, before_4, before_5]
  rw [show (dat m P c).owesAt () t.succ = (dat m P c).owesAt () t.castSucc from rfl]
  iintro ⟨⟨G11, G12, G13, G14, G15, Hp⟩, Ho, ⟨%d0, G2⟩, ⟨%d1, G3⟩, ⟨%d2, G4⟩, ⟨%d3, G5⟩, ⟨%d4, G6⟩, ⟨%d5, G7⟩, ⟨%Y6, %y6, G8⟩, ⟨%Y7, %y7, G9⟩, ⟨%Y8, %y8, G10⟩⟩
  iapply (wp_wand_r Idealize.ShloMosaic.frame (wpE (defs₀ (F := F)) Variants.none (c : Thread nD τ) none) Set.univ)
  isplitl [G2 G3 G4 G5 G6 G7 G8 G9 G10 G11 G12 G13 G14 G15]
  · iapply (body_rel Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ) (cond_cases t) (h.A c t) (h.B c t) (h.C c t))
    isplitl [G2]; · iexact G2
    isplitl [G3]; · iexact G3
    isplitl [G4]; · iexact G4
    isplitl [G5]; · iexact G5
    isplitl [G6]; · iexact G6
    isplitl [G7]; · iexact G7
    isplitl [G8]; · iexists _; iexact G8
    isplitl [G9]; · iexists _; iexact G9
    isplitl [G10]; · iexists _; iexact G10
    isplitl [G11]; · iexact G11
    isplitl [G12]; · iexact G12
    isplitl [G13]; · iexact G13
    isplitl [G14]; · iexact G14
    iexact G15
  · iintro %_ ⟨G2, G3, G4, G5, G6, G7, G8, G9, G10, G11, G12, G13, G14, G15⟩
    isplitl [G11 G12 G13 G14 G15 Hp]
    · isplitl [G11]; · iexact G11
      isplitl [G12]; · iexact G12
      isplitl [G13]; · iexact G13
      isplitl [G14]; · iexact G14
      isplitl [G15]; · iexact G15
      iexact Hp
    isplitl [Ho]; · iexact Ho
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (h : Steps m P) (c : Dev nD) :
    BodyObligationRel (dat m P c) (defs₀ (F := F)) Variants.none () Set.univ fgt (Rl P c) := fun t => by
  rw [bigSep_W0, bigSep_W0, defs₀_row]
  exact triple_restated (sound_body h c t) rfl .rfl fun _ => .rfl

/-- The relational data of the run. -/
abbrev rdat (m : (ℓ : Loc nD τ sig) → Buf (Elt F) ℓ) (P : Preds F) (c : Dev nD) : RDat τ (Elt F) Unit ℕ (UR sig nD τ) ℕ cfg0 c := (dat m P c).toRRel fgt (Rl P c)

theorem phi_in (h : Steps m P) (c : Dev nD) : Pipeline.ΦA spec0 c ⊢ Phi P c 0 := by
  unfold Pipeline.ΦA Phi
  rw [scopedRest0_eq]
  simp only [owns_whole]
  iintro ⟨⟨G11, G12, ⟨%Y, G13⟩, G14, G15⟩, Hp⟩
  isplitl [G11]; · iexact G11
  isplitl [G12]; · iexact G12
  isplitl [G13]
  · iexists Y; isplitr
    · ipureintro; exact h.S0 c Y
    · iexact G13
  isplitl [G14]; · iexact G14
  isplitl [G15]; · iexact G15
  iexact Hp

theorem phi_out (c : Dev nD) (t) : Phi P c t ⊢ Pipeline.ΦA spec0 c := by
  unfold Pipeline.ΦA Phi
  rw [scopedRest0_eq]
  simp only [owns_whole]
  iintro ⟨G11, G12, ⟨%Y, %y, G13⟩, G14, G15, Hp⟩
  isplitl [G11 G12 G13 G14 G15]
  · isplitl [G11]; · iexact G11
    isplitl [G12]; · iexact G12
    isplitl [G13]; · iexists Y; iexact G13
    isplitl [G14]; · iexact G14
    iexact G15
  iexact Hp

set_option backward.isDefEq.respectTransparency.types false in
set_option maxHeartbeats 800000 in
/-- The run: every execution ends with the arrays at what the relational data allow, every other buffer unchanged, every counter at zero. -/
theorem run_rel (h : Steps m P) : θ_run defs (onTc (τ := τ) (main (F := F))) (s₀ m ρ)
    (fun r => RDat.FramePost cfg0 (rdat m P) (V m) r ∧ r.2.sem = fun _ => 0) :=
  RDat.θ_run_frame_track (Q' := _) cfgs (0 : Fin 1) launch0 defs₀ Variants.none (rdat m P) m ρ main
    (hbody := fun c => (body_obligation h c).toRRel) (hshare := fun c => (dat m P c).share_full fun _ => rfl)
    (howed := fun _ _ => rfl) (V := V m) (hmain := hmain m Variants.none) (hA := fun _ _ => rfl) (hin := phi_in h) (hout := fun c => phi_out c _)
    (hQ' := fun _ h => h)

/-- The post of `run_rel` at one core. -/
theorem post_args {r : PUnit × MemSt nD τ sig (Elt F)} (h : RDat.FramePost cfg0 (rdat m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    ((h c).2 main_arg1 (Pipeline.mem_restRefs_of main_arg1 (by decide) (by decide))).trans (V_main_arg1 m c),
    (h.arr_in c 1 rfl).trans (V_main_arg2 m c),
    ((h c).2 main_arg3 (Pipeline.mem_restRefs_of main_arg3 (by decide) (by decide))).trans (V_main_arg3 m c),
    (h.arr_in c 2 rfl).trans (V_main_arg4 m c),
    ((h c).2 main_arg5 (Pipeline.mem_restRefs_of main_arg5 (by decide) (by decide))).trans (V_main_arg5 m c)⟩

/-- The predicates that hold of everything. -/
def anyPreds : Preds F := ⟨fun _ _ _ => True, fun _ _ _ => True, fun _ _ _ => True, fun _ _ _ => True⟩

theorem anySteps (m : (ℓ : Loc nD τ sig) → Buf (Elt F) ℓ) : Steps m (anyPreds (F := F)) :=
  ⟨fun _ _ _ _ _ _ _ _ _ _ _ _ => ⟨trivial, trivial, trivial, trivial⟩, fun _ _ _ _ _ _ _ _ _ _ _ _ => ⟨trivial, trivial, trivial, trivial⟩,
    fun _ _ _ _ _ _ _ _ _ _ _ _ => ⟨trivial, trivial, trivial, trivial⟩, fun _ _ => trivial⟩

/-- The frame: every execution ends, the arguments end unchanged, every counter ends at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => post_args h.1 c, h.2⟩) (run_rel ρ (anySteps m))

end Cert.Proof.KernelIdeal

end
-- ==== Proof.TripK.lean ====
/- One trip of each of the two chunk loops. -/
module

public import proofs.«01_k».proof.Proof.Gen.Kernel.Frame
public import proofs.«01_k».proof.Proof.Gen.Kernel.Loops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.squeezeSlice true in
/-- One trip of the chunk loop `k0_t1_loop`: the pieces it writes into the codes block, the scale-byte scratch, the error
    scratch and the two strided scratches, from the blocks it reads and what the strided scratches held. -/
@[irreducible] def trip1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) :
    { L : List (View.Piece (Elt F) S1x6144x128 .i8) × List (View.Piece (Elt F) S192x256 .i32) × List (View.Piece (Elt F) S192x128 .f32)
        × List (View.Piece (Elt F) S2x72x128 .i32) × List (View.Piece (Elt F) S2x8x128 .i32) //
      ∀ (E : Set ℕ) (f8 : BufTy.Contents (Elt F) arg8.view.ty) (f11 : BufTy.Contents (Elt F) arg11.view.ty) (f12 : BufTy.Contents (Elt F) arg12.view.ty)
        (f14 : BufTy.Contents (Elt F) arg14.view.ty) (f15 : BufTy.Contents (Elt F) arg15.view.ty),
      (iprop((arg2.view.loc (c : Thread nD τ) ↦[arg2.view.set]{fullShare} X2) ∗ (arg5.view.loc (c : Thread nD τ) ↦[arg5.view.set]{fullShare} X5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k0_h1 k ())
          (fun _ => iprop((arg2.view.loc (c : Thread nD τ) ↦[arg2.view.set]{fullShare} X2) ∗ (arg5.view.loc (c : Thread nD τ) ↦[arg5.view.set]{fullShare} X5) ∗ (arg8.view.loc (c : Thread nD τ) ↦[arg8.view.set]{fullShare} arg8.view.writes (Elt F) f8 L.1) ∗ (arg11.view.loc (c : Thread nD τ) ↦[arg11.view.set]{fullShare} arg11.view.writes (Elt F) f11 L.2.1) ∗ (arg12.view.loc (c : Thread nD τ) ↦[arg12.view.set]{fullShare} arg12.view.writes (Elt F) f12 L.2.2.1) ∗ (arg14.view.loc (c : Thread nD τ) ↦[arg14.view.set]{fullShare} arg14.view.writes (Elt F) f14 L.2.2.2.1) ∗ (arg15.view.loc (c : Thread nD τ) ↦[arg15.view.set]{fullShare} arg15.view.writes (Elt F) f15 L.2.2.2.2))) } := by
  have hk : k.val < 24 := Nat.lt_of_lt_of_le k.isLt k0_t1_abs.2.1
  refine ⟨⟨?_, ?_, ?_, ?_, ?_⟩, fun E f8 f11 f12 f14 f15 => ?run⟩
  case run =>
    unfold k0_t1_body
    iintro ⟨HR2, HR5, H8, H11, H12, H14, H15⟩
    sl_exec
    sl_step
    sl_close

set_option sl_exec.squeezeSlice true in
/-- One trip of the chunk loop `k0_t2_loop`: the pieces it writes into the codes block, the scale-byte scratch, the error
    scratch and the two strided scratches, from the blocks it reads and what the strided scratches held. -/
@[irreducible] def trip2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) :
    { L : List (View.Piece (Elt F) S1x6144x128 .i8) × List (View.Piece (Elt F) S192x256 .i32) × List (View.Piece (Elt F) S192x128 .f32)
        × List (View.Piece (Elt F) S2x72x128 .i32) × List (View.Piece (Elt F) S2x8x128 .i32) //
      ∀ (E : Set ℕ) (f8 : BufTy.Contents (Elt F) arg8.view.ty) (f11 : BufTy.Contents (Elt F) arg11.view.ty) (f12 : BufTy.Contents (Elt F) arg12.view.ty)
        (f14 : BufTy.Contents (Elt F) arg14.view.ty) (f15 : BufTy.Contents (Elt F) arg15.view.ty),
      (iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v10 k0_h2 k ())
          (fun _ => iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg11.view.loc (c : Thread nD τ) ↦[arg11.view.set]{fullShare} arg11.view.writes (Elt F) f11 L.2.1) ∗ (arg12.view.loc (c : Thread nD τ) ↦[arg12.view.set]{fullShare} arg12.view.writes (Elt F) f12 L.2.2.1) ∗ (arg14.view.loc (c : Thread nD τ) ↦[arg14.view.set]{fullShare} arg14.view.writes (Elt F) f14 L.2.2.2.1) ∗ (arg15.view.loc (c : Thread nD τ) ↦[arg15.view.set]{fullShare} arg15.view.writes (Elt F) f15 L.2.2.2.2))) } := by
  have hk : k.val < 24 := Nat.lt_of_lt_of_le k.isLt k0_t2_abs.2.1
  refine ⟨⟨?_, ?_, ?_, ?_, ?_⟩, fun E f8 f11 f12 f14 f15 => ?run⟩
  case run =>
    unfold k0_t2_body
    iintro ⟨HR3, HR4, HR6, HR7, H8, H11, H12, H14, H15⟩
    sl_exec
    sl_step
    sl_close

end Cert.Proof.Kernel

end
-- ==== Proof.LoopK.lean ====
/- The two chunk loops by their invariants. -/
module

public import proofs.«01_k».proof.Proof.TripK

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces written into the codes block, the scale-byte scratch and the error scratch. -/
abbrev Pieces (F : FTy → Type) : Type :=
  List (View.Piece (Elt F) S1x6144x128 .i8) × List (View.Piece (Elt F) S192x256 .i32) × List (View.Piece (Elt F) S192x128 .f32)

/-- Trip `k`'s pieces in front of those before it. -/
@[irreducible] def pb1Step (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : ℕ) (prev : Pieces F) : Pieces F :=
  if h : k < k0_t1_loop.trips then
    ((trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨k, h⟩).1.1 ++ prev.1, (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨k, h⟩).1.2.1 ++ prev.2.1, (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨k, h⟩).1.2.2.1 ++ prev.2.2)
  else prev

/-- The pieces of the trips before `k`, the last first. -/
def pb1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) : ℕ → Pieces F
  | 0 => ([], [], [])
  | k + 1 => pb1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k)

/-- One more trip puts its pieces in front. -/
theorem pb1_succ (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) :
    pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 (k.val + 1) = ((trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.1 ++ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k.val).1, (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.2.1 ++ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k.val).2.1,
      (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.2.2.1 ++ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k.val).2.2) := by
  rw [pb1.eq_2]; unfold pb1Step; exact dif_pos k.isLt

/-- The invariant of `k0_t1_loop` before trip `k`: the inputs as they are, the three written buffers at the pieces so far, the two
    strided scratches at anything. -/
abbrev inv1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (G8 : BufTy.Contents (Elt F) arg8.view.ty) (G11 : BufTy.Contents (Elt F) arg11.view.ty) (G12 : BufTy.Contents (Elt F) arg12.view.ty) (k : ℕ) (_u : PUnit) : sProp 𝕄 :=
  iprop((arg2.view.loc (c : Thread nD τ) ↦[arg2.view.set]{fullShare} X2) ∗ (arg5.view.loc (c : Thread nD τ) ↦[arg5.view.set]{fullShare} X5) ∗ (∃ f, (arg8.view.loc (c : Thread nD τ) ↦[arg8.view.set]{fullShare} f) ∗ ⌜f = arg8.view.writes (Elt F) G8 (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1⌝)
    ∗ (∃ f, (arg11.view.loc (c : Thread nD τ) ↦[arg11.view.set]{fullShare} f) ∗ ⌜f = arg11.view.writes (Elt F) G11 (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).2.1⌝)
    ∗ (∃ f, (arg12.view.loc (c : Thread nD τ) ↦[arg12.view.set]{fullShare} f) ∗ ⌜f = arg12.view.writes (Elt F) G12 (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).2.2⌝)
    ∗ (∃ f, (arg14.view.loc (c : Thread nD τ) ↦[arg14.view.set]{fullShare} f)) ∗ (∃ f, (arg15.view.loc (c : Thread nD τ) ↦[arg15.view.set]{fullShare} f)))

set_option warn.classDefReducibility false in
/-- `k0_t1_loop` by its invariant. -/
@[sl_loop] def loopInv1 (𝒱 : Variants) (c : Dev nD) (bd : Option 𝒱.V) (E : Set ℕ) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (G8 : BufTy.Contents (Elt F) arg8.view.ty) (G11 : BufTy.Contents (Elt F) arg11.view.ty) (G12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 k0_h1 where
  inv := inv1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 G8 G11 G12
  step k acc := by
    iintro ⟨HR2, HR5, ⟨%f8, H8, %h8⟩, ⟨%f11, H11, %h11⟩, ⟨%f12, H12, %h12⟩, ⟨%f14, H14⟩, ⟨%f15, H15⟩⟩
    iapply (wp_wand_r Idealize.ShloMosaic.frame (wpE (defs₀ (F := F)) 𝒱 (c : Thread nD τ) bd) E)
    isplitl [HR2 HR5 H8 H11 H12 H14 H15]
    · iapply ((trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).2 E f8 f11 f12 f14 f15)
      isplitl [HR2]; · iexact HR2
      isplitl [HR5]; · iexact HR5
      isplitl [H8]; · iexact H8
      isplitl [H11]; · iexact H11
      isplitl [H12]; · iexact H12
      isplitl [H14]; · iexact H14
      iexact H15
    · iintro %_ ⟨HR2, HR5, H8, H11, H12, H14, H15⟩
      isplitl [HR2]; · iexact HR2
      isplitl [HR5]; · iexact HR5
      rw [pb1_succ]
      isplitl [H8]
      · iexists _; isplitl [H8]; · iexact H8
        ipureintro; rw [h8, ← View.writes_append]
      isplitl [H11]
      · iexists _; isplitl [H11]; · iexact H11
        ipureintro; rw [h11, ← View.writes_append]
      isplitl [H12]
      · iexists _; isplitl [H12]; · iexact H12
        ipureintro; rw [h12, ← View.writes_append]
      isplitl [H14]; · iexists _; iexact H14
      iexists _; iexact H15

/-- Trip `k`'s pieces in front of those before it. -/
@[irreducible] def pb2Step (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : ℕ) (prev : Pieces F) : Pieces F :=
  if h : k < k0_t2_loop.trips then
    ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨k, h⟩).1.1 ++ prev.1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨k, h⟩).1.2.1 ++ prev.2.1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨k, h⟩).1.2.2.1 ++ prev.2.2)
  else prev

/-- The pieces of the trips before `k`, the last first. -/
def pb2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) : ℕ → Pieces F
  | 0 => ([], [], [])
  | k + 1 => pb2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k)

/-- One more trip puts its pieces in front. -/
theorem pb2_succ (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) :
    pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 (k.val + 1) = ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.1 ++ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k.val).1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.2.1 ++ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k.val).2.1,
      (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.2.2.1 ++ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k.val).2.2) := by
  rw [pb2.eq_2]; unfold pb2Step; exact dif_pos k.isLt

/-- The invariant of `k0_t2_loop` before trip `k`: the inputs as they are, the three written buffers at the pieces so far, the two
    strided scratches at anything. -/
abbrev inv2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (G8 : BufTy.Contents (Elt F) arg8.view.ty) (G11 : BufTy.Contents (Elt F) arg11.view.ty) (G12 : BufTy.Contents (Elt F) arg12.view.ty) (k : ℕ) (_u : PUnit) : sProp 𝕄 :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜f = arg8.view.writes (Elt F) G8 (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1⌝)
    ∗ (∃ f, (arg11.view.loc (c : Thread nD τ) ↦[arg11.view.set]{fullShare} f) ∗ ⌜f = arg11.view.writes (Elt F) G11 (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).2.1⌝)
    ∗ (∃ f, (arg12.view.loc (c : Thread nD τ) ↦[arg12.view.set]{fullShare} f) ∗ ⌜f = arg12.view.writes (Elt F) G12 (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).2.2⌝)
    ∗ (∃ f, (arg14.view.loc (c : Thread nD τ) ↦[arg14.view.set]{fullShare} f)) ∗ (∃ f, (arg15.view.loc (c : Thread nD τ) ↦[arg15.view.set]{fullShare} f)))

set_option warn.classDefReducibility false in
/-- `k0_t2_loop` by its invariant. -/
@[sl_loop] def loopInv2 (𝒱 : Variants) (c : Dev nD) (bd : Option 𝒱.V) (E : Set ℕ) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (G8 : BufTy.Contents (Elt F) arg8.view.ty) (G11 : BufTy.Contents (Elt F) arg11.view.ty) (G12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v10 k0_h2 where
  inv := inv2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 G8 G11 G12
  step k acc := by
    iintro ⟨HR3, HR4, HR6, HR7, ⟨%f8, H8, %h8⟩, ⟨%f11, H11, %h11⟩, ⟨%f12, H12, %h12⟩, ⟨%f14, H14⟩, ⟨%f15, H15⟩⟩
    iapply (wp_wand_r Idealize.ShloMosaic.frame (wpE (defs₀ (F := F)) 𝒱 (c : Thread nD τ) bd) E)
    isplitl [HR3 HR4 HR6 HR7 H8 H11 H12 H14 H15]
    · iapply ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).2 E f8 f11 f12 f14 f15)
      isplitl [HR3]; · iexact HR3
      isplitl [HR4]; · iexact HR4
      isplitl [HR6]; · iexact HR6
      isplitl [HR7]; · iexact HR7
      isplitl [H8]; · iexact H8
      isplitl [H11]; · iexact H11
      isplitl [H12]; · iexact H12
      isplitl [H14]; · iexact H14
      iexact H15
    · iintro %_ ⟨HR3, HR4, HR6, HR7, H8, H11, H12, H14, H15⟩
      isplitl [HR3]; · iexact HR3
      isplitl [HR4]; · iexact HR4
      isplitl [HR6]; · iexact HR6
      isplitl [HR7]; · iexact HR7
      rw [pb2_succ]
      isplitl [H8]
      · iexists _; isplitl [H8]; · iexact H8
        ipureintro; rw [h8, ← View.writes_append]
      isplitl [H11]
      · iexists _; isplitl [H11]; · iexact H11
        ipureintro; rw [h11, ← View.writes_append]
      isplitl [H12]
      · iexists _; isplitl [H12]; · iexact H12
        ipureintro; rw [h12, ← View.writes_append]
      isplitl [H14]; · iexists _; iexact H14
      iexists _; iexact H15

end Cert.Proof.Kernel

end
-- ==== Proof.BodyK.lean ====
/- The kernel body at one grid point. -/
module

public import proofs.«01_k».proof.Proof.LoopK

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a grid point of two query heads: what it writes into the codes block, the scale block, the table of errors. -/
@[irreducible] def bodyA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (k0_h2 : k0_cond2 i ≠ 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f11 : BufTy.Contents (Elt F) arg11.view.ty) (f12 : BufTy.Contents (Elt F) arg12.view.ty) (f13 : BufTy.Contents (Elt F) arg13.view.ty) :
    { L : List (View.Piece (Elt F) S1x6144x128 .i8) × List (View.Piece (Elt F) S1x192x256 .i8) × List (View.Piece (Elt F) S36x48x128 .f32) × List (View.Piece (Elt F) S1x72x48 .f32) //
      ∀ (E : Set ℕ) (f9 : BufTy.Contents (Elt F) arg9.view.ty) (f10 : BufTy.Contents (Elt F) arg10.view.ty)
        (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg9.view.loc (c : Thread nD τ) ↦[arg9.view.set]{fullShare} arg9.view.writes (Elt F) f9 L.2.1) ∗ (arg10.view.loc (c : Thread nD τ) ↦[arg10.view.set]{fullShare} f10)
            ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L.2.2.1) ∗ (∃ f, (arg14.view.loc (c : Thread nD τ) ↦[arg14.view.set]{fullShare} f)) ∗ (∃ f, (arg15.view.loc (c : Thread nD τ) ↦[arg15.view.set]{fullShare} f)))) } := by
  refine ⟨⟨?_, ?_, ?_, []⟩, fun E f9 f10 f14 f15 => ?run⟩
  case run =>
    rw [cc0_qkv_mxfp4_eq_skeleton]; unfold cc0_qkv_mxfp4_skel
    iintro ⟨H2, H3, H4, H5, H6, H7, H8, H9, H10, H11, H12, H13, H14, H15⟩
    sl_exec
    sl_step
    sl_close

/-- The body at a grid point of a key and a value head that is not the last of its batch: what it writes into the codes block, the scale block, the table of errors. -/
@[irreducible] def bodyB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f11 : BufTy.Contents (Elt F) arg11.view.ty) (f12 : BufTy.Contents (Elt F) arg12.view.ty) (f13 : BufTy.Contents (Elt F) arg13.view.ty) :
    { L : List (View.Piece (Elt F) S1x6144x128 .i8) × List (View.Piece (Elt F) S1x192x256 .i8) × List (View.Piece (Elt F) S36x48x128 .f32) × List (View.Piece (Elt F) S1x72x48 .f32) //
      ∀ (E : Set ℕ) (f9 : BufTy.Contents (Elt F) arg9.view.ty) (f10 : BufTy.Contents (Elt F) arg10.view.ty)
        (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg9.view.loc (c : Thread nD τ) ↦[arg9.view.set]{fullShare} arg9.view.writes (Elt F) f9 L.2.1) ∗ (arg10.view.loc (c : Thread nD τ) ↦[arg10.view.set]{fullShare} f10)
            ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L.2.2.1) ∗ (∃ f, (arg14.view.loc (c : Thread nD τ) ↦[arg14.view.set]{fullShare} f)) ∗ (∃ f, (arg15.view.loc (c : Thread nD τ) ↦[arg15.view.set]{fullShare} f)))) } := by
  refine ⟨⟨?_, ?_, ?_, []⟩, fun E f9 f10 f14 f15 => ?run⟩
  case run =>
    rw [cc0_qkv_mxfp4_eq_skeleton]; unfold cc0_qkv_mxfp4_skel
    iintro ⟨H2, H3, H4, H5, H6, H7, H8, H9, H10, H11, H12, H13, H14, H15⟩
    sl_exec
    sl_step
    sl_close

/-- The body at a grid point that is the last of its batch: what it writes into the codes block, the scale block, the table of errors and the error block. -/
@[irreducible] def bodyC (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f11 : BufTy.Contents (Elt F) arg11.view.ty) (f12 : BufTy.Contents (Elt F) arg12.view.ty) (f13 : BufTy.Contents (Elt F) arg13.view.ty) :
    { L : List (View.Piece (Elt F) S1x6144x128 .i8) × List (View.Piece (Elt F) S1x192x256 .i8) × List (View.Piece (Elt F) S36x48x128 .f32) × List (View.Piece (Elt F) S1x72x48 .f32) //
      ∀ (E : Set ℕ) (f9 : BufTy.Contents (Elt F) arg9.view.ty) (f10 : BufTy.Contents (Elt F) arg10.view.ty)
        (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.writes (Elt F) f8 L.1) ∗ (arg9.view.loc (c : Thread nD τ) ↦[arg9.view.set]{fullShare} arg9.view.writes (Elt F) arg9.view.junk L.2.1) ∗ (arg10.view.loc (c : Thread nD τ) ↦[arg10.view.set]{fullShare} arg10.view.writes (Elt F) f10 L.2.2.2)
            ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L.2.2.1) ∗ (∃ f, (arg14.view.loc (c : Thread nD τ) ↦[arg14.view.set]{fullShare} f)) ∗ (∃ f, (arg15.view.loc (c : Thread nD τ) ↦[arg15.view.set]{fullShare} f)))) } := by
  refine ⟨⟨?_, ?_, ?_, ?_⟩, fun E f9 f10 f14 f15 => ?run⟩
  case run =>
    rw [cc0_qkv_mxfp4_eq_skeleton]; unfold cc0_qkv_mxfp4_skel
    iintro ⟨H2, H3, H4, H5, H6, H7, H8, H9, H10, H11, H12, H13, H14, H15⟩
    sl_exec
    sl_step
    sl_close

end Cert.Proof.Kernel

end
-- ==== Proof.RunK.lean ====
/- The run of the kernel over its grid, each output block and the table of errors held to a predicate. -/
module

public import proofs.«01_k».proof.Proof.BodyK
public import Idealize.ShloMosaic.Lib.Pipeline.DatRel
public import Idealize.ShloMosaic.Lib.Pipeline.ArrRel

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (BodyObligationRel Dat RDat)

/-- At a grid point of kind A, whatever the buffers held before, the blocks the body leaves meet `P6`, `P7` and `P8`, and the table of errors
    goes from `S0` to `S1`. -/
def MeetsA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop) : Prop :=
  ∀ (k0_h1 : k0_cond1 i = 1#1) (k0_h2 : k0_cond2 i ≠ 1#1) (k0_h3 : k0_cond3 i ≠ 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty), S0 (arg13.view.read (Elt F) f13) →
    P6 (arg8.view.read (Elt F) (arg8.view.writes (Elt F) f8 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.1)) ∧ P7 (arg9.view.read (Elt F) (arg9.view.writes (Elt F) f9 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.1))
    ∧ P8 (arg10.view.read (Elt F) f10) ∧ S1 (arg13.view.read (Elt F) (arg13.view.writes (Elt F) f13 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.1))

/-- At a grid point of kind B, whatever the buffers held before, the blocks the body leaves meet `P6`, `P7` and `P8`, and the table of errors
    goes from `S0` to `S1`. -/
def MeetsB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop) : Prop :=
  ∀ (k0_h1 : k0_cond1 i ≠ 1#1) (k0_h2 : k0_cond2 i = 1#1) (k0_h3 : k0_cond3 i ≠ 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty), S0 (arg13.view.read (Elt F) f13) →
    P6 (arg8.view.read (Elt F) (arg8.view.writes (Elt F) f8 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.1)) ∧ P7 (arg9.view.read (Elt F) (arg9.view.writes (Elt F) f9 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.1))
    ∧ P8 (arg10.view.read (Elt F) f10) ∧ S1 (arg13.view.read (Elt F) (arg13.view.writes (Elt F) f13 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.1))

/-- At a grid point of kind C, whatever the buffers held before, the blocks the body leaves meet `P6`, `P7` and `P8`, and the table of errors
    goes from `S0` to `S1`. -/
def MeetsC (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop) : Prop :=
  ∀ (k0_h1 : k0_cond1 i ≠ 1#1) (k0_h2 : k0_cond2 i = 1#1) (k0_h3 : k0_cond3 i = 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty), S0 (arg13.view.read (Elt F) f13) →
    P6 (arg8.view.read (Elt F) (arg8.view.writes (Elt F) f8 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.1)) ∧ P7 (arg9.view.read (Elt F) (arg9.view.writes (Elt F) arg9.view.junk (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.1))
    ∧ P8 (arg10.view.read (Elt F) (arg10.view.writes (Elt F) f10 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.2)) ∧ S1 (arg13.view.read (Elt F) (arg13.view.writes (Elt F) f13 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).1.2.2.1))

set_option maxHeartbeats 4000000 in
/-- The body at one grid point, its blocks and the table of errors held to predicates. -/
theorem body_rel (𝒱 : Variants) (c : Dev nD) (bd : Option 𝒱.V) (E : Set ℕ) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt F .i8)) (X3 : (S1x128x6144.Idx → Elt F .i8)) (X4 : (S1x128x6144.Idx → Elt F .i8)) (X5 : (S1x1x2x48.Idx → Elt F .f32)) (X6 : (S1x1x1x48.Idx → Elt F .f32)) (X7 : (S1x1x1x48.Idx → Elt F .f32)) (P6 : (S1x6144x128.Idx → Elt F .i8) → Prop) (P7 : (S1x192x256.Idx → Elt F .i8) → Prop) (P8 : (S1x72x48.Idx → Elt F .f32) → Prop) (S0 S1 : (S36x48x128.Idx → Elt F .f32) → Prop)
    (hcond : (k0_cond1 i = 1#1 ∧ k0_cond2 i ≠ 1#1 ∧ k0_cond3 i ≠ 1#1) ∨ (k0_cond1 i ≠ 1#1 ∧ k0_cond2 i = 1#1 ∧ k0_cond3 i ≠ 1#1) ∨ (k0_cond1 i ≠ 1#1 ∧ k0_cond2 i = 1#1 ∧ k0_cond3 i = 1#1))
    (hA : MeetsA 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 P6 P7 P8 S0 S1)
    (hB : MeetsB 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 P6 P7 P8 S0 S1)
    (hC : MeetsC 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 P6 P7 P8 S0 S1)
    : (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, ⌜S0 Y⌝ ∗ owns (c : Thread nD τ) arg13 fullShare Y) ∗ (∃ Y, owns (c : Thread nD τ) arg14 fullShare Y) ∗ (∃ Y, owns (c : Thread nD τ) arg15 fullShare Y)) : sProp 𝕄)
      ⊢ wp frame (wpE (defs₀ (F := F)) 𝒱 (c : Thread nD τ) bd) E (cc0_qkv_mxfp4 (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ Y, ⌜P6 Y⌝ ∗ owns (c : Thread nD τ) arg8 fullShare Y) ∗ (∃ Y, ⌜P7 Y⌝ ∗ owns (c : Thread nD τ) arg9 fullShare Y) ∗ (∃ Y, ⌜P8 Y⌝ ∗ owns (c : Thread nD τ) arg10 fullShare Y) ∗ (∃ Y, owns (c : Thread nD τ) arg11 fullShare Y) ∗ (∃ Y, owns (c : Thread nD τ) arg12 fullShare Y) ∗ (∃ Y, ⌜S1 Y⌝ ∗ owns (c : Thread nD τ) arg13 fullShare Y) ∗ (∃ Y, owns (c : Thread nD τ) arg14 fullShare Y) ∗ (∃ Y, owns (c : Thread nD τ) arg15 fullShare Y))) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%Y8, ⟨%f8, %e8, H8⟩⟩, ⟨%Y9, ⟨%f9, %e9, H9⟩⟩, ⟨%Y10, ⟨%f10, %e10, H10⟩⟩, ⟨%Y11, ⟨%f11, %e11, H11⟩⟩, ⟨%Y12, ⟨%f12, %e12, H12⟩⟩, ⟨%Y13, %s13, ⟨%f13, %e13, H13⟩⟩, ⟨%Y14, ⟨%f14, %e14, H14⟩⟩, ⟨%Y15, ⟨%f15, %e15, H15⟩⟩⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  rcases hcond with ⟨k0_h1, k0_h2, k0_h3⟩ | ⟨k0_h1, k0_h2, k0_h3⟩ | ⟨k0_h1, k0_h2, k0_h3⟩
  · obtain ⟨p6, p7, p8, s1⟩ := hA k0_h1 k0_h2 k0_h3 f8 f9 f10 f11 f12 f13 (e13 ▸ s13)
    iapply (wp_wand_r Idealize.ShloMosaic.frame (wpE (defs₀ (F := F)) 𝒱 (c : Thread nD τ) bd) E)
    isplitl [H2 H3 H4 H5 H6 H7 H8 H9 H10 H11 H12 H13 H14 H15]
    · iapply ((bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).2 E f9 f10 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, ⟨%g11, H11⟩, ⟨%g12, H12⟩, H13, ⟨%g14, H14⟩, ⟨%g15, H15⟩⟩
      isplitl [H2]
      · iexists _; isplitr
        · ipureintro; exact harg2.read_unread X2
        · iexact H2
      isplitl [H3]
      · iexists _; isplitr
        · ipureintro; exact harg3.read_unread X3
        · iexact H3
      isplitl [H4]
      · iexists _; isplitr
        · ipureintro; exact harg4.read_unread X4
        · iexact H4
      isplitl [H5]
      · iexists _; isplitr
        · ipureintro; exact harg5.read_unread X5
        · iexact H5
      isplitl [H6]
      · iexists _; isplitr
        · ipureintro; exact harg6.read_unread X6
        · iexact H6
      isplitl [H7]
      · iexists _; isplitr
        · ipureintro; exact harg7.read_unread X7
        · iexact H7
      isplitl [H8]
      · iexists _; isplitr
        · ipureintro; exact p6
        · iexists _; isplitr
          · ipureintro; rfl
          · iexact H8
      isplitl [H9]
      · iexists _; isplitr
        · ipureintro; exact p7
        · iexists _; isplitr
          · ipureintro; rfl
          · iexact H9
      isplitl [H10]
      · iexists _; isplitr
        · ipureintro; exact p8
        · iexists _; isplitr
          · ipureintro; rfl
          · iexact H10
      isplitl [H11]
      · iexists (arg11.view.read (Elt F) g11); iexists g11; isplitr
        · ipureintro; rfl
        · iexact H11
      isplitl [H12]
      · iexists (arg12.view.read (Elt F) g12); iexists g12; isplitr
        · ipureintro; rfl
        · iexact H12
      isplitl [H13]
      · iexists _; isplitr
        · ipureintro; exact s1
        · iexists _; isplitr
          · ipureintro; rfl
          · iexact H13
      isplitl [H14]
      · iexists (arg14.view.read (Elt F) g14); iexists g14; isplitr
        · ipureintro; rfl
        · iexact H14
      iexists (arg15.view.read (Elt F) g15); iexists g15; isplitr
      · ipureintro; rfl
      · iexact H15
  · obtain ⟨p6, p7, p8, s1⟩ := hB k0_h1 k0_h2 k0_h3 f8 f9 f10 f11 f12 f13 (e13 ▸ s13)
    iapply (wp_wand_r Idealize.ShloMosaic.frame (wpE (defs₀ (F := F)) 𝒱 (c : Thread nD τ) bd) E)
    isplitl [H2 H3 H4 H5 H6 H7 H8 H9 H10 H11 H12 H13 H14 H15]
    · iapply ((bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).2 E f9 f10 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, ⟨%g11, H11⟩, ⟨%g12, H12⟩, H13, ⟨%g14, H14⟩, ⟨%g15, H15⟩⟩
      isplitl [H2]
      · iexists _; isplitr
        · ipureintro; exact harg2.read_unread X2
        · iexact H2
      isplitl [H3]
      · iexists _; isplitr
        · ipureintro; exact harg3.read_unread X3
        · iexact H3
      isplitl [H4]
      · iexists _; isplitr
        · ipureintro; exact harg4.read_unread X4
        · iexact H4
      isplitl [H5]
      · iexists _; isplitr
        · ipureintro; exact harg5.read_unread X5
        · iexact H5
      isplitl [H6]
      · iexists _; isplitr
        · ipureintro; exact harg6.read_unread X6
        · iexact H6
      isplitl [H7]
      · iexists _; isplitr
        · ipureintro; exact harg7.read_unread X7
        · iexact H7
      isplitl [H8]
      · iexists _; isplitr
        · ipureintro; exact p6
        · iexists _; isplitr
          · ipureintro; rfl
          · iexact H8
      isplitl [H9]
      · iexists _; isplitr
        · ipureintro; exact p7
        · iexists _; isplitr
          · ipureintro; rfl
          · iexact H9
      isplitl [H10]
      · iexists _; isplitr
        · ipureintro; exact p8
        · iexists _; isplitr
          · ipureintro; rfl
          · iexact H10
      isplitl [H11]
      · iexists (arg11.view.read (Elt F) g11); iexists g11; isplitr
        · ipureintro; rfl
        · iexact H11
      isplitl [H12]
      · iexists (arg12.view.read (Elt F) g12); iexists g12; isplitr
        · ipureintro; rfl
        · iexact H12
      isplitl [H13]
      · iexists _; isplitr
        · ipureintro; exact s1
        · iexists _; isplitr
          · ipureintro; rfl
          · iexact H13
      isplitl [H14]
      · iexists (arg14.view.read (Elt F) g14); iexists g14; isplitr
        · ipureintro; rfl
        · iexact H14
      iexists (arg15.view.read (Elt F) g15); iexists g15; isplitr
      · ipureintro; rfl
      · iexact H15
  · obtain ⟨p6, p7, p8, s1⟩ := hC k0_h1 k0_h2 k0_h3 f8 f9 f10 f11 f12 f13 (e13 ▸ s13)
    iapply (wp_wand_r Idealize.ShloMosaic.frame (wpE (defs₀ (F := F)) 𝒱 (c : Thread nD τ) bd) E)
    isplitl [H2 H3 H4 H5 H6 H7 H8 H9 H10 H11 H12 H13 H14 H15]
    · iapply ((bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 (harg2.unread X2) (harg3.unread X3) (harg4.unread X4) (harg5.unread X5) (harg6.unread X6) (harg7.unread X7) f8 f11 f12 f13).2 E f9 f10 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, ⟨%g11, H11⟩, ⟨%g12, H12⟩, H13, ⟨%g14, H14⟩, ⟨%g15, H15⟩⟩
      isplitl [H2]
      · iexists _; isplitr
        · ipureintro; exact harg2.read_unread X2
        · iexact H2
      isplitl [H3]
      · iexists _; isplitr
        · ipureintro; exact harg3.read_unread X3
        · iexact H3
      isplitl [H4]
      · iexists _; isplitr
        · ipureintro; exact harg4.read_unread X4
        · iexact H4
      isplitl [H5]
      · iexists _; isplitr
        · ipureintro; exact harg5.read_unread X5
        · iexact H5
      isplitl [H6]
      · iexists _; isplitr
        · ipureintro; exact harg6.read_unread X6
        · iexact H6
      isplitl [H7]
      · iexists _; isplitr
        · ipureintro; exact harg7.read_unread X7
        · iexact H7
      isplitl [H8]
      · iexists _; isplitr
        · ipureintro; exact p6
        · iexists _; isplitr
          · ipureintro; rfl
          · iexact H8
      isplitl [H9]
      · iexists _; isplitr
        · ipureintro; exact p7
        · iexists _; isplitr
          · ipureintro; rfl
          · iexact H9
      isplitl [H10]
      · iexists _; isplitr
        · ipureintro; exact p8
        · iexists _; isplitr
          · ipureintro; rfl
          · iexact H10
      isplitl [H11]
      · iexists (arg11.view.read (Elt F) g11); iexists g11; isplitr
        · ipureintro; rfl
        · iexact H11
      isplitl [H12]
      · iexists (arg12.view.read (Elt F) g12); iexists g12; isplitr
        · ipureintro; rfl
        · iexact H12
      isplitl [H13]
      · iexists _; isplitr
        · ipureintro; exact s1
        · iexists _; isplitr
          · ipureintro; rfl
          · iexact H13
      isplitl [H14]
      · iexists (arg14.view.read (Elt F) g14); iexists g14; isplitr
        · ipureintro; rfl
        · iexact H14
      iexists (arg15.view.read (Elt F) g15); iexists g15; isplitr
      · ipureintro; rfl
      · iexact H15

/-! ## The data of the pipeline -/

variable (m : (ℓ : Loc nD τ sig) → Buf (Elt F) ℓ) (ρ : Dev nD → PrngReg)

/-- A grid point is of one of the three kinds. -/
theorem cond_cases : ∀ t : Fin grid0.N, (k0_cond1 (grid0.coords t) = 1#1 ∧ k0_cond2 (grid0.coords t) ≠ 1#1 ∧ k0_cond3 (grid0.coords t) ≠ 1#1) ∨ (k0_cond1 (grid0.coords t) ≠ 1#1 ∧ k0_cond2 (grid0.coords t) = 1#1 ∧ k0_cond3 (grid0.coords t) ≠ 1#1) ∨ (k0_cond1 (grid0.coords t) ≠ 1#1 ∧ k0_cond2 (grid0.coords t) = 1#1 ∧ k0_cond3 (grid0.coords t) = 1#1) := by
  decide +kernel

/-- The windows of the results. -/
def fgt : Fin cfg0.W → Bool
  | ⟨6, _⟩ => true
  | ⟨7, _⟩ => true
  | ⟨8, _⟩ => true
  | _ => false

/-- What each core's body leaves in the windows of the results, and what the table of errors holds between the grid points. -/
structure Preds (F : FTy → Type) where
  /-- of the block of codes -/
  P6 : Dev nD → Fin cfg0.N → (S1x6144x128.Idx → Elt F .i8) → Prop
  /-- of the block of scale bytes -/
  P7 : Dev nD → Fin cfg0.N → (S1x192x256.Idx → Elt F .i8) → Prop
  /-- of the block of errors -/
  P8 : Dev nD → Fin cfg0.N → (S1x72x48.Idx → Elt F .f32) → Prop
  /-- of the table of errors -/
  S : Dev nD → Fin (cfg0.N + 1) → (S36x48x128.Idx → Elt F .f32) → Prop

variable (P : Preds F)

/-- The predicates by window. -/
def Rl (c : Dev nD) : (w : Fin cfg0.W) → Fin cfg0.N → ((cfg0.win w).block.Idx → Elt F (cfg0.win w).elt) → Prop
  | ⟨6, _⟩ => P.P6 c
  | ⟨7, _⟩ => P.P7 c
  | ⟨8, _⟩ => P.P8 c
  | _ => fun _ _ => True

/-- The table of errors meeting its predicate, the other scratch buffers at any contents, the generator register. -/
def Phi (c : Dev nD) (t : Fin (cfg0.N + 1)) : sProp 𝕄 :=
  iprop((∃ Y, owns (c : Thread nD τ) (Memref.whole cc0_scratch0) fullShare Y) ∗ (∃ Y, owns (c : Thread nD τ) (Memref.whole cc0_scratch1) fullShare Y)
    ∗ (∃ Y, ⌜P.S c t Y⌝ ∗ owns (c : Thread nD τ) (Memref.whole cc0_scratch2) fullShare Y)
    ∗ (∃ Y, owns (c : Thread nD τ) (Memref.whole cc0_scratch3) fullShare Y) ∗ (∃ Y, owns (c : Thread nD τ) (Memref.whole cc0_scratch4) fullShare Y) ∗ ∃ r, prngReg c r)

/-- The data of the one pipeline: the arrays as the region finds them, the inputs' blocks left in place, nothing owed, full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ := Phi P c
  q _ := fullShare
  owed _ := 0

theorem before_0 (c : Dev nD) (t : Fin cfg0.N) (d) : (dat m P c).before 0 t d = iblk m c 0 t :=
  before0_0_of m (dat m P c) (by dsimp only [dat]) (fun t => by dsimp only [dat]) t d
theorem before_1 (c : Dev nD) (t : Fin cfg0.N) (d) : (dat m P c).before 1 t d = iblk m c 1 t :=
  before0_1_of m (dat m P c) (by dsimp only [dat]) (fun t => by dsimp only [dat]) t d
theorem before_2 (c : Dev nD) (t : Fin cfg0.N) (d) : (dat m P c).before 2 t d = iblk m c 2 t :=
  before0_2_of m (dat m P c) (by dsimp only [dat]) (fun t => by dsimp only [dat]) t d
theorem before_3 (c : Dev nD) (t : Fin cfg0.N) (d) : (dat m P c).before 3 t d = iblk m c 3 t :=
  before0_3_of m (dat m P c) (by dsimp only [dat]) (fun t => by dsimp only [dat]) t d
theorem before_4 (c : Dev nD) (t : Fin cfg0.N) (d) : (dat m P c).before 4 t d = iblk m c 4 t :=
  before0_4_of m (dat m P c) (by dsimp only [dat]) (fun t => by dsimp only [dat]) t d
theorem before_5 (c : Dev nD) (t : Fin cfg0.N) (d) : (dat m P c).before 5 t d = iblk m c 5 t :=
  before0_5_of m (dat m P c) (by dsimp only [dat]) (fun t => by dsimp only [dat]) t d

/-- The pure facts about the body that carry the predicates through the grid. -/
structure Steps : Prop where
  /-- of the points of query heads -/
  A : ∀ c t, MeetsA Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ)
  /-- of the points of a key and a value head -/
  B : ∀ c t, MeetsB Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ)
  /-- of the last point of each batch -/
  C : ∀ c t, MeetsC Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ)
  /-- the predicate of the table at the start -/
  S0 : ∀ c X, P.S c 0 X

variable {m P}

/-- What the body is called with at a point. -/
def bodyPre (m : (ℓ : Loc nD τ sig) → Buf (Elt F) ℓ) (P : Preds F) (c : Dev nD) (t : Fin cfg0.N) : sProp 𝕄 :=
  iprop(Phi P c t.castSucc ∗ (dat m P c).owesAt () t.castSucc
    ∗ (∃ d, owns (c : Thread nD τ) (st0_0 t) fullShare ((dat m P c).before 0 t d))
    ∗ (∃ d, owns (c : Thread nD τ) (st0_1 t) fullShare ((dat m P c).before 1 t d))
    ∗ (∃ d, owns (c : Thread nD τ) (st0_2 t) fullShare ((dat m P c).before 2 t d))
    ∗ (∃ d, owns (c : Thread nD τ) (st0_3 t) fullShare ((dat m P c).before 3 t d))
    ∗ (∃ d, owns (c : Thread nD τ) (st0_4 t) fullShare ((dat m P c).before 4 t d))
    ∗ (∃ d, owns (c : Thread nD τ) (st0_5 t) fullShare ((dat m P c).before 5 t d))
    ∗ (∃ Y, ⌜((dat m P c).toRRel fgt (Rl P c)).Finds 6 t Y⌝ ∗ owns (c : Thread nD τ) (st0_6 t) fullShare Y)
    ∗ (∃ Y, ⌜((dat m P c).toRRel fgt (Rl P c)).Finds 7 t Y⌝ ∗ owns (c : Thread nD τ) (st0_7 t) fullShare Y)
    ∗ (∃ Y, ⌜((dat m P c).toRRel fgt (Rl P c)).Finds 8 t Y⌝ ∗ owns (c : Thread nD τ) (st0_8 t) fullShare Y))

/-- What it returns. -/
def bodyPost (m : (ℓ : Loc nD τ sig) → Buf (Elt F) ℓ) (P : Preds F) (c : Dev nD) (t : Fin cfg0.N) : sProp 𝕄 :=
  iprop(Phi P c t.succ ∗ (dat m P c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜P.P6 c t X⌝ ∗ owns (c : Thread nD τ) (st0_6 t) fullShare X)
    ∗ (∃ X, ⌜P.P7 c t X⌝ ∗ owns (c : Thread nD τ) (st0_7 t) fullShare X)
    ∗ (∃ X, ⌜P.P8 c t X⌝ ∗ owns (c : Thread nD τ) (st0_8 t) fullShare X))

set_option maxHeartbeats 4000000 in
/-- The body at any point. -/
theorem sound_body (h : Steps m P) (c : Dev nD) (t : Fin cfg0.N) :
    bodyPre m P c t ⊢ wp frame (wpE (defs₀ (F := F)) Variants.none c none) Set.univ (bodyAt0 t) (fun _ => bodyPost m P c t) := by
  unfold bodyPre bodyPost bodyAt0 Phi
  simp only [before_0, before_1, before_2, before_3, before_4, before_5]
  rw [show (dat m P c).owesAt () t.succ = (dat m P c).owesAt () t.castSucc from rfl]
  iintro ⟨⟨G11, G12, G13, G14, G15, Hp⟩, Ho, ⟨%d0, G2⟩, ⟨%d1, G3⟩, ⟨%d2, G4⟩, ⟨%d3, G5⟩, ⟨%d4, G6⟩, ⟨%d5, G7⟩, ⟨%Y6, %y6, G8⟩, ⟨%Y7, %y7, G9⟩, ⟨%Y8, %y8, G10⟩⟩
  iapply (wp_wand_r Idealize.ShloMosaic.frame (wpE (defs₀ (F := F)) Variants.none (c : Thread nD τ) none) Set.univ)
  isplitl [G2 G3 G4 G5 G6 G7 G8 G9 G10 G11 G12 G13 G14 G15]
  · iapply (body_rel Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (P.P6 c t) (P.P7 c t) (P.P8 c t) (P.S c t.castSucc) (P.S c t.succ) (cond_cases t) (h.A c t) (h.B c t) (h.C c t))
    isplitl [G2]; · iexact G2
    isplitl [G3]; · iexact G3
    isplitl [G4]; · iexact G4
    isplitl [G5]; · iexact G5
    isplitl [G6]; · iexact G6
    isplitl [G7]; · iexact G7
    isplitl [G8]; · iexists _; iexact G8
    isplitl [G9]; · iexists _; iexact G9
    isplitl [G10]; · iexists _; iexact G10
    isplitl [G11]; · iexact G11
    isplitl [G12]; · iexact G12
    isplitl [G13]; · iexact G13
    isplitl [G14]; · iexact G14
    iexact G15
  · iintro %_ ⟨G2, G3, G4, G5, G6, G7, G8, G9, G10, G11, G12, G13, G14, G15⟩
    isplitl [G11 G12 G13 G14 G15 Hp]
    · isplitl [G11]; · iexact G11
      isplitl [G12]; · iexact G12
      isplitl [G13]; · iexact G13
      isplitl [G14]; · iexact G14
      isplitl [G15]; · iexact G15
      iexact Hp
    isplitl [Ho]; · iexact Ho
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (h : Steps m P) (c : Dev nD) :
    BodyObligationRel (dat m P c) (defs₀ (F := F)) Variants.none () Set.univ fgt (Rl P c) := fun t => by
  rw [bigSep_W0, bigSep_W0, defs₀_row]
  exact triple_restated (sound_body h c t) rfl .rfl fun _ => .rfl

/-- The relational data of the run. -/
abbrev rdat (m : (ℓ : Loc nD τ sig) → Buf (Elt F) ℓ) (P : Preds F) (c : Dev nD) : RDat τ (Elt F) Unit ℕ (UR sig nD τ) ℕ cfg0 c := (dat m P c).toRRel fgt (Rl P c)

theorem phi_in (h : Steps m P) (c : Dev nD) : Pipeline.ΦA spec0 c ⊢ Phi P c 0 := by
  unfold Pipeline.ΦA Phi
  rw [scopedRest0_eq]
  simp only [owns_whole]
  iintro ⟨⟨G11, G12, ⟨%Y, G13⟩, G14, G15⟩, Hp⟩
  isplitl [G11]; · iexact G11
  isplitl [G12]; · iexact G12
  isplitl [G13]
  · iexists Y; isplitr
    · ipureintro; exact h.S0 c Y
    · iexact G13
  isplitl [G14]; · iexact G14
  isplitl [G15]; · iexact G15
  iexact Hp

theorem phi_out (c : Dev nD) (t) : Phi P c t ⊢ Pipeline.ΦA spec0 c := by
  unfold Pipeline.ΦA Phi
  rw [scopedRest0_eq]
  simp only [owns_whole]
  iintro ⟨G11, G12, ⟨%Y, %y, G13⟩, G14, G15, Hp⟩
  isplitl [G11 G12 G13 G14 G15]
  · isplitl [G11]; · iexact G11
    isplitl [G12]; · iexact G12
    isplitl [G13]; · iexists Y; iexact G13
    isplitl [G14]; · iexact G14
    iexact G15
  iexact Hp

set_option backward.isDefEq.respectTransparency.types false in
set_option maxHeartbeats 800000 in
/-- The run: every execution ends with the arrays at what the relational data allow, every other buffer unchanged, every counter at zero. -/
theorem run_rel (h : Steps m P) : θ_run defs (onTc (τ := τ) (main (F := F))) (s₀ m ρ)
    (fun r => RDat.FramePost cfg0 (rdat m P) (V m) r ∧ r.2.sem = fun _ => 0) :=
  RDat.θ_run_frame_track (Q' := _) cfgs (0 : Fin 1) launch0 defs₀ Variants.none (rdat m P) m ρ main
    (hbody := fun c => (body_obligation h c).toRRel) (hshare := fun c => (dat m P c).share_full fun _ => rfl)
    (howed := fun _ _ => rfl) (V := V m) (hmain := hmain m Variants.none) (hA := fun _ _ => rfl) (hin := phi_in h) (hout := fun c => phi_out c _)
    (hQ' := fun _ h => h)

/-- The post of `run_rel` at one core. -/
theorem post_args {r : PUnit × MemSt nD τ sig (Elt F)} (h : RDat.FramePost cfg0 (rdat m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    ((h c).2 main_arg1 (Pipeline.mem_restRefs_of main_arg1 (by decide) (by decide))).trans (V_main_arg1 m c),
    (h.arr_in c 1 rfl).trans (V_main_arg2 m c),
    ((h c).2 main_arg3 (Pipeline.mem_restRefs_of main_arg3 (by decide) (by decide))).trans (V_main_arg3 m c),
    (h.arr_in c 2 rfl).trans (V_main_arg4 m c),
    ((h c).2 main_arg5 (Pipeline.mem_restRefs_of main_arg5 (by decide) (by decide))).trans (V_main_arg5 m c)⟩

/-- The predicates that hold of everything. -/
def anyPreds : Preds F := ⟨fun _ _ _ => True, fun _ _ _ => True, fun _ _ _ => True, fun _ _ _ => True⟩

theorem anySteps (m : (ℓ : Loc nD τ sig) → Buf (Elt F) ℓ) : Steps m (anyPreds (F := F)) :=
  ⟨fun _ _ _ _ _ _ _ _ _ _ _ _ => ⟨trivial, trivial, trivial, trivial⟩, fun _ _ _ _ _ _ _ _ _ _ _ _ => ⟨trivial, trivial, trivial, trivial⟩,
    fun _ _ _ _ _ _ _ _ _ _ _ _ => ⟨trivial, trivial, trivial, trivial⟩, fun _ _ => trivial⟩

/-- The frame: every execution ends, the arguments end unchanged, every counter ends at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => post_args h.1 c, h.2⟩) (run_rel ρ (anySteps m))

end Cert.Proof.Kernel

end
-- ==== Proof.Bytes.lean ====
/- Four bytes packed in a word, their largest magnitude through signed halfword maxima. -/
module

public import Idealize.ShloMosaic.Lib.BitcastPair
public import Idealize.ShloMosaic.Lib.BitcastFour
public import Idealize.ShloMosaic.Lib.ValueLayout

@[expose] public section

set_option maxRecDepth 16384

noncomputable section

namespace Cert.Proof.Bytes

open Idealize.ShloMosaic Idealize.ShloMosaic.ValueIdx

/-- The upper half of a word. -/
def hi (w : BitVec 32) : BitVec 16 := w.extractLsb' 16 16
/-- The lower half of a word. -/
def lo (w : BitVec 32) : BitVec 16 := w.extractLsb' 0 16

theorem hi_append (a b : BitVec 16) : hi (a ++ b : BitVec 32) = a := by
  apply BitVec.eq_of_getLsbD_eq
  intro i h
  simp only [hi, BitVec.getLsbD_extractLsb', h, decide_true, Bool.true_and]
  rw [BitVec.getLsbD_append, if_neg (by omega)]
  congr 1; omega

theorem lo_append (a b : BitVec 16) : lo (a ++ b : BitVec 32) = b := by
  apply BitVec.eq_of_getLsbD_eq
  intro i h
  simp only [lo, BitVec.getLsbD_extractLsb', h, decide_true, Bool.true_and]
  rw [BitVec.getLsbD_append, if_pos (by omega)]
  congr 1; omega

theorem append_hi_lo (w : BitVec 32) : (hi w ++ lo w : BitVec 32) = w := by
  apply BitVec.eq_of_getLsbD_eq
  intro i h
  rw [BitVec.getLsbD_append]
  by_cases h16 : i < 16
  · simp [lo, h16]
  · have e : 16 + (i - 16) = i := by omega
    have e' : i - 16 < 16 := by omega
    simp [hi, h16, e, e']

theorem hi_toNat (w : BitVec 32) : (hi w).toNat = w.toNat / 65536 := by
  have := w.isLt
  simp only [hi, BitVec.extractLsb'_toNat, Nat.shiftRight_eq_div_pow]
  omega

theorem lo_toNat (w : BitVec 32) : (lo w).toNat = w.toNat % 65536 := by
  simp only [lo, BitVec.extractLsb'_toNat, Nat.shiftRight_eq_div_pow]
  omega

/-- The signed halfword maxima of two words. -/
def hmax (a b : BitVec 32) : BitVec 32 := IntOp.maxsi (hi a) (hi b) ++ IntOp.maxsi (lo a) (lo b)

/-- Both halves are nonnegative as signed halfwords. -/
def Pos (w : BitVec 32) : Prop := (hi w).toNat < 32768 ∧ (lo w).toNat < 32768

theorem maxsi_toNat (a b : BitVec 16) (ha : a.toNat < 32768) (hb : b.toNat < 32768) :
    (IntOp.maxsi a b).toNat = max a.toNat b.toNat := by
  unfold IntOp.maxsi
  have e : b.slt a = decide (b.toNat < a.toNat) := by
    rw [BitVec.slt_eq_decide]
    congr 1
    rw [BitVec.toInt_eq_toNat_cond, BitVec.toInt_eq_toNat_cond, if_pos (by omega), if_pos (by omega)]
    simp
  rw [e]
  by_cases h : b.toNat < a.toNat
  · simp only [h, decide_true, if_true]; omega
  · simp only [h, decide_false]; simp; omega

/-- The top byte of the upper and of the lower half. -/
def hiT (w : BitVec 32) : ℕ := (hi w).toNat / 256
def loT (w : BitVec 32) : ℕ := (lo w).toNat / 256

theorem hmax_spec (a b : BitVec 32) (ha : Pos a) (hb : Pos b) :
    Pos (hmax a b) ∧ hiT (hmax a b) = max (hiT a) (hiT b) ∧ loT (hmax a b) = max (loT a) (loT b) := by
  have h1 : (hi (hmax a b)).toNat = max (hi a).toNat (hi b).toNat := by
    unfold hmax; rw [hi_append, maxsi_toNat _ _ ha.1 hb.1]
  have h2 : (lo (hmax a b)).toNat = max (lo a).toNat (lo b).toNat := by
    unfold hmax; rw [lo_append, maxsi_toNat _ _ ha.2 hb.2]
  obtain ⟨a1, a2⟩ := ha
  obtain ⟨b1, b2⟩ := hb
  refine ⟨⟨?_, ?_⟩, ?_, ?_⟩
  · rw [h1]; omega
  · rw [h2]; omega
  · unfold hiT; rw [h1]; omega
  · unfold loT; rw [h2]; omega

/-- Byte `b` of a word with its sign bit cleared. -/
def wb (w : BitVec 32) (b : ℕ) : ℕ := w.toNat / 256 ^ b % 128

theorem mask_eq (w : BitVec 32) :
    w &&& 2139062143#32 = (w.extractLsb' 24 8 &&& 127#8) ++ (w.extractLsb' 16 8 &&& 127#8) ++ (w.extractLsb' 8 8 &&& 127#8) ++ (w.extractLsb' 0 8 &&& 127#8) := by
  apply BitVec.eq_of_getLsbD_eq
  intro i h
  have h' : i < 32 := h
  rw [BitVec.getLsbD_append, BitVec.getLsbD_append, BitVec.getLsbD_append]
  interval_cases i <;> simp

theorem and127_toNat (x : BitVec 8) : (x &&& 127#8).toNat = x.toNat % 128 := by
  rw [BitVec.toNat_and]; exact Nat.and_two_pow_sub_one_eq_mod x.toNat 7

theorem mask_toNat (w : BitVec 32) :
    (w &&& 2139062143#32).toNat = wb w 3 * 16777216 + wb w 2 * 65536 + wb w 1 * 256 + wb w 0 := by
  rw [mask_eq]
  simp only [BitVec.toNat_append, and127_toNat, BitVec.extractLsb'_toNat, Nat.shiftRight_eq_div_pow, wb]
  have o : ∀ (x y : ℕ), y < 256 → x <<< 8 ||| y = x * 256 + y := fun x y hy => by
    rw [← Nat.shiftLeft_add_eq_or_of_lt (b := y) (i := 8) (by omega), Nat.shiftLeft_eq]
  rw [o _ _ (by omega), o _ _ (by omega), o _ _ (by omega)]
  omega

theorem wb_lt (w : BitVec 32) (b : ℕ) : wb w b < 128 := Nat.mod_lt _ (by decide)

theorem shl8_toNat (w : BitVec 32) : (w <<< 8).toNat = w.toNat * 256 % 4294967296 := by
  simp [BitVec.toNat_shiftLeft, Nat.shiftLeft_eq]
theorem shl16_toNat (w : BitVec 32) : (w <<< 16).toNat = w.toNat * 65536 % 4294967296 := by
  simp [BitVec.toNat_shiftLeft, Nat.shiftLeft_eq]

/-- The maxima of neighbouring bytes: the top byte of each half holds the larger of its two. -/
def mx (w : BitVec 32) : BitVec 32 := hmax (w &&& 2139062143#32) ((w &&& 2139062143#32) <<< 8)

theorem mx_spec (w : BitVec 32) : Pos (mx w) ∧ hiT (mx w) = max (wb w 3) (wb w 2) ∧ loT (mx w) = max (wb w 1) (wb w 0) := by
  have h0 := wb_lt w 0
  have h1 := wb_lt w 1
  have h2 := wb_lt w 2
  have h3 := wb_lt w 3
  have pa : Pos (w &&& 2139062143#32) := by
    constructor
    · rw [hi_toNat, mask_toNat]; omega
    · rw [lo_toNat, mask_toNat]; omega
  have pb : Pos ((w &&& 2139062143#32) <<< 8) := by
    constructor
    · rw [hi_toNat, shl8_toNat, mask_toNat]; omega
    · rw [lo_toNat, shl8_toNat, mask_toNat]; omega
  obtain ⟨p, e1, e2⟩ := hmax_spec _ _ pa pb
  refine ⟨p, e1.trans ?_, e2.trans ?_⟩
  · unfold hiT; rw [hi_toNat, hi_toNat, shl8_toNat, mask_toNat]; omega
  · unfold loT; rw [lo_toNat, lo_toNat, shl8_toNat, mask_toNat]; omega

/-- The larger of the two halves' top bytes, brought down. -/
def fold16 (m : BitVec 32) : BitVec 32 := hmax m (m <<< 16) >>> 24

theorem fold16_toNat (m : BitVec 32) (h : Pos m) : (fold16 m).toNat = max (hiT m) (loT m) := by
  have hp := h
  obtain ⟨a1, a2⟩ := h
  rw [hi_toNat] at a1
  rw [lo_toNat] at a2
  have pb : Pos (m <<< 16) := by
    constructor
    · rw [hi_toNat, shl16_toNat]; omega
    · rw [lo_toNat, shl16_toNat]; omega
  obtain ⟨p, e1, e2⟩ := hmax_spec _ _ hp pb
  have e : (fold16 m).toNat = hiT (hmax m (m <<< 16)) := by
    unfold fold16 hiT
    rw [hi_toNat, BitVec.toNat_ushiftRight, Nat.shiftRight_eq_div_pow]; omega
  rw [e, e1]
  unfold hiT loT
  rw [hi_toNat, hi_toNat, lo_toNat, shl16_toNat]; omega

/-- The folded maxima of eight words. -/
def mx8 (w : Fin 8 → BitVec 32) : BitVec 32 :=
  hmax (hmax (hmax (hmax (hmax (hmax (hmax (mx (w 0)) (mx (w 1))) (mx (w 2))) (mx (w 3))) (mx (w 4))) (mx (w 5))) (mx (w 6))) (mx (w 7))

/-- The largest byte magnitude of eight words. -/
def umax (w : Fin 8 → BitVec 32) : ℕ := Finset.univ.sup fun s => Finset.univ.sup fun b : Fin 4 => wb (w s) b.val

theorem umax_lt (w : Fin 8 → BitVec 32) : umax w < 128 := by
  unfold umax
  rw [Finset.sup_lt_iff (by decide)]
  intro s _
  rw [Finset.sup_lt_iff (by decide)]
  intro b _
  exact wb_lt _ _

theorem mx8_spec (w : Fin 8 → BitVec 32) : fold16 (mx8 w) = BitVec.ofNat 32 (umax w) := by
  have m0 := mx_spec (w 0)
  have m1 := mx_spec (w 1)
  have m2 := mx_spec (w 2)
  have m3 := mx_spec (w 3)
  have m4 := mx_spec (w 4)
  have m5 := mx_spec (w 5)
  have m6 := mx_spec (w 6)
  have m7 := mx_spec (w 7)
  have s1 := hmax_spec _ _ m0.1 m1.1
  have s2 := hmax_spec _ _ s1.1 m2.1
  have s3 := hmax_spec _ _ s2.1 m3.1
  have s4 := hmax_spec _ _ s3.1 m4.1
  have s5 := hmax_spec _ _ s4.1 m5.1
  have s6 := hmax_spec _ _ s5.1 m6.1
  have s7 := hmax_spec _ _ s6.1 m7.1
  apply BitVec.eq_of_toNat_eq
  have hl := umax_lt w
  rw [BitVec.toNat_ofNat, Nat.mod_eq_of_lt (by omega)]
  unfold mx8
  rw [fold16_toNat _ s7.1]
  rw [s7.2.1, s6.2.1, s5.2.1, s4.2.1, s3.2.1, s2.2.1, s1.2.1, s7.2.2, s6.2.2, s5.2.2, s4.2.2, s3.2.2, s2.2.2, s1.2.2,
    m0.2.1, m1.2.1, m2.2.1, m3.2.1, m4.2.1, m5.2.1, m6.2.1, m7.2.1, m0.2.2, m1.2.2, m2.2.2, m3.2.2, m4.2.2, m5.2.2, m6.2.2, m7.2.2]
  unfold umax
  rw [show (Finset.univ : Finset (Fin 8)) = {0, 1, 2, 3, 4, 5, 6, 7} from rfl, show (Finset.univ : Finset (Fin 4)) = {0, 1, 2, 3} from rfl]
  simp only [Finset.sup_insert, Finset.sup_singleton]
  show max _ _ = max _ (max _ (max _ (max _ (max _ (max _ (max _ _))))))
  simp only [show ((0 : Fin 4).val) = 0 from rfl, show ((1 : Fin 4).val) = 1 from rfl, show ((2 : Fin 4).val) = 2 from rfl, show ((3 : Fin 4).val) = 3 from rfl]
  apply le_antisymm
  all_goals repeat' apply max_le
  all_goals simp only [le_max_iff, le_refl, true_or, or_true]

/-! ## Through the bit casts -/

variable {r n : ℕ}

theorem maxsi_cast {s t : Shape} (A B : s.Idx → BitVec 32) (h : s.Bitcasts 32 t 16) :
    maxsi (bitcast t 16 A h) (bitcast t 16 B h) = bitcast t 16 (fun i => hmax (A i) (B i)) h := by
  funext j
  show IntOp.maxsi (bitcast t 16 A h j) (bitcast t 16 B h j) = _
  rw [bitcast_32_16, bitcast_32_16, bitcast_32_16]
  rcases Nat.mod_two_eq_zero_or_one (t.row j) with e | e
  · have k : ∀ w : BitVec 32, w.extractLsb' (16 * (t.row j % 2)) 16 = lo w := fun w => by rw [e]; rfl
    rw [k, k, k]; unfold hmax; rw [lo_append]
  · have k : ∀ w : BitVec 32, w.extractLsb' (16 * (t.row j % 2)) 16 = hi w := fun w => by rw [e]; rfl
    rw [k, k, k]; unfold hmax; rw [hi_append]

theorem cast_cast {R : ℕ} (A : (⟨2, ![r, n]⟩ : Shape).Idx → BitVec 32) (h : (⟨2, ![r, n]⟩ : Shape).Bitcasts 32 ⟨2, ![R, n]⟩ 16)
    (h' : (⟨2, ![R, n]⟩ : Shape).Bitcasts 16 ⟨2, ![r, n]⟩ 32) :
    bitcast ⟨2, ![r, n]⟩ 32 (bitcast ⟨2, ![R, n]⟩ 16 A h) h' = A := by
  funext j
  rw [bitcast_16_32, bitcast_32_16, bitcast_32_16]
  have e : ∀ (p : ℕ) (hp) (hq), p / 2 = (⟨2, ![r, n]⟩ : Shape).row j → h.srcIdx (h'.srcIdx j p hp) ((⟨2, ![R, n]⟩ : Shape).row (h'.srcIdx j p hp) / 2) hq = j := by
    intro p hp hq he
    funext a
    apply Fin.ext
    match a with
    | ⟨0, _⟩ =>
      rw [Shape.Bitcasts.srcIdx_row h _ _ _ _ rfl]
      exact he
    | ⟨1, _⟩ =>
      rw [Shape.Bitcasts.srcIdx_other h _ _ _ _ (by simp)]
      exact Shape.Bitcasts.srcIdx_other h' _ _ _ _ (by simp)
  rw [e (2 * (⟨2, ![r, n]⟩ : Shape).row j + 1) _ _ (by omega), e (2 * (⟨2, ![r, n]⟩ : Shape).row j) _ _ (by omega)]
  have r1 : (⟨2, ![R, n]⟩ : Shape).row (h'.srcIdx j (2 * (⟨2, ![r, n]⟩ : Shape).row j + 1) (h'.pair_lt j 1 (by decide))) % 2 = 1 := by
    show (2 * (⟨2, ![r, n]⟩ : Shape).row j + 1) % 2 = 1; omega
  have r0 : (⟨2, ![R, n]⟩ : Shape).row (h'.srcIdx j (2 * (⟨2, ![r, n]⟩ : Shape).row j) (by simpa using h'.pair_lt j 0 (by decide))) % 2 = 0 := by
    show (2 * (⟨2, ![r, n]⟩ : Shape).row j) % 2 = 0; omega
  rw [r1, r0]
  exact append_hi_lo _

/-- A signed halfword maximum of two word arrays, word by word. -/
theorem hmax_cast {R : ℕ} (A B : (⟨2, ![r, n]⟩ : Shape).Idx → BitVec 32) (h : (⟨2, ![r, n]⟩ : Shape).Bitcasts 32 ⟨2, ![R, n]⟩ 16)
    (h' : (⟨2, ![R, n]⟩ : Shape).Bitcasts 16 ⟨2, ![r, n]⟩ 32) :
    bitcast ⟨2, ![r, n]⟩ 32 (maxsi (bitcast ⟨2, ![R, n]⟩ 16 A h) (bitcast ⟨2, ![R, n]⟩ 16 B h)) h' = fun i => hmax (A i) (B i) := by
  rw [maxsi_cast, cast_cast]

/-- Byte `b` of word row `p` is byte row `4 p + b`. -/
theorem wb_cast {R : ℕ} (x : (⟨2, ![R, n]⟩ : Shape).Idx → BitVec 8)
    (h : (⟨2, ![R, n]⟩ : Shape).Bitcasts 8 ⟨2, ![r, n]⟩ 32) (a : Fin r) (l : Fin n) (b : ℕ) (hb : b < 4) (p : Fin R)
    (hp : p.val = 4 * a.val + b) :
    (bitcast ⟨2, ![r, n]⟩ 32 x h (ix2 a l)).extractLsb' (8 * b) 8 = x (ix2 p l) := by
  apply BitVec.eq_of_getLsbD_eq
  intro i hi
  have h8 : i < 8 := hi
  rw [BitVec.getLsbD_extractLsb', bitcast_8_32_getLsbD_ix2 x h a l (8 * b + i) (by omega) p (by omega)]
  have e : (8 * b + i) % 8 = i := by omega
  rw [e]
  simp [h8]

theorem wb_eq (w : BitVec 32) (b : ℕ) : wb w b = (w.extractLsb' (8 * b) 8).toNat % 128 := by
  unfold wb
  rw [BitVec.extractLsb'_toNat, Nat.shiftRight_eq_div_pow, Nat.pow_mul]
  show _ = w.toNat / 256 ^ b % 256 % 128
  omega

end Cert.Proof.Bytes

end
-- ==== Proof.ScratchI.lean ====
/- What the strided scratch buffer of maxima hands back. -/
module

public import proofs.«01_k».proof.Proof.TripI
public import proofs.«01_k».proof.Proof.Bytes
public import Idealize.ShloMosaic.Lib.Pipeline.Value

@[expose] public section

set_option maxRecDepth 16384

noncomputable section

namespace Cert.Proof.KernelIdeal

open Cert.KernelIdeal Cert.KernelIdeal.Gen Cert.Proof.Bytes
open Idealize.ShloMosaic Idealize.ShloMosaic.TcCoe Idealize.ShloMosaic.Tactic Idealize.ShloMosaic.ValueIdx

variable {F : FTy → Type} [FloatOps F]

/-- What the scratch of maxima holds: row `9 g + s` of half `h` is row `8 g + s` of that half's maxima. -/
def G14 (M : ℕ → S64x128.Idx → BitVec 32) (y : S2x72x128.Idx) : BitVec 32 :=
  M (y 0).val (ix2 ⟨(8 * ((y 1).val / 9) + (y 1).val % 9) % 64, Nat.mod_lt _ (by decide)⟩ (y 2))

/-- A piece of the scratch holds what it should. -/
theorem piece14 (h g o : ℕ) (ho : o = 9 * g) (hg : g < 8) (M : ℕ → S64x128.Idx → BitVec 32) (w : S8x128.Idx → BitVec 32)
    (hw : ∀ (a : Fin 8) (l : Fin 128), w (ix2 a l) = M h (ix2 ⟨8 * g + a.val, by omega⟩ l))
    (i1 : ∀ a, (![h, 0, 0] : Fin 3 → ℕ) a + S1x72x128.size a ≤ S2x72x128.size a)
    (i2 : ∀ a, (![o, 0] : Fin 2 → ℕ) a + S8x128.size a ≤ (⟨2, ![72, 128]⟩ : Shape).size a) (h0) (hs) (hst)
    (hR : ((Rect.unit (s := ⟨2, ![72, 128]⟩) ![o, 0] S8x128.size i2).consLift ![1, 72, 128] h0 hs).shape.numel
      = (Rect.unit (s := ⟨2, ![72, 128]⟩) ![o, 0] S8x128.size i2).shape.numel)
    (x : ((Rect.unit (s := S2x72x128) ![h, 0, 0] S1x72x128.size i1).within
      ((Rect.unit (s := ⟨2, ![72, 128]⟩) ![o, 0] S8x128.size i2).consLift ![1, 72, 128] h0 hs) hst).shape.Idx) :
    Rect.payAlong hR w x = G14 M (((Rect.unit (s := S2x72x128) ![h, 0, 0] S1x72x128.size i1).within
      ((Rect.unit (s := ⟨2, ![72, 128]⟩) ![o, 0] S8x128.size i2).consLift ![1, 72, 128] h0 hs) hst).emb x) := by
  subst ho
  have l0 : (x 0).val < 1 := (x 0).isLt
  have l1 : (x 1).val < 8 := (x 1).isLt
  have l2 : (x 2).val < 128 := (x 2).isLt
  rw [Rect.payAlong_consLift (Rect.unit (s := ⟨2, ![72, 128]⟩) ![9 * g, 0] S8x128.size i2) ![1, 72, 128] h0 hs w hR x
    (ix2 ⟨(x 1).val, l1⟩ ⟨(x 2).val, l2⟩) (fun i => match i with | ⟨0, _⟩ => rfl | ⟨1, _⟩ => rfl)]
  rw [hw]
  unfold G14
  have e0 : ((((Rect.unit (s := S2x72x128) ![h, 0, 0] S1x72x128.size i1).within
      ((Rect.unit (s := ⟨2, ![72, 128]⟩) ![9 * g, 0] S8x128.size i2).consLift ![1, 72, 128] h0 hs) hst).emb x) 0).val = h := by
    show (h + 0) + 1 * (x 0).val = h; omega
  have e1 : ((((Rect.unit (s := S2x72x128) ![h, 0, 0] S1x72x128.size i1).within
      ((Rect.unit (s := ⟨2, ![72, 128]⟩) ![9 * g, 0] S8x128.size i2).consLift ![1, 72, 128] h0 hs) hst).emb x) 1).val = 9 * g + (x 1).val := by
    show (0 + 9 * g) + 1 * (x 1).val = _; omega
  have e2 : ((((Rect.unit (s := S2x72x128) ![h, 0, 0] S1x72x128.size i1).within
      ((Rect.unit (s := ⟨2, ![72, 128]⟩) ![9 * g, 0] S8x128.size i2).consLift ![1, 72, 128] h0 hs) hst).emb x) 2).val = (x 2).val := by
    show (0 + 0) + 1 * (x 2).val = _; omega
  rw [e0]
  congr 1
  refine congrArg₂ ix2 (Fin.ext ?_) (Fin.ext e2.symm)
  show 8 * g + (x 1).val = (8 * (_ / 9) + _ % 9) % 64
  rw [e1]; omega

/-- A strided load of the scratch. -/
theorem load14 (h s : ℕ) (hs8 : s < 8) (hh : h < 2) (M : ℕ → S64x128.Idx → BitVec 32) (v : View sig .tc .vmem S2x72x128 .i32)
    (L : List (View.Piece (Elt F) S2x72x128 .i32)) (hL : ∀ p ∈ L, ∀ x : p.1.shape.Idx, p.2 x = G14 M (p.1.emb x))
    (hc : ∀ (a : Fin 8) (y : S2x72x128.Idx), (y 0).val = h → (y 1).val = 9 * a.val + s → ∃ p ∈ L, y ∈ p.1.set)
    (i1 : ∀ a, (![h, 0, 0] : Fin 3 → ℕ) a + S1x72x128.size a ≤ S2x72x128.size a) (i2) (h0) (hs) (hst)
    (hR : (⟨![s, 0], S8x128.size, ![9, 1], i2⟩ : LoadRect ⟨2, ![72, 128]⟩).shape.numel
      = (LoadRect.consLift (n := 2) (d := ![72, 128]) ⟨![s, 0], S8x128.size, ![9, 1], i2⟩ ![1, 72, 128] h0 hs).shape.numel) :
    LoadRect.valAlong hR (v.readCov L ((Rect.unit (s := S2x72x128) ![h, 0, 0] S1x72x128.size i1).withinL
      (LoadRect.consLift (n := 2) (d := ![72, 128]) ⟨![s, 0], S8x128.size, ![9, 1], i2⟩ ![1, 72, 128] h0 hs) hst))
      = fun x : S8x128.Idx => M h (ix2 ⟨8 * (x 0).val + s, by have : (x 0).val < 8 := (x 0).isLt; omega⟩ (x 1)) := by
  funext x
  have l0 : (x 0).val < 8 := (x 0).isLt
  have l1 : (x 1).val < 128 := (x 1).isLt
  rw [View.readCov_eq_canon']
  show View.canon L (LoadRect.idx ((Rect.unit (s := S2x72x128) ![h, 0, 0] S1x72x128.size i1).withinL (LoadRect.consLift (n := 2) (d := ![72, 128]) ⟨![s, 0], S8x128.size, ![9, 1], i2⟩ ![1, 72, 128] h0 hs) hst) (Shape.reshapeEquiv hR x)) = _
  have hx : Shape.reshapeEquiv hR x = Fin.cons ⟨0, Nat.one_pos⟩ x :=
    Shape.reshapeEquiv_cons_one (d := S8x128.size) _ _
  rw [hx]
  set y : S2x72x128.Idx := LoadRect.idx ((Rect.unit (s := S2x72x128) ![h, 0, 0] S1x72x128.size i1).withinL (LoadRect.consLift (n := 2) (d := ![72, 128]) ⟨![s, 0], S8x128.size, ![9, 1], i2⟩ ![1, 72, 128] h0 hs) hst) (Fin.cons ⟨0, Nat.one_pos⟩ x) with hy
  have e0 : (y 0).val = h := by rw [hy]; show (h + 0) + 1 * 0 = h; omega
  have e1 : (y 1).val = 9 * (x 0).val + s := by rw [hy]; show (0 + s) + 9 * (x 0).val = _; omega
  have e2 : (y 2).val = (x 1).val := by rw [hy]; show (0 + 0) + 1 * (x 1).val = _; omega
  refine (View.canon_apply_of_pieces (G14 M) L hL y (hc ⟨(x 0).val, l0⟩ y e0 e1)).trans ?_
  unfold G14
  rw [e0]
  congr 1
  refine congrArg₂ ix2 (Fin.ext ?_) (Fin.ext e2)
  show (8 * ((y 1).val / 9) + (y 1).val % 9) % 64 = _
  rw [e1]; show _ = 8 * (x 0).val + s; omega

theorem inb14 (h : ℕ) (hh : h < 2) : ∀ a, (![h, 0, 0] : Fin 3 → ℕ) a + S1x72x128.size a ≤ S2x72x128.size a := fun a =>
  match a with
  | ⟨0, _⟩ => by show h + 1 ≤ 2; omega
  | ⟨1, _⟩ => by show 0 + 72 ≤ 72; omega
  | ⟨2, _⟩ => by show 0 + 128 ≤ 128; omega

theorem mem14 (h g o : ℕ) (ho : o = 9 * g) (i1 : ∀ a, (![h, 0, 0] : Fin 3 → ℕ) a + S1x72x128.size a ≤ S2x72x128.size a)
    (i2 : ∀ a, (![o, 0] : Fin 2 → ℕ) a + S8x128.size a ≤ (⟨2, ![72, 128]⟩ : Shape).size a) (h0) (hs) (hst) (y : S2x72x128.Idx)
    (e0 : (y 0).val = h) (e1 : 9 * g ≤ (y 1).val) (e2 : (y 1).val < 9 * g + 8) :
    y ∈ ((Rect.unit (s := S2x72x128) ![h, 0, 0] S1x72x128.size i1).within
      ((Rect.unit (s := ⟨2, ![72, 128]⟩) ![o, 0] S8x128.size i2).consLift ![1, 72, 128] h0 hs) hst).set := by
  subst ho
  have l2 : (y 2).val < 128 := (y 2).isLt
  rw [LoadRect.mem_set]
  intro a
  match a with
  | ⟨0, _⟩ => exact ⟨0, Nat.one_pos, show (y 0).val = (h + 0) + 1 * 0 by omega⟩
  | ⟨1, _⟩ => exact ⟨(y 1).val - 9 * g, (show (y 1).val - 9 * g < 8 by omega), show (y 1).val = (0 + 9 * g) + 1 * ((y 1).val - 9 * g) by omega⟩
  | ⟨2, _⟩ => exact ⟨(y 2).val, l2, show (y 2).val = (0 + 0) + 1 * (y 2).val by omega⟩

theorem inbRow (o : ℕ) (ho : o + 8 ≤ 72) : ∀ a, (![o, 0] : Fin 2 → ℕ) a + S8x128.size a ≤ (⟨2, ![72, 128]⟩ : Shape).size a := fun a =>
  match a with
  | ⟨0, _⟩ => ho
  | ⟨1, _⟩ => (by decide : 0 + 128 ≤ 128)

theorem lift14 : ∀ i : Fin 2, (![1, 72, 128] : Fin 3 → ℕ) i.succ = (![72, 128] : Fin 2 → ℕ) i := by decide

/-- One piece of the scratch of maxima. -/
def pc14 (F : FTy → Type) (h : ℕ) (hh : h < 2) (o : ℕ) (ho : o + 8 ≤ 72) (w : S8x128.Idx → BitVec 32) : View.Piece (Elt F) S2x72x128 .i32 :=
  ⟨(Rect.unit (s := S2x72x128) ![h, 0, 0] S1x72x128.size (inb14 h hh)).within
    ((Rect.unit (s := ⟨2, ![72, 128]⟩) ![o, 0] S8x128.size (inbRow o ho)).consLift ![1, 72, 128] rfl lift14) (fun _ => rfl),
    Rect.payAlong (R := (Rect.unit (s := ⟨2, ![72, 128]⟩) ![o, 0] S8x128.size (inbRow o ho)).consLift ![1, 72, 128] rfl lift14)
      (r := Rect.unit (s := ⟨2, ![72, 128]⟩) ![o, 0] S8x128.size (inbRow o ho))
      (Rect.numel_consLift _ _ _ _) w⟩

/-- The eight pieces written to one half of the scratch of maxima. -/
def pieces14 (F : FTy → Type) (h : ℕ) (hh : h < 2) (w0 w1 w2 w3 w4 w5 w6 w7 : S8x128.Idx → BitVec 32)
    (tail : List (View.Piece (Elt F) S2x72x128 .i32)) : List (View.Piece (Elt F) S2x72x128 .i32) :=
  pc14 F h hh 63 (by decide) w7 :: pc14 F h hh 54 (by decide) w6 :: pc14 F h hh 45 (by decide) w5 :: pc14 F h hh 36 (by decide) w4 :: pc14 F h hh 27 (by decide) w3 :: pc14 F h hh 18 (by decide) w2 :: pc14 F h hh 9 (by decide) w1 :: pc14 F h hh 0 (by decide) w0 :: tail

theorem pieces14_ok (h : ℕ) (hh : h < 2) (w0 w1 w2 w3 w4 w5 w6 w7 : S8x128.Idx → BitVec 32)
    (tail : List (View.Piece (Elt F) S2x72x128 .i32)) (M : ℕ → S64x128.Idx → BitVec 32)
    (hw : ∀ (a : Fin 8) (l : Fin 128), w0 (ix2 a l) = M h (ix2 ⟨8 * 0 + a.val, by omega⟩ l) ∧ w1 (ix2 a l) = M h (ix2 ⟨8 * 1 + a.val, by omega⟩ l) ∧ w2 (ix2 a l) = M h (ix2 ⟨8 * 2 + a.val, by omega⟩ l) ∧ w3 (ix2 a l) = M h (ix2 ⟨8 * 3 + a.val, by omega⟩ l) ∧ w4 (ix2 a l) = M h (ix2 ⟨8 * 4 + a.val, by omega⟩ l) ∧ w5 (ix2 a l) = M h (ix2 ⟨8 * 5 + a.val, by omega⟩ l) ∧ w6 (ix2 a l) = M h (ix2 ⟨8 * 6 + a.val, by omega⟩ l) ∧ w7 (ix2 a l) = M h (ix2 ⟨8 * 7 + a.val, by omega⟩ l))
    (ht : ∀ p ∈ tail, ∀ x : p.1.shape.Idx, p.2 x = G14 M (p.1.emb x)) :
    ∀ p ∈ pieces14 F h hh w0 w1 w2 w3 w4 w5 w6 w7 tail, ∀ x : p.1.shape.Idx, p.2 x = G14 M (p.1.emb x) := by
  unfold pieces14
  simp only [List.forall_mem_cons]
  exact ⟨fun x => piece14 h 7 63 rfl (by decide) M w7 (fun a l => (hw a l).2.2.2.2.2.2.2) (inb14 h hh) (inbRow 63 (by decide)) rfl lift14 (fun _ => rfl) (Rect.numel_consLift _ _ _ _) x, fun x => piece14 h 6 54 rfl (by decide) M w6 (fun a l => (hw a l).2.2.2.2.2.2.1) (inb14 h hh) (inbRow 54 (by decide)) rfl lift14 (fun _ => rfl) (Rect.numel_consLift _ _ _ _) x, fun x => piece14 h 5 45 rfl (by decide) M w5 (fun a l => (hw a l).2.2.2.2.2.1) (inb14 h hh) (inbRow 45 (by decide)) rfl lift14 (fun _ => rfl) (Rect.numel_consLift _ _ _ _) x, fun x => piece14 h 4 36 rfl (by decide) M w4 (fun a l => (hw a l).2.2.2.2.1) (inb14 h hh) (inbRow 36 (by decide)) rfl lift14 (fun _ => rfl) (Rect.numel_consLift _ _ _ _) x, fun x => piece14 h 3 27 rfl (by decide) M w3 (fun a l => (hw a l).2.2.2.1) (inb14 h hh) (inbRow 27 (by decide)) rfl lift14 (fun _ => rfl) (Rect.numel_consLift _ _ _ _) x, fun x => piece14 h 2 18 rfl (by decide) M w2 (fun a l => (hw a l).2.2.1) (inb14 h hh) (inbRow 18 (by decide)) rfl lift14 (fun _ => rfl) (Rect.numel_consLift _ _ _ _) x, fun x => piece14 h 1 9 rfl (by decide) M w1 (fun a l => (hw a l).2.1) (inb14 h hh) (inbRow 9 (by decide)) rfl lift14 (fun _ => rfl) (Rect.numel_consLift _ _ _ _) x, fun x => piece14 h 0 0 rfl (by decide) M w0 (fun a l => (hw a l).1) (inb14 h hh) (inbRow 0 (by decide)) rfl lift14 (fun _ => rfl) (Rect.numel_consLift _ _ _ _) x, ht⟩

theorem pieces14_cover (h : ℕ) (hh : h < 2) (w0 w1 w2 w3 w4 w5 w6 w7 : S8x128.Idx → BitVec 32)
    (tail : List (View.Piece (Elt F) S2x72x128 .i32)) (a : Fin 8) (s : ℕ) (hs : s < 8) (y : S2x72x128.Idx) (e0 : (y 0).val = h)
    (e1 : (y 1).val = 9 * a.val + s) : ∃ p ∈ pieces14 F h hh w0 w1 w2 w3 w4 w5 w6 w7 tail, y ∈ p.1.set := by
  unfold pieces14
  simp only [List.exists_mem_cons_iff]
  match a, e1 with
  | ⟨0, _⟩, e1 => exact .inr (.inr (.inr (.inr (.inr (.inr (.inr (.inl (mem14 h 0 0 rfl (inb14 h hh) (inbRow 0 (by decide)) rfl lift14 (fun _ => rfl) y e0 (by have e1 : (y 1).val = 9 * 0 + s := e1; omega) (by have e1 : (y 1).val = 9 * 0 + s := e1; omega)))))))))
  | ⟨1, _⟩, e1 => exact .inr (.inr (.inr (.inr (.inr (.inr (.inl (mem14 h 1 9 rfl (inb14 h hh) (inbRow 9 (by decide)) rfl lift14 (fun _ => rfl) y e0 (by have e1 : (y 1).val = 9 * 1 + s := e1; omega) (by have e1 : (y 1).val = 9 * 1 + s := e1; omega))))))))
  | ⟨2, _⟩, e1 => exact .inr (.inr (.inr (.inr (.inr (.inl (mem14 h 2 18 rfl (inb14 h hh) (inbRow 18 (by decide)) rfl lift14 (fun _ => rfl) y e0 (by have e1 : (y 1).val = 9 * 2 + s := e1; omega) (by have e1 : (y 1).val = 9 * 2 + s := e1; omega)))))))
  | ⟨3, _⟩, e1 => exact .inr (.inr (.inr (.inr (.inl (mem14 h 3 27 rfl (inb14 h hh) (inbRow 27 (by decide)) rfl lift14 (fun _ => rfl) y e0 (by have e1 : (y 1).val = 9 * 3 + s := e1; omega) (by have e1 : (y 1).val = 9 * 3 + s := e1; omega))))))
  | ⟨4, _⟩, e1 => exact .inr (.inr (.inr (.inl (mem14 h 4 36 rfl (inb14 h hh) (inbRow 36 (by decide)) rfl lift14 (fun _ => rfl) y e0 (by have e1 : (y 1).val = 9 * 4 + s := e1; omega) (by have e1 : (y 1).val = 9 * 4 + s := e1; omega)))))
  | ⟨5, _⟩, e1 => exact .inr (.inr (.inl (mem14 h 5 45 rfl (inb14 h hh) (inbRow 45 (by decide)) rfl lift14 (fun _ => rfl) y e0 (by have e1 : (y 1).val = 9 * 5 + s := e1; omega) (by have e1 : (y 1).val = 9 * 5 + s := e1; omega))))
  | ⟨6, _⟩, e1 => exact .inr (.inl (mem14 h 6 54 rfl (inb14 h hh) (inbRow 54 (by decide)) rfl lift14 (fun _ => rfl) y e0 (by have e1 : (y 1).val = 9 * 6 + s := e1; omega) (by have e1 : (y 1).val = 9 * 6 + s := e1; omega)))
  | ⟨7, _⟩, e1 => exact .inl (mem14 h 7 63 rfl (inb14 h hh) (inbRow 63 (by decide)) rfl lift14 (fun _ => rfl) y e0 (by have e1 : (y 1).val = 9 * 7 + s := e1; omega) (by have e1 : (y 1).val = 9 * 7 + s := e1; omega))

/-- The eight-row slice of an array of words. -/
theorem slice8 (X : S64x128.Idx → BitVec 32) (g o : ℕ) (ho : o = 8 * g) (hg : g < 8) (hs : S64x128.Slices ![o, 0] S8x128)
    (hc : S8x128.ShapeCasts S8x128) (a : Fin 8) (l : Fin 128) :
    shapeCast S8x128 (extractStridedSlice S8x128 ![o, 0] X hs) hc (ix2 a l) = X (ix2 ⟨8 * g + a.val, by omega⟩ l) := by
  subst ho
  rw [shapeCast_self]
  show X _ = X _
  congr 1
  funext b
  match b with
  | ⟨0, _⟩ => exact Fin.ext rfl
  | ⟨1, _⟩ => exact Fin.ext (Nat.zero_add _)

end Cert.Proof.KernelIdeal

end
-- ==== Proof.UmaxI.lean ====
/- The largest code magnitude of each group, as each trip computes it. -/
module

public import proofs.«01_k».proof.Proof.ScratchI

@[expose] public section

set_option maxRecDepth 16384

noncomputable section

namespace Cert.Proof.KernelIdeal

open Cert.KernelIdeal Cert.KernelIdeal.Gen Cert.Proof.Bytes
open Idealize.ShloMosaic Idealize.ShloMosaic.TcCoe Idealize.ShloMosaic.Tactic Idealize.ShloMosaic.ValueIdx

variable {F : FTy → Type} [FloatOps F]

/-- The largest magnitude of the 32 codes of each group and lane. -/
def U (W : S64x128.Idx → BitVec 32) : S8x128.Idx → BitVec 32 := fun x =>
  BitVec.ofNat 32 (umax fun s => W (ix2 ⟨8 * (x 0).val + s.val, by have : (x 0).val < 8 := (x 0).isLt; omega⟩ (x 1)))

/-- The words of row `8 x + s`, their neighbouring bytes' maxima. -/
def rowsOf (M : S64x128.Idx → BitVec 32) (s : ℕ) (hs : s < 8) : S8x128.Idx → BitVec 32 := fun x =>
  M (ix2 ⟨8 * (x 0).val + s, by have : (x 0).val < 8 := (x 0).isLt; omega⟩ (x 1))

theorem mx_cast (w : S64x128.Idx → BitVec 32) (h1 : S64x128.Bitcasts 32 S128x128 16) (h2 : S128x128.Bitcasts 16 S64x128 32) :
    bitcast S64x128 32 (maxsi (bitcast S128x128 16 (andi w (broadcast S64x128 2139062143#32)) h1)
      (bitcast S128x128 16 (shli (andi w (broadcast S64x128 2139062143#32)) (broadcast S64x128 8#32)) h1)) h2 = fun i => mx (w i) :=
  (hmax_cast (r := 64) (n := 128) (R := 128) _ _ h1 h2).trans rfl

theorem fold14 (W A0 A1 A2 A3 A4 A5 A6 A7 : S8x128.Idx → BitVec 32) (V : S64x128.Idx → BitVec 32)
    (h1 : S8x128.Bitcasts 32 S16x128 16) (h2 : S16x128.Bitcasts 16 S8x128 32)
    (e0 : A0 = rowsOf (fun i => mx (V i)) 0 (by decide)) (e1 : A1 = rowsOf (fun i => mx (V i)) 1 (by decide))
    (e2 : A2 = rowsOf (fun i => mx (V i)) 2 (by decide)) (e3 : A3 = rowsOf (fun i => mx (V i)) 3 (by decide))
    (e4 : A4 = rowsOf (fun i => mx (V i)) 4 (by decide)) (e5 : A5 = rowsOf (fun i => mx (V i)) 5 (by decide))
    (e6 : A6 = rowsOf (fun i => mx (V i)) 6 (by decide)) (e7 : A7 = rowsOf (fun i => mx (V i)) 7 (by decide))
    (M : S8x128.Idx → BitVec 32)
    (eM : M = bitcast S8x128 32 (maxsi (maxsi (maxsi (maxsi (maxsi (maxsi (maxsi (bitcast S16x128 16 A0 h1) (bitcast S16x128 16 A1 h1))
      (bitcast S16x128 16 A2 h1)) (bitcast S16x128 16 A3 h1)) (bitcast S16x128 16 A4 h1)) (bitcast S16x128 16 A5 h1))
      (bitcast S16x128 16 A6 h1)) (bitcast S16x128 16 A7 h1)) h2) :
    shrui (bitcast S8x128 32 (maxsi (bitcast S16x128 16 M h1) (bitcast S16x128 16 (shli M (broadcast S8x128 16#32)) h1)) h2)
      (broadcast S8x128 24#32) = U V := by
  rw [maxsi_cast, maxsi_cast, maxsi_cast, maxsi_cast, maxsi_cast, maxsi_cast, maxsi_cast, cast_cast (r := 8) (n := 128) (R := 16)] at eM
  subst eM e0 e1 e2 e3 e4 e5 e6 e7
  rw [maxsi_cast, cast_cast (r := 8) (n := 128) (R := 16)]
  funext x
  exact mx8_spec fun s : Fin 8 => V (ix2 ⟨8 * (x 0).val + s.val, by have : (x 0).val < 8 := (x 0).isLt; omega⟩ (x 1))

/-- What each half's scratch of maxima is made of in trip `k` of loop 1. -/
def M1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : ℕ → S64x128.Idx → BitVec 32 := fun h =>
  if h = 0 then fun x => mx (trip1.sl.r_2 i arg2 k0_h1 X2 k x) else fun x => mx (trip1.sl.r_3 i arg2 k0_h1 X2 k x)

theorem mlo1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : trip1.sl.r_8 i arg2 k0_h1 X2 k = fun x => mx (trip1.sl.r_2 i arg2 k0_h1 X2 k x) := by
  unfold trip1.sl.r_8 k0_pay12
  exact mx_cast _ _ _
theorem mhi1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : trip1.sl.v217 i arg2 k0_h1 X2 k = fun x => mx (trip1.sl.r_3 i arg2 k0_h1 X2 k x) := by
  unfold trip1.sl.v217 trip1.sl.v216 trip1.sl.v212 trip1.sl.v215 trip1.sl.v211 trip1.sl.v214 trip1.sl.v210 trip1.sl.v213
  exact mx_cast _ _ _

theorem H8_1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : trip1.sl.H14_8 i arg2 k0_h1 X2 k = pieces14 F 0 (by decide) (trip1.sl.v119 i arg2 k0_h1 X2 k) (trip1.sl.v125 i arg2 k0_h1 X2 k) (trip1.sl.v131 i arg2 k0_h1 X2 k) (trip1.sl.v137 i arg2 k0_h1 X2 k) (trip1.sl.v143 i arg2 k0_h1 X2 k) (trip1.sl.v149 i arg2 k0_h1 X2 k) (trip1.sl.v155 i arg2 k0_h1 X2 k) (trip1.sl.v161 i arg2 k0_h1 X2 k) [] := rfl
theorem H16_1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : trip1.sl.H14_16 i arg2 k0_h1 X2 k = pieces14 F 1 (by decide) (trip1.sl.v223 i arg2 k0_h1 X2 k) (trip1.sl.v229 i arg2 k0_h1 X2 k) (trip1.sl.v235 i arg2 k0_h1 X2 k) (trip1.sl.v241 i arg2 k0_h1 X2 k) (trip1.sl.v247 i arg2 k0_h1 X2 k) (trip1.sl.v253 i arg2 k0_h1 X2 k) (trip1.sl.v259 i arg2 k0_h1 X2 k) (trip1.sl.v265 i arg2 k0_h1 X2 k) (trip1.sl.H14_8 i arg2 k0_h1 X2 k) := rfl

theorem ok8_1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : ∀ p ∈ trip1.sl.H14_8 i arg2 k0_h1 X2 k, ∀ x : p.1.shape.Idx, p.2 x = G14 (M1 i arg2 arg14 k0_h1 X2 k) (p.1.emb x) := by
  rw [H8_1 i arg2 arg14 k0_h1 X2 k]
  refine pieces14_ok 0 (by decide) _ _ _ _ _ _ _ _ [] _ (fun a l => ?_) (fun p hp => absurd hp List.not_mem_nil)
  have e : ∀ j, trip1.sl.r_8 i arg2 k0_h1 X2 k j = M1 i arg2 arg14 k0_h1 X2 k 0 j := fun j => congrFun (mlo1 i arg2 arg14 k0_h1 X2 k) j
  refine ⟨?_, ?_, ?_, ?_, ?_, ?_, ?_, ?_⟩
  · exact (slice8 (trip1.sl.r_8 i arg2 k0_h1 X2 k) 0 0 rfl (by decide) (by decide) _ a l).trans (e _)
  · exact (slice8 (trip1.sl.r_8 i arg2 k0_h1 X2 k) 1 8 rfl (by decide) (by decide) _ a l).trans (e _)
  · exact (slice8 (trip1.sl.r_8 i arg2 k0_h1 X2 k) 2 16 rfl (by decide) (by decide) _ a l).trans (e _)
  · exact (slice8 (trip1.sl.r_8 i arg2 k0_h1 X2 k) 3 24 rfl (by decide) (by decide) _ a l).trans (e _)
  · exact (slice8 (trip1.sl.r_8 i arg2 k0_h1 X2 k) 4 32 rfl (by decide) (by decide) _ a l).trans (e _)
  · exact (slice8 (trip1.sl.r_8 i arg2 k0_h1 X2 k) 5 40 rfl (by decide) (by decide) _ a l).trans (e _)
  · exact (slice8 (trip1.sl.r_8 i arg2 k0_h1 X2 k) 6 48 rfl (by decide) (by decide) _ a l).trans (e _)
  · exact (slice8 (trip1.sl.r_8 i arg2 k0_h1 X2 k) 7 56 rfl (by decide) (by decide) _ a l).trans (e _)

theorem ok16_1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : ∀ p ∈ trip1.sl.H14_16 i arg2 k0_h1 X2 k, ∀ x : p.1.shape.Idx, p.2 x = G14 (M1 i arg2 arg14 k0_h1 X2 k) (p.1.emb x) := by
  rw [H16_1 i arg2 arg14 k0_h1 X2 k]
  refine pieces14_ok 1 (by decide) _ _ _ _ _ _ _ _ _ _ (fun a l => ?_) (ok8_1 i arg2 arg14 k0_h1 X2 k)
  have e : ∀ j, trip1.sl.v217 i arg2 k0_h1 X2 k j = M1 i arg2 arg14 k0_h1 X2 k 1 j := fun j => congrFun (mhi1 i arg2 arg14 k0_h1 X2 k) j
  refine ⟨?_, ?_, ?_, ?_, ?_, ?_, ?_, ?_⟩
  · exact (slice8 (trip1.sl.v217 i arg2 k0_h1 X2 k) 0 0 rfl (by decide) (by decide) _ a l).trans (e _)
  · exact (slice8 (trip1.sl.v217 i arg2 k0_h1 X2 k) 1 8 rfl (by decide) (by decide) _ a l).trans (e _)
  · exact (slice8 (trip1.sl.v217 i arg2 k0_h1 X2 k) 2 16 rfl (by decide) (by decide) _ a l).trans (e _)
  · exact (slice8 (trip1.sl.v217 i arg2 k0_h1 X2 k) 3 24 rfl (by decide) (by decide) _ a l).trans (e _)
  · exact (slice8 (trip1.sl.v217 i arg2 k0_h1 X2 k) 4 32 rfl (by decide) (by decide) _ a l).trans (e _)
  · exact (slice8 (trip1.sl.v217 i arg2 k0_h1 X2 k) 5 40 rfl (by decide) (by decide) _ a l).trans (e _)
  · exact (slice8 (trip1.sl.v217 i arg2 k0_h1 X2 k) 6 48 rfl (by decide) (by decide) _ a l).trans (e _)
  · exact (slice8 (trip1.sl.v217 i arg2 k0_h1 X2 k) 7 56 rfl (by decide) (by decide) _ a l).trans (e _)

theorem ulo1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : trip1.sl.v209 i arg2 arg14 k0_h1 X2 k = U (trip1.sl.r_2 i arg2 k0_h1 X2 k) := by
  have L : ∀ (s : ℕ) (hs8 : s < 8) (i2) (h0) (hs) (hst) (hR), _ = _ := fun s hs8 i2 h0 hs hst hR =>
    load14 0 s hs8 (by decide) (M1 i arg2 arg14 k0_h1 X2 k) arg14.view _ (ok8_1 i arg2 arg14 k0_h1 X2 k)
      (fun a y e0 e1 => by rw [H8_1 i arg2 arg14 k0_h1 X2 k]; exact pieces14_cover 0 (by decide) _ _ _ _ _ _ _ _ _ a s hs8 y e0 e1) (inb14 0 (by decide)) i2 h0 hs hst hR
  exact fold14 (fun _ => 0) _ _ _ _ _ _ _ _ (trip1.sl.r_2 i arg2 k0_h1 X2 k) _ _ (L 0 (by decide) _ _ _ _ _) (L 1 (by decide) _ _ _ _ _) (L 2 (by decide) _ _ _ _ _) (L 3 (by decide) _ _ _ _ _) (L 4 (by decide) _ _ _ _ _) (L 5 (by decide) _ _ _ _ _) (L 6 (by decide) _ _ _ _ _) (L 7 (by decide) _ _ _ _ _) _ rfl

theorem uhi1 (i : grid0.Coords) (arg2 : Memref sig .tc .vmem S1x256x6144 .i8) (arg14 : Memref sig .tc .vmem S2x72x128 .i32) (k0_h1 : k0_cond1 i = 1#1) (X2 : BufTy.Contents (Elt F) arg2.view.ty) (k : Fin k0_t1_loop.trips) : trip1.sl.v313 i arg2 arg14 k0_h1 X2 k = U (trip1.sl.r_3 i arg2 k0_h1 X2 k) := by
  have L : ∀ (s : ℕ) (hs8 : s < 8) (i2) (h0) (hs) (hst) (hR), _ = _ := fun s hs8 i2 h0 hs hst hR =>
    load14 1 s hs8 (by decide) (M1 i arg2 arg14 k0_h1 X2 k) arg14.view _ (ok16_1 i arg2 arg14 k0_h1 X2 k)
      (fun a y e0 e1 => by rw [H16_1 i arg2 arg14 k0_h1 X2 k]; exact pieces14_cover 1 (by decide) _ _ _ _ _ _ _ _ _ a s hs8 y e0 e1) (inb14 1 (by decide)) i2 h0 hs hst hR
  exact fold14 (fun _ => 0) _ _ _ _ _ _ _ _ (trip1.sl.r_3 i arg2 k0_h1 X2 k) _ _ (L 0 (by decide) _ _ _ _ _) (L 1 (by decide) _ _ _ _ _) (L 2 (by decide) _ _ _ _ _) (L 3 (by decide) _ _ _ _ _) (L 4 (by decide) _ _ _ _ _) (L 5 (by decide) _ _ _ _ _) (L 6 (by decide) _ _ _ _ _) (L 7 (by decide) _ _ _ _ _) _ rfl

/-- What each half's scratch of maxima is made of in trip `k` of loop 2. -/
def M2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : ℕ → S64x128.Idx → BitVec 32 := fun h =>
  if h = 0 then fun x => mx (trip2.sl.v72 i arg3 arg4 v10 k0_h2 X3 X4 k x) else fun x => mx (trip2.sl.v76 i arg3 arg4 v10 k0_h2 X3 X4 k x)

theorem mlo2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : trip2.sl.v131 i arg3 arg4 v10 k0_h2 X3 X4 k = fun x => mx (trip2.sl.v72 i arg3 arg4 v10 k0_h2 X3 X4 k x) := by
  unfold trip2.sl.v131 trip2.sl.v130 trip2.sl.v126 trip2.sl.v129 trip2.sl.v125 trip2.sl.v128 trip2.sl.v124 trip2.sl.v127
  exact mx_cast _ _ _
theorem mhi2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : trip2.sl.v235 i arg3 arg4 v10 k0_h2 X3 X4 k = fun x => mx (trip2.sl.v76 i arg3 arg4 v10 k0_h2 X3 X4 k x) := by
  unfold trip2.sl.v235 trip2.sl.v234 trip2.sl.v230 trip2.sl.v233 trip2.sl.v229 trip2.sl.v232 trip2.sl.v124 trip2.sl.v127
  exact mx_cast _ _ _

theorem H8_2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : trip2.sl.H14_8 i arg3 arg4 v10 k0_h2 X3 X4 k = pieces14 F 0 (by decide) (trip2.sl.v137 i arg3 arg4 v10 k0_h2 X3 X4 k) (trip2.sl.v143 i arg3 arg4 v10 k0_h2 X3 X4 k) (trip2.sl.v149 i arg3 arg4 v10 k0_h2 X3 X4 k) (trip2.sl.v155 i arg3 arg4 v10 k0_h2 X3 X4 k) (trip2.sl.v161 i arg3 arg4 v10 k0_h2 X3 X4 k) (trip2.sl.v167 i arg3 arg4 v10 k0_h2 X3 X4 k) (trip2.sl.v173 i arg3 arg4 v10 k0_h2 X3 X4 k) (trip2.sl.v179 i arg3 arg4 v10 k0_h2 X3 X4 k) [] := rfl
theorem H16_2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : trip2.sl.H14_16 i arg3 arg4 v10 k0_h2 X3 X4 k = pieces14 F 1 (by decide) (trip2.sl.v241 i arg3 arg4 v10 k0_h2 X3 X4 k) (trip2.sl.v247 i arg3 arg4 v10 k0_h2 X3 X4 k) (trip2.sl.v253 i arg3 arg4 v10 k0_h2 X3 X4 k) (trip2.sl.v259 i arg3 arg4 v10 k0_h2 X3 X4 k) (trip2.sl.v265 i arg3 arg4 v10 k0_h2 X3 X4 k) (trip2.sl.v271 i arg3 arg4 v10 k0_h2 X3 X4 k) (trip2.sl.v277 i arg3 arg4 v10 k0_h2 X3 X4 k) (trip2.sl.v283 i arg3 arg4 v10 k0_h2 X3 X4 k) (trip2.sl.H14_8 i arg3 arg4 v10 k0_h2 X3 X4 k) := rfl

theorem ok8_2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : ∀ p ∈ trip2.sl.H14_8 i arg3 arg4 v10 k0_h2 X3 X4 k, ∀ x : p.1.shape.Idx, p.2 x = G14 (M2 i arg3 arg4 arg14 v10 k0_h2 X3 X4 k) (p.1.emb x) := by
  rw [H8_2 i arg3 arg4 arg14 v10 k0_h2 X3 X4 k]
  refine pieces14_ok 0 (by decide) _ _ _ _ _ _ _ _ [] _ (fun a l => ?_) (fun p hp => absurd hp List.not_mem_nil)
  have e : ∀ j, trip2.sl.v131 i arg3 arg4 v10 k0_h2 X3 X4 k j = M2 i arg3 arg4 arg14 v10 k0_h2 X3 X4 k 0 j := fun j => congrFun (mlo2 i arg3 arg4 arg14 v10 k0_h2 X3 X4 k) j
  refine ⟨?_, ?_, ?_, ?_, ?_, ?_, ?_, ?_⟩
  · exact (slice8 (trip2.sl.v131 i arg3 arg4 v10 k0_h2 X3 X4 k) 0 0 rfl (by decide) (by decide) _ a l).trans (e _)
  · exact (slice8 (trip2.sl.v131 i arg3 arg4 v10 k0_h2 X3 X4 k) 1 8 rfl (by decide) (by decide) _ a l).trans (e _)
  · exact (slice8 (trip2.sl.v131 i arg3 arg4 v10 k0_h2 X3 X4 k) 2 16 rfl (by decide) (by decide) _ a l).trans (e _)
  · exact (slice8 (trip2.sl.v131 i arg3 arg4 v10 k0_h2 X3 X4 k) 3 24 rfl (by decide) (by decide) _ a l).trans (e _)
  · exact (slice8 (trip2.sl.v131 i arg3 arg4 v10 k0_h2 X3 X4 k) 4 32 rfl (by decide) (by decide) _ a l).trans (e _)
  · exact (slice8 (trip2.sl.v131 i arg3 arg4 v10 k0_h2 X3 X4 k) 5 40 rfl (by decide) (by decide) _ a l).trans (e _)
  · exact (slice8 (trip2.sl.v131 i arg3 arg4 v10 k0_h2 X3 X4 k) 6 48 rfl (by decide) (by decide) _ a l).trans (e _)
  · exact (slice8 (trip2.sl.v131 i arg3 arg4 v10 k0_h2 X3 X4 k) 7 56 rfl (by decide) (by decide) _ a l).trans (e _)

theorem ok16_2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : ∀ p ∈ trip2.sl.H14_16 i arg3 arg4 v10 k0_h2 X3 X4 k, ∀ x : p.1.shape.Idx, p.2 x = G14 (M2 i arg3 arg4 arg14 v10 k0_h2 X3 X4 k) (p.1.emb x) := by
  rw [H16_2 i arg3 arg4 arg14 v10 k0_h2 X3 X4 k]
  refine pieces14_ok 1 (by decide) _ _ _ _ _ _ _ _ _ _ (fun a l => ?_) (ok8_2 i arg3 arg4 arg14 v10 k0_h2 X3 X4 k)
  have e : ∀ j, trip2.sl.v235 i arg3 arg4 v10 k0_h2 X3 X4 k j = M2 i arg3 arg4 arg14 v10 k0_h2 X3 X4 k 1 j := fun j => congrFun (mhi2 i arg3 arg4 arg14 v10 k0_h2 X3 X4 k) j
  refine ⟨?_, ?_, ?_, ?_, ?_, ?_, ?_, ?_⟩
  · exact (slice8 (trip2.sl.v235 i arg3 arg4 v10 k0_h2 X3 X4 k) 0 0 rfl (by decide) (by decide) _ a l).trans (e _)
  · exact (slice8 (trip2.sl.v235 i arg3 arg4 v10 k0_h2 X3 X4 k) 1 8 rfl (by decide) (by decide) _ a l).trans (e _)
  · exact (slice8 (trip2.sl.v235 i arg3 arg4 v10 k0_h2 X3 X4 k) 2 16 rfl (by decide) (by decide) _ a l).trans (e _)
  · exact (slice8 (trip2.sl.v235 i arg3 arg4 v10 k0_h2 X3 X4 k) 3 24 rfl (by decide) (by decide) _ a l).trans (e _)
  · exact (slice8 (trip2.sl.v235 i arg3 arg4 v10 k0_h2 X3 X4 k) 4 32 rfl (by decide) (by decide) _ a l).trans (e _)
  · exact (slice8 (trip2.sl.v235 i arg3 arg4 v10 k0_h2 X3 X4 k) 5 40 rfl (by decide) (by decide) _ a l).trans (e _)
  · exact (slice8 (trip2.sl.v235 i arg3 arg4 v10 k0_h2 X3 X4 k) 6 48 rfl (by decide) (by decide) _ a l).trans (e _)
  · exact (slice8 (trip2.sl.v235 i arg3 arg4 v10 k0_h2 X3 X4 k) 7 56 rfl (by decide) (by decide) _ a l).trans (e _)

theorem ulo2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : trip2.sl.v227 i arg3 arg4 arg14 v10 k0_h2 X3 X4 k = U (trip2.sl.v72 i arg3 arg4 v10 k0_h2 X3 X4 k) := by
  have L : ∀ (s : ℕ) (hs8 : s < 8) (i2) (h0) (hs) (hst) (hR), _ = _ := fun s hs8 i2 h0 hs hst hR =>
    load14 0 s hs8 (by decide) (M2 i arg3 arg4 arg14 v10 k0_h2 X3 X4 k) arg14.view _ (ok8_2 i arg3 arg4 arg14 v10 k0_h2 X3 X4 k)
      (fun a y e0 e1 => by rw [H8_2 i arg3 arg4 arg14 v10 k0_h2 X3 X4 k]; exact pieces14_cover 0 (by decide) _ _ _ _ _ _ _ _ _ a s hs8 y e0 e1) (inb14 0 (by decide)) i2 h0 hs hst hR
  exact fold14 (fun _ => 0) _ _ _ _ _ _ _ _ (trip2.sl.v72 i arg3 arg4 v10 k0_h2 X3 X4 k) _ _ (L 0 (by decide) _ _ _ _ _) (L 1 (by decide) _ _ _ _ _) (L 2 (by decide) _ _ _ _ _) (L 3 (by decide) _ _ _ _ _) (L 4 (by decide) _ _ _ _ _) (L 5 (by decide) _ _ _ _ _) (L 6 (by decide) _ _ _ _ _) (L 7 (by decide) _ _ _ _ _) _ rfl

theorem uhi2 (i : grid0.Coords) (arg3 : Memref sig .tc .vmem S1x128x6144 .i8) (arg4 : Memref sig .tc .vmem S1x128x6144 .i8) (arg14 : Memref sig .tc .vmem S2x72x128 .i32) (v10 : IVec S64x128 32) (k0_h2 : k0_cond2 i = 1#1) (X3 : BufTy.Contents (Elt F) arg3.view.ty) (X4 : BufTy.Contents (Elt F) arg4.view.ty) (k : Fin k0_t2_loop.trips) : trip2.sl.v331 i arg3 arg4 arg14 v10 k0_h2 X3 X4 k = U (trip2.sl.v76 i arg3 arg4 v10 k0_h2 X3 X4 k) := by
  have L : ∀ (s : ℕ) (hs8 : s < 8) (i2) (h0) (hs) (hst) (hR), _ = _ := fun s hs8 i2 h0 hs hst hR =>
    load14 1 s hs8 (by decide) (M2 i arg3 arg4 arg14 v10 k0_h2 X3 X4 k) arg14.view _ (ok16_2 i arg3 arg4 arg14 v10 k0_h2 X3 X4 k)
      (fun a y e0 e1 => by rw [H16_2 i arg3 arg4 arg14 v10 k0_h2 X3 X4 k]; exact pieces14_cover 1 (by decide) _ _ _ _ _ _ _ _ _ a s hs8 y e0 e1) (inb14 1 (by decide)) i2 h0 hs hst hR
  exact fold14 (fun _ => 0) _ _ _ _ _ _ _ _ (trip2.sl.v76 i arg3 arg4 v10 k0_h2 X3 X4 k) _ _ (L 0 (by decide) _ _ _ _ _) (L 1 (by decide) _ _ _ _ _) (L 2 (by decide) _ _ _ _ _) (L 3 (by decide) _ _ _ _ _) (L 4 (by decide) _ _ _ _ _) (L 5 (by decide) _ _ _ _ _) (L 6 (by decide) _ _ _ _ _) (L 7 (by decide) _ _ _ _ _) _ rfl

end Cert.Proof.KernelIdeal

end
-- ==== Proof.XsI.lean ====
/- The scratch of scale bytes after the 24 trips. -/
module

public import proofs.«01_k».proof.Proof.UmaxI
public import proofs.«01_k».proof.Proof.LoopI

@[expose] public section

set_option maxRecDepth 16384

noncomputable section

namespace Cert.Proof.KernelIdeal

open Cert.KernelIdeal Cert.KernelIdeal.Gen Cert.Proof.Bytes
open Idealize.ShloMosaic Idealize.ShloMosaic.TcCoe Idealize.ShloMosaic.Tactic Idealize.ShloMosaic.ValueIdx

variable {F : FTy → Type} [FloatOps F]

/-- The exponent of a code magnitude, less two. -/
noncomputable def codeX (u : BitVec 32) : BitVec 32 :=
  Scalar.select (IntOp.cmpi .sge u 8#32) (u >>> 3 - 9#32)
    ((IntOp.cmpi .sge u 2#32).setWidth 32 + (IntOp.cmpi .sge u 4#32).setWidth 32 - 11#32)

/-- The scale byte of a group whose largest magnitude is `u` in a block whose scale has exponent `ls`. -/
noncomputable def byteW (u ls : BitVec 32) : BitVec 32 :=
  Scalar.select (IntOp.cmpi .eq u 0#32) 124#32 ((codeX u + ls + 127#32) &&& 255#32)

theorem byteW_lt (u ls : BitVec 32) : byteW u ls &&& 255#32 = byteW u ls := by
  unfold byteW Scalar.select
  split
  · decide
  · rw [BitVec.and_assoc, BitVec.and_self]

theorem byte_lo (p q : BitVec 32) (hp : p &&& 255#32 = p) : (p ||| q <<< 8) >>> 0 &&& 255#32 = p := by
  rw [← hp]
  apply BitVec.eq_of_getLsbD_eq
  intro j hj
  interval_cases j <;> simp

theorem byte_hi (p q : BitVec 32) (hp : p &&& 255#32 = p) (hq : q &&& 255#32 = q) : (p ||| q <<< 8) >>> 8 &&& 255#32 = q := by
  rw [← hp, ← hq]
  apply BitVec.eq_of_getLsbD_eq
  intro j hj
  interval_cases j <;> simp

/-- Both halves' bytes of each group and lane, the second half's in front. -/
noncomputable def xw (ulo uhi ls : S8x128.Idx → BitVec 32) : S8x128.Idx → BitVec 32 := fun x =>
  byteW (ulo x) (ls x) ||| byteW (uhi x) (ls x) <<< 8

/-- Column `col` of a row of scale bytes: lane `col / 2`, half `col % 2`. -/
noncomputable def zrow (ulo uhi ls : S8x128.Idx → BitVec 32) (a : Fin 8) (col : Fin 256) : BitVec 32 :=
  byteW (if col.val % 2 = 0 then ulo (ix2 a ⟨col.val / 2, by omega⟩) else uhi (ix2 a ⟨col.val / 2, by omega⟩))
    (ls (ix2 a ⟨col.val / 2, by omega⟩))

theorem gat (ulo uhi ls w idx sh : S8x128.Idx → BitVec 32) (hw : w = xw ulo uhi ls) (o : ℕ) (ho : o = 0 ∨ o = 64)
    (a : Fin 8) (l : Fin 128) (hi : (idx (ix2 a l)).toNat % 128 = l.val / 2 + o) (hs : sh (ix2 a l) = BitVec.ofNat 32 (8 * (l.val % 2))) :
    andi (shrui (dynamicGather (s := S8x128) 1 w idx) sh) (broadcast S8x128 255#32) (ix2 a l)
      = zrow ulo uhi ls a ⟨l.val + 2 * o, by omega⟩ := by
  have e : dynamicGather (s := S8x128) 1 w idx (ix2 a l) = w (ix2 a ⟨l.val / 2 + o, by omega⟩) := by
    unfold dynamicGather
    congr 1
    funext b
    fin_cases b
    · rfl
    · apply Fin.ext
      exact hi
  have hd : (l.val + 2 * o) / 2 = l.val / 2 + o := by omega
  have hm : (l.val + 2 * o) % 2 = l.val % 2 := by omega
  show (IntOp.shrui .vector (dynamicGather (s := S8x128) 1 w idx (ix2 a l)) (sh (ix2 a l))) &&& 255#32 = _
  rw [e, hs, hw]
  unfold zrow xw
  simp only [hd, hm]
  rcases Nat.mod_two_eq_zero_or_one l.val with h | h
  · rw [h, if_pos rfl]
    exact byte_lo _ _ (byteW_lt _ _)
  · rw [h, if_neg (by decide)]
    exact byte_hi _ _ (byteW_lt _ _) (byteW_lt _ _)

/-- A scratch of scale bytes, from each chunk's rows. -/
noncomputable def Zof (z : Fin 24 → Fin 8 → Fin 256 → BitVec 32) : S192x256.Idx → BitVec 32 := fun y =>
  z ⟨(y 0).val / 8, by have : (y 0).val < 192 := (y 0).isLt; omega⟩ ⟨(y 0).val % 8, Nat.mod_lt _ (by decide)⟩ (y 1)

/-- One piece of a chunk's two. -/
theorem piece11 (z : Fin 24 → Fin 8 → Fin 256 → BitVec 32) (k : Fin 24) (off : Fin 2 → ℕ) (c : ℕ) (hc : c + 128 ≤ 256) (ho : off = ![8 * k.val, c])
    (hin : ∀ a, off a + S8x128.size a ≤ S192x256.size a) (w : S8x128.Idx → BitVec 32)
    (hw : ∀ (a : Fin 8) (l : Fin 128), w (ix2 a l) = z k a ⟨l.val + c, by omega⟩) (x : S8x128.Idx) :
    w x = Zof z ((Rect.unit (s := S192x256) off S8x128.size hin).emb x) := by
  subst ho
  have e : x = ix2 (x 0) (x 1) := by funext b; fin_cases b <;> rfl
  have h0 : (x 0).val < 8 := (x 0).isLt
  have q0 : (((Rect.unit (s := S192x256) ![8 * k.val, c] S8x128.size hin).emb x) 0).val = 8 * k.val + 1 * (x 0).val := Rect.emb_apply _ _ _
  have q1 : (((Rect.unit (s := S192x256) ![8 * k.val, c] S8x128.size hin).emb x) 1).val = c + 1 * (x 1).val := Rect.emb_apply _ _ _
  unfold Zof
  conv_lhs => rw [e]
  refine (hw _ _).trans ?_
  refine congr (congr (congrArg z ?_) ?_) ?_
  · apply Fin.ext; show k.val = _ / 8; rw [q0]; omega
  · apply Fin.ext; show (x 0).val = _ % 8; rw [q0]; omega
  · apply Fin.ext; show (x 1).val + c = _; rw [q1]; omega

theorem cover11 (k : Fin 24) (off : Fin 2 → ℕ) (c : ℕ) (ho : off = ![8 * k.val, c])
    (hin : ∀ a, off a + S8x128.size a ≤ S192x256.size a) (y : S192x256.Idx) (h0 : (y 0).val / 8 = k.val) (h1 : c ≤ (y 1).val) (h2 : (y 1).val < c + 128) :
    y ∈ (Rect.unit (s := S192x256) off S8x128.size hin).toLoadRect.set := by
  subst ho
  rw [LoadRect.mem_set]
  intro b
  fin_cases b
  · exact ⟨(y 0).val % 8, Nat.mod_lt _ (by decide), show (y 0).val = 8 * k.val + 1 * ((y 0).val % 8) by omega⟩
  · exact ⟨(y 1).val - c, show (y 1).val - c < 128 by omega, show (y 1).val = c + 1 * ((y 1).val - c) by omega⟩

theorem idx1_0 : ∀ (a : Fin 8) (l : Fin 128), (trip1.sl.v775 (ix2 a l)).toNat % 128 = l.val / 2 + 0 := by decide +kernel
theorem idx1_1 : ∀ (a : Fin 8) (l : Fin 128), (trip1.sl.v787 (ix2 a l)).toNat % 128 = l.val / 2 + 64 := by decide +kernel
theorem sh1 : ∀ (a : Fin 8) (l : Fin 128), trip1.sl.v766 (ix2 a l) = BitVec.ofNat 32 (8 * (l.val % 2)) := by decide +kernel

/-- The scale bytes of chunk `k` in loop 1. -/
noncomputable def z1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) : Fin 8 → Fin 256 → BitVec 32 :=
  zrow (trip1.sl.v209 i arg2 arg14 k0_h1 X2 k) (trip1.sl.v313 i arg2 arg14 k0_h1 X2 k) (trip1.sl.r_7 i arg5 k0_h1 X5 k)

theorem xw1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) : trip1.sl.v762 i arg2 arg5 arg14 k0_h1 X2 X5 k
    = xw (trip1.sl.v209 i arg2 arg14 k0_h1 X2 k) (trip1.sl.v313 i arg2 arg14 k0_h1 X2 k) (trip1.sl.r_7 i arg5 k0_h1 X5 k) := rfl

theorem p1_0 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) (a : Fin 8) (l : Fin 128) : (trip1.sl.v795 i arg2 arg5 arg14 k0_h1 X2 X5 k) (ix2 a l) = z1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k a ⟨l.val + 0, by omega⟩ :=
  (congrFun (shapeCast_self _ _) (ix2 a l)).trans (gat _ _ _ _ trip1.sl.v775 trip1.sl.v766 (xw1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k) 0 (Or.inl rfl) a l (idx1_0 a l) (sh1 a l))
theorem p1_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) (a : Fin 8) (l : Fin 128) : (k0_pay207 (trip1.sl.v798 i arg2 arg5 arg14 k0_h1 X2 X5 k)) (ix2 a l) = z1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k a ⟨l.val + 128, by omega⟩ :=
  (congrFun (shapeCast_self _ _) (ix2 a l)).trans (gat _ _ _ _ trip1.sl.v787 trip1.sl.v766 (xw1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k) 64 (Or.inr rfl) a l (idx1_1 a l) (sh1 a l))

theorem l11_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) : (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.2.1 = [⟨Rect.unit (k0_off12 k) S8x128.size (k0_off12_inb i k k0_h1), k0_pay207 (trip1.sl.v798 i arg2 arg5 arg14 k0_h1 X2 X5 k)⟩, ⟨Rect.unit (k0_off11 k) S8x128.size (k0_off11_inb i k k0_h1), trip1.sl.v795 i arg2 arg5 arg14 k0_h1 X2 X5 k⟩] := by
  unfold trip1; rfl

/-- After `n` trips of loop 1 the pieces agree with the bytes and cover their rows. -/
theorem pb1_11 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (n : ℕ) (hn : n ≤ 24) :
    (∀ p ∈ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 n).2.1, ∀ x : p.1.shape.Idx, p.2 x = Zof (z1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5) (p.1.emb x))
    ∧ ∀ y : S192x256.Idx, (y 0).val < 8 * n → ∃ p ∈ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 n).2.1, y ∈ p.1.set := by
  induction n with
  | zero => exact ⟨fun p hp => absurd hp List.not_mem_nil, fun y hy => absurd hy (by omega)⟩
  | succ n ih =>
    obtain ⟨ih1, ih2⟩ := ih (by omega)
    have e := pb1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨n, show n < 24 by omega⟩
    dsimp only at e
    rw [e, l11_1]
    dsimp only
    refine ⟨fun p hp => ?_, fun y hy => ?_⟩
    · rcases List.mem_cons.1 hp with rfl | hp
      · exact piece11 (z1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5) ⟨n, by omega⟩ _ 128 (by decide) (k0_off12_eq _) (k0_off12_inb i _ k0_h1) _ (fun a l => p1_1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 _ a l)
      rcases List.mem_cons.1 hp with rfl | hp
      · exact piece11 (z1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5) ⟨n, by omega⟩ _ 0 (by decide) (k0_off11_eq _) (k0_off11_inb i _ k0_h1) _ (fun a l => p1_0 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 _ a l)
      · exact ih1 p hp
    · have h1 : (y 1).val < 256 := (y 1).isLt
      by_cases h : (y 0).val < 8 * n
      · obtain ⟨p, hp, hy⟩ := ih2 y h
        exact ⟨p, List.mem_cons_of_mem _ (List.mem_cons_of_mem _ hp), hy⟩
      · by_cases h2 : (y 1).val < 128
        · exact ⟨_, List.mem_cons_of_mem _ List.mem_cons_self, cover11 ⟨n, by omega⟩ _ 0 (k0_off11_eq _) (k0_off11_inb i _ k0_h1) y (show _ = n by omega) (by omega) (by omega)⟩
        · exact ⟨_, List.mem_cons_self, cover11 ⟨n, by omega⟩ _ 128 (k0_off12_eq _) (k0_off12_inb i _ k0_h1) y (show _ = n by omega) (by omega) (by omega)⟩

/-- The lanes the second gather of loop 2 reads. -/
noncomputable def j2 : S8x128.Idx → BitVec 32 :=
  shapeCast S8x128 (shapeCast S8x128x1 (select (cmpi .slt (addi (shrui trip2.sl.v77 trip2.sl.v781) trip2.sl.v797) (broadcast S8x128 0#32))
    (addi (addi (shrui trip2.sl.v77 trip2.sl.v781) trip2.sl.v797) (broadcast S8x128 128#32)) (addi (shrui trip2.sl.v77 trip2.sl.v781) trip2.sl.v797))
    shapeCasts_S8x128_S8x128x1) shapeCasts_S8x128x1_S8x128

theorem idx2_0 : ∀ (a : Fin 8) (l : Fin 128), (trip2.sl.v793 (ix2 a l)).toNat % 128 = l.val / 2 + 0 := by decide +kernel
theorem idx2_1 : ∀ (a : Fin 8) (l : Fin 128), (j2 (ix2 a l)).toNat % 128 = l.val / 2 + 64 := by decide +kernel
theorem sh2 : ∀ (a : Fin 8) (l : Fin 128), trip2.sl.v784 (ix2 a l) = BitVec.ofNat 32 (8 * (l.val % 2)) := by decide +kernel

/-- The scale bytes of chunk `k` in loop 2. -/
noncomputable def z2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) : Fin 8 → Fin 256 → BitVec 32 :=
  zrow (trip2.sl.v227 i arg3 arg4 arg14 v10 k0_h2 X3 X4 k) (trip2.sl.v331 i arg3 arg4 arg14 v10 k0_h2 X3 X4 k) (trip2.sl.v122 i arg6 arg7 k0_h2 X6 X7 k)

theorem xw2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) : trip2.sl.v780 i arg3 arg4 arg6 arg7 arg14 v10 k0_h2 X3 X4 X6 X7 k
    = xw (trip2.sl.v227 i arg3 arg4 arg14 v10 k0_h2 X3 X4 k) (trip2.sl.v331 i arg3 arg4 arg14 v10 k0_h2 X3 X4 k) (trip2.sl.v122 i arg6 arg7 k0_h2 X6 X7 k) := rfl

theorem p2_0 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) (a : Fin 8) (l : Fin 128) : (k0_pay208 trip2.sl.v784 (trip2.sl.v794 i arg3 arg4 arg6 arg7 arg14 v10 k0_h2 X3 X4 X6 X7 k)) (ix2 a l) = z2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k a ⟨l.val + 0, by omega⟩ :=
  (congrFun (shapeCast_self _ _) (ix2 a l)).trans (gat _ _ _ _ trip2.sl.v793 trip2.sl.v784 (xw2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k) 0 (Or.inl rfl) a l (idx2_0 a l) (sh2 a l))
theorem p2_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) (a : Fin 8) (l : Fin 128) : (k0_pay209 (trip2.sl.v780 i arg3 arg4 arg6 arg7 arg14 v10 k0_h2 X3 X4 X6 X7 k) trip2.sl.v784 (addi (shrui trip2.sl.v77 trip2.sl.v781) trip2.sl.v797) 0#32) (ix2 a l) = z2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k a ⟨l.val + 128, by omega⟩ :=
  (congrFun (shapeCast_self _ _) (ix2 a l)).trans (gat _ _ _ _ j2 trip2.sl.v784 (xw2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k) 64 (Or.inr rfl) a l (idx2_1 a l) (sh2 a l))

theorem l11_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) : (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.2.1 = [⟨Rect.unit (k0_off19 k) S8x128.size (k0_off19_inb i k k0_h2), k0_pay209 (trip2.sl.v780 i arg3 arg4 arg6 arg7 arg14 v10 k0_h2 X3 X4 X6 X7 k) trip2.sl.v784 (addi (shrui trip2.sl.v77 trip2.sl.v781) trip2.sl.v797) 0#32⟩, ⟨Rect.unit (k0_off18 k) S8x128.size (k0_off18_inb i k k0_h2), k0_pay208 trip2.sl.v784 (trip2.sl.v794 i arg3 arg4 arg6 arg7 arg14 v10 k0_h2 X3 X4 X6 X7 k)⟩] := by
  unfold trip2; rfl

/-- After `n` trips of loop 2 the pieces agree with the bytes and cover their rows. -/
theorem pb2_11 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (n : ℕ) (hn : n ≤ 24) :
    (∀ p ∈ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 n).2.1, ∀ x : p.1.shape.Idx, p.2 x = Zof (z2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7) (p.1.emb x))
    ∧ ∀ y : S192x256.Idx, (y 0).val < 8 * n → ∃ p ∈ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 n).2.1, y ∈ p.1.set := by
  induction n with
  | zero => exact ⟨fun p hp => absurd hp List.not_mem_nil, fun y hy => absurd hy (by omega)⟩
  | succ n ih =>
    obtain ⟨ih1, ih2⟩ := ih (by omega)
    have e := pb2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨n, show n < 24 by omega⟩
    dsimp only at e
    rw [e, l11_2]
    dsimp only
    refine ⟨fun p hp => ?_, fun y hy => ?_⟩
    · rcases List.mem_cons.1 hp with rfl | hp
      · exact piece11 (z2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7) ⟨n, by omega⟩ _ 128 (by decide) (k0_off19_eq _) (k0_off19_inb i _ k0_h2) _ (fun a l => p2_1 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 _ a l)
      rcases List.mem_cons.1 hp with rfl | hp
      · exact piece11 (z2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7) ⟨n, by omega⟩ _ 0 (by decide) (k0_off18_eq _) (k0_off18_inb i _ k0_h2) _ (fun a l => p2_0 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 _ a l)
      · exact ih1 p hp
    · have h1 : (y 1).val < 256 := (y 1).isLt
      by_cases h : (y 0).val < 8 * n
      · obtain ⟨p, hp, hy⟩ := ih2 y h
        exact ⟨p, List.mem_cons_of_mem _ (List.mem_cons_of_mem _ hp), hy⟩
      · by_cases h2 : (y 1).val < 128
        · exact ⟨_, List.mem_cons_of_mem _ List.mem_cons_self, cover11 ⟨n, by omega⟩ _ 0 (k0_off18_eq _) (k0_off18_inb i _ k0_h2) y (show _ = n by omega) (by omega) (by omega)⟩
        · exact ⟨_, List.mem_cons_self, cover11 ⟨n, by omega⟩ _ 128 (k0_off19_eq _) (k0_off19_inb i _ k0_h2) y (show _ = n by omega) (by omega) (by omega)⟩

end Cert.Proof.KernelIdeal

end
-- ==== Proof.WordsI.lean ====
/- The words the scale bytes are computed from, in terms of the blocks' codes and scales. -/
module

public import proofs.«01_k».proof.Proof.XsI
public import Idealize.ShloMosaic.Lib.Pointwise

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx

variable {F : FTy → Type} [FloatOps F]

/-- The largest magnitude among 32 codes. -/
def mag (f : Fin 32 → BitVec 8) : ℕ := Finset.univ.sup fun j => (f j).toNat % 128

theorem mag_lt (f : Fin 32 → BitVec 8) : mag f < 128 := by
  rw [mag, Finset.sup_lt_iff (by decide)]
  exact fun j _ => Nat.mod_lt _ (by decide)

theorem umax_eq (w : Fin 8 → BitVec 32) (f : Fin 32 → BitVec 8)
    (h : ∀ (s : Fin 8) (b : Fin 4), wb (w s) b.val = (f ⟨4 * s.val + b.val, by omega⟩).toNat % 128) : umax w = mag f := by
  apply le_antisymm
  · refine Finset.sup_le fun s _ => Finset.sup_le fun b _ => ?_
    rw [h]
    exact Finset.le_sup (f := fun j => (f j).toNat % 128) (Finset.mem_univ _)
  · refine Finset.sup_le fun j _ => ?_
    have := h ⟨j.val / 4, by omega⟩ ⟨j.val % 4, by omega⟩
    have e : (⟨4 * (j.val / 4) + j.val % 4, by omega⟩ : Fin 32) = j := Fin.ext (by show 4 * (j.val / 4) + j.val % 4 = j.val; omega)
    rw [show (⟨4 * ((⟨j.val / 4, by omega⟩ : Fin 8)).val + ((⟨j.val % 4, by omega⟩ : Fin 4)).val, by simp only; omega⟩ : Fin 32) = j from e] at this
    rw [← this]
    exact (Finset.le_sup (f := fun b : Fin 4 => wb (w ⟨j.val / 4, by omega⟩) b.val) (Finset.mem_univ _)).trans
      (Finset.le_sup (f := fun s : Fin 8 => Finset.univ.sup fun b : Fin 4 => wb (w s) b.val) (Finset.mem_univ _))

/-- The exponent of a scale as the programs compute it. -/
def flS (s : F .f32) : BitVec 32 := Scalar.fptosi 32 (Scalar.floor (Scalar.divf (Scalar.log s) (Scalar.log (Scalar.ofBits .f32 0x40000000#32))))

/-- A byte of a packed word of two stacked 64-row pieces. -/
theorem pay5_wb (x y : Vec F S1x64x256 .i8) (p : Fin 64) (l : Fin 128) (b : Fin 4) :
    wb (k0_pay5 (F := F) x y (ix2 p l)) b.val
      = (if h : l.val < 64 then x (ix3 0 ⟨l.val, h⟩ ⟨4 * p.val + b.val, by omega⟩) else y (ix3 0 ⟨l.val - 64, by omega⟩ ⟨4 * p.val + b.val, by omega⟩)).toNat % 128 := by
  rw [wb_eq]
  unfold k0_pay5
  rw [wb_cast _ _ p l b.val b.isLt ⟨4 * p.val + b.val, by omega⟩ rfl]
  pointwise
  split <;> rfl

theorem pay6_wb (x y : Vec F S1x64x256 .i8) (p : Fin 64) (l : Fin 128) (b : Fin 4) :
    wb (k0_pay6 (F := F) x y (ix2 p l)) b.val
      = (if h : l.val < 64 then x (ix3 0 ⟨l.val, h⟩ ⟨4 * p.val + b.val, by omega⟩) else y (ix3 0 ⟨l.val - 64, by omega⟩ ⟨4 * p.val + b.val, by omega⟩)).toNat % 128 :=
  pay5_wb x y p l b

/-- The exponents of a first-kind chunk. -/
theorem pay11_at (s0 s1 s2 s3 : F .f32) (a : Fin 8) (l : Fin 128) :
    k0_pay11 (F := F) (iota .tc S8x128 32 [1] iota_S8x128_d1_w32) (iota .tc S8x128 32 [0] iota_S8x128_d0_w32) k0_pay7 (Scalar.fptosi 32 (k0_pay8 s0)) (k0_pay9 s1) k0_pay10 s2 s3 (ix2 a l)
      = if a.val < 4 then (if l.val < 64 then flS s0 else flS s1) else (if l.val < 64 then flS s2 else flS s3) := by
  have h : ∀ (n : ℕ) (hn : n < 128) (m : ℕ) (hm : m < 128), IntOp.cmpi .slt (BitVec.ofNat 32 n) (BitVec.ofNat 32 m) = if n < m then 1#1 else 0#1 := by
    intro n hn m hm
    simp only [IntOp.cmpi, BitVec.slt_eq_decide, BitVec.toInt_ofNat']
    have e1 : (n : ℤ).bmod (2 ^ 32) = n := by rw [Int.bmod_eq_of_le] <;> omega
    have e2 : (m : ℤ).bmod (2 ^ 32) = m := by rw [Int.bmod_eq_of_le] <;> omega
    simp only [e1, e2]
    by_cases c : n < m
    · simp [c]
    · simp [c]
  have i1 : iota .tc S8x128 32 [1] iota_S8x128_d1_w32 (ix2 a l) = BitVec.ofNat 32 l.val := by pointwise
  have i0 : iota .tc S8x128 32 [0] iota_S8x128_d0_w32 (ix2 a l) = BitVec.ofNat 32 a.val := by pointwise
  show Scalar.select (IntOp.cmpi .slt (iota .tc S8x128 32 [0] iota_S8x128_d0_w32 (ix2 a l)) (BitVec.ofNat 32 4))
      (Scalar.select (IntOp.cmpi .slt (iota .tc S8x128 32 [1] iota_S8x128_d1_w32 (ix2 a l)) (BitVec.ofNat 32 64)) (flS s0) (flS s1))
      (Scalar.select (IntOp.cmpi .slt (iota .tc S8x128 32 [1] iota_S8x128_d1_w32 (ix2 a l)) (BitVec.ofNat 32 64)) (flS s2) (flS s3)) = _
  rw [i0, i1, h _ (by omega) _ (by omega), h _ (by omega) _ (by omega)]
  split <;> split <;> rfl

end Cert.Proof.KernelIdeal

end
-- ==== Proof.Body9I.lean ====
/- What the body leaves in the block of scale bytes. -/
module

public import proofs.«01_k».proof.Proof.XsI
public import proofs.«01_k».proof.Proof.BodyI

@[expose] public section

set_option maxRecDepth 16384

noncomputable section

namespace Cert.Proof.KernelIdeal

open Cert.KernelIdeal Cert.KernelIdeal.Gen Cert.Proof.Bytes
open Idealize.ShloMosaic Idealize.ShloMosaic.TcCoe Idealize.ShloMosaic.Tactic Idealize.ShloMosaic.ValueIdx

variable {F : FTy → Type} [FloatOps F]

/-- The lane number, as the body makes it for loop 2. -/
noncomputable def lane : IVec S64x128 32 := iota .tc S64x128 32 [1] iota_S64x128_d1_w32

theorem full9 (hin : ∀ a, (![0, 0, 0] : Fin 3 → ℕ) a + S1x192x256.size a ≤ S1x192x256.size a) (y : S1x192x256.Idx) :
    y ∈ (Rect.unit (s := S1x192x256) ![0, 0, 0] S1x192x256.size hin).toLoadRect.set := by
  rw [LoadRect.mem_set]
  intro b
  refine ⟨(y b).val, (y b).isLt, ?_⟩
  fin_cases b
  · show _ = 0 + 1 * _; omega
  · show _ = 0 + 1 * _; omega
  · show _ = 0 + 1 * _; omega

theorem store9 (v : View sig .tc .vmem S1x192x256 .i8) (f : BufTy.Contents (Elt F) v.ty) (z : Fin 24 → Fin 8 → Fin 256 → BitVec 32)
    (w : S192x256.Idx → BitVec 32) (hw : w = Zof z) (hin) :
    v.read (Elt F) (v.writes (Elt F) f [⟨Rect.unit (s := S1x192x256) ![0, 0, 0] S1x192x256.size hin, k0_pay210 (F := F) w⟩])
      = fun y : S1x192x256.Idx => (Zof z (ix2 (y 1) (y 2))).setWidth 8 := by
  funext y
  refine View.read_writes_apply_of_pieces v f (fun y : S1x192x256.Idx => (Zof z (ix2 (y 1) (y 2))).setWidth 8) _ (fun p hp x => ?_) y ⟨_, List.mem_singleton.2 rfl, ?_⟩
  · obtain rfl := List.mem_singleton.1 hp
    subst hw
    have e : (Rect.unit (s := S1x192x256) ![0, 0, 0] S1x192x256.size hin).emb x = x := by
      funext b
      apply Fin.ext
      rw [Rect.emb_apply]
      fin_cases b
      · show 0 + 1 * _ = _; omega
      · show 0 + 1 * _ = _; omega
      · show 0 + 1 * _ = _; omega
    rw [e]
    have ex : x = ix3 (0 : Fin 1) (x 1) (x 2) := by
      funext b
      fin_cases b
      · exact Subsingleton.elim (α := Fin 1) _ _
      · rfl
      · rfl
    dsimp only
    conv_lhs => rw [ex]
    unfold k0_pay210
    exact shapeCast_ab_1ab_apply _ _ 0 (x 1) (x 2)
  · exact full9 hin y

theorem load11 (v : View sig .tc .vmem S192x256 .i32) (f : BufTy.Contents (Elt F) v.ty) (L : List (View.Piece (Elt F) S192x256 .i32))
    (z : Fin 24 → Fin 8 → Fin 256 → BitVec 32)
    (h : (∀ p ∈ L, ∀ x : p.1.shape.Idx, p.2 x = Zof z (p.1.emb x)) ∧ ∀ y : S192x256.Idx, (y 0).val < 8 * 24 → ∃ p ∈ L, y ∈ p.1.set) (hin) :
    View.readAt (Elt F) v (Rect.unit (s := S192x256) ![0, 0] S192x256.size hin).toLoadRect (v.writes (Elt F) f L) = Zof z := by
  funext y
  have e : (Rect.unit (s := S192x256) ![0, 0] S192x256.size hin).emb y = y := by
    funext b
    apply Fin.ext
    rw [Rect.emb_apply]
    fin_cases b
    · show 0 + 1 * _ = _; omega
    · show 0 + 1 * _ = _; omega
  refine (congrArg (v.read (Elt F) (v.writes (Elt F) f L)) e).trans ?_
  exact View.read_writes_apply_of_pieces v f (Zof z) L h.1 y (h.2 y (y 0).isLt)

theorem b9_A (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (k0_h2 : k0_cond2 i ≠ 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.2.1 = [⟨Rect.unit (s := S1x192x256) ![0, 0, 0] S1x192x256.size inb_S1x192x256_S1x192x256_0_0_0,
      k0_pay210 (View.readAt (Elt F) arg11.view (Rect.unit (s := S192x256) ![0, 0] S192x256.size inb_S192x256_S192x256_0_0).toLoadRect (arg11.view.writes (Elt F) f11
        (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 24).2.1))⟩] := by
  unfold bodyA; rfl

/-- The block of scale bytes at a point of kind A. -/
theorem x9_A (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (k0_h2 : k0_cond2 i ≠ 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) (f9 : BufTy.Contents (Elt F) arg9.view.ty) :
    arg9.view.read (Elt F) (arg9.view.writes (Elt F) f9 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.2.1)
      = fun y : S1x192x256.Idx => (Zof (z1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5) (ix2 (y 1) (y 2))).setWidth 8 := by
  rw [b9_A]
  exact store9 _ _ _ _ (load11 _ _ _ _ (pb1_11 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 24 (by decide)) _) _

theorem b9_B (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.2.1 = [⟨Rect.unit (s := S1x192x256) ![0, 0, 0] S1x192x256.size inb_S1x192x256_S1x192x256_0_0_0,
      k0_pay210 (View.readAt (Elt F) arg11.view (Rect.unit (s := S192x256) ![0, 0] S192x256.size inb_S192x256_S192x256_0_0).toLoadRect (arg11.view.writes (Elt F) f11
        (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24).2.1))⟩] := by
  unfold bodyB; rfl

/-- The block of scale bytes at a point of kind B. -/
theorem x9_B (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) (f9 : BufTy.Contents (Elt F) arg9.view.ty) :
    arg9.view.read (Elt F) (arg9.view.writes (Elt F) f9 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.2.1)
      = fun y : S1x192x256.Idx => (Zof (z2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7) (ix2 (y 1) (y 2))).setWidth 8 := by
  rw [b9_B]
  exact store9 _ _ _ _ (load11 _ _ _ _ (pb2_11 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24 (by decide)) _) _

theorem b9_C (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.2.1 = [⟨Rect.unit (s := S1x192x256) ![0, 0, 0] S1x192x256.size inb_S1x192x256_S1x192x256_0_0_0,
      k0_pay210 (View.readAt (Elt F) arg11.view (Rect.unit (s := S192x256) ![0, 0] S192x256.size inb_S192x256_S192x256_0_0).toLoadRect (arg11.view.writes (Elt F) f11
        (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24).2.1))⟩] := by
  unfold bodyC; rfl

/-- The block of scale bytes at a point of kind C. -/
theorem x9_C (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) (f9 : BufTy.Contents (Elt F) arg9.view.ty) :
    arg9.view.read (Elt F) (arg9.view.writes (Elt F) f9 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.2.1)
      = fun y : S1x192x256.Idx => (Zof (z2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7) (ix2 (y 1) (y 2))).setWidth 8 := by
  rw [b9_C]
  exact store9 _ _ _ _ (load11 _ _ _ _ (pb2_11 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24 (by decide)) _) _

end Cert.Proof.KernelIdeal

end
-- ==== Proof.LoadI.lean ====
/- The magnitudes and exponents of each trip, in terms of the blocks' codes and scales. -/
module

public import proofs.«01_k».proof.Proof.WordsI
public import proofs.«01_k».proof.Proof.Body9I
public import Idealize.ShloMosaic.Lib.Pointwise

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx

variable {F : FTy → Type} [FloatOps F]

/-- A load of a rectangle of codes, at an index. -/
theorem ld3 {N C n w : ℕ} (v : View sig .tc .vmem ⟨3, ![1, N, C]⟩ .i8) (X : BufTy.Contents (Elt F) v.ty) (off : Fin 3 → ℕ) (o1 o2 : ℕ)
    (ho : off = ![0, o1, o2]) (h : ∀ a, off a + (![1, n, w] : Fin 3 → ℕ) a ≤ (⟨3, ![1, N, C]⟩ : Shape).size a)
    (r : Fin n) (c : Fin w) (r' : Fin N) (c' : Fin C) (hr : r'.val = o1 + r.val) (hc : c'.val = o2 + c.val) :
    View.readAt (Elt F) v (Rect.unit (s := ⟨3, ![1, N, C]⟩) off ![1, n, w] h).toLoadRect X (ix3 0 r c) = v.read (Elt F) X (ix3 0 r' c') := by
  subst ho
  rw [View.readAt_apply]
  refine congrArg (v.read (Elt F) X) (funext fun a => Fin.ext ?_)
  fin_cases a
  · rfl
  · exact (show o1 + 1 * r.val = r'.val by omega)
  · exact (show o2 + 1 * c.val = c'.val by omega)

/-- A load of one scale. -/
theorem ld4 {N C : ℕ} (v : View sig .tc .smem ⟨4, ![1, 1, N, C]⟩ .f32) (X : BufTy.Contents (Elt F) v.ty) (off : Fin 4 → ℕ) (o1 o2 : ℕ)
    (ho : off = ![0, 0, o1, o2]) (h : ∀ a, off a + (![1, 1, 1, 1] : Fin 4 → ℕ) a ≤ (⟨4, ![1, 1, N, C]⟩ : Shape).size a)
    (hf) (r' : Fin N) (c' : Fin C) (hr : r'.val = o1) (hc : c'.val = o2) :
    View.readAt (Elt F) v (Rect.unit (s := ⟨4, ![1, 1, N, C]⟩) off ![1, 1, 1, 1] h).toLoadRect X (Shape.Idx.first hf) = v.read (Elt F) X (ix4 0 0 r' c') := by
  subst ho
  rw [View.readAt_apply]
  refine congrArg (v.read (Elt F) X) (funext fun a => Fin.ext ?_)
  fin_cases a
  · rfl
  · rfl
  · exact (show o1 + 1 * 0 = r'.val by omega)
  · exact (show o2 + 1 * 0 = c'.val by omega)

theorem trips1 (k : Fin k0_t1_loop.trips) : k.val < 24 := k.isLt
theorem trips2 (k : Fin k0_t2_loop.trips) : k.val < 24 := k.isLt

/-- The magnitude of group `a` of a chunk whose words are packed from rows `row l`. -/
theorem U_of (W : S64x128.Idx → BitVec 32) (f : ℕ → BitVec 8) (a : Fin 8) (l : Fin 128)
    (h : ∀ (p : Fin 64) (b : Fin 4), wb (W (ix2 p l)) b.val = (f (4 * p.val + b.val)).toNat % 128) :
    U W (ix2 a l) = BitVec.ofNat 32 (mag fun j => f (32 * a.val + j.val)) := by
  unfold U
  refine congrArg (BitVec.ofNat 32) (umax_eq _ (fun j => f (32 * a.val + j.val)) fun s b => ?_)
  refine (h _ b).trans ?_
  have e : 4 * (8 * a.val + s.val) + b.val = 32 * a.val + (4 * s.val + b.val) := by omega
  exact congrArg (fun n => (f n).toNat % 128) e

/-- A block's code at a row and column, with the column reduced into range. -/
def cd {N : ℕ} (X : (⟨3, ![1, N, 6144]⟩ : Shape).Idx → BitVec 8) (r : Fin N) (d : ℕ) : BitVec 8 :=
  X (ix3 0 r ⟨d % 6144, Nat.mod_lt _ (by decide)⟩)

theorem u1lo (i : grid0.Coords) (arg2 : Memref sig .tc .vmem S1x256x6144 .i8) (k0_h1 : k0_cond1 i = 1#1) (X2 : BufTy.Contents (Elt F) arg2.view.ty)
    (k : Fin k0_t1_loop.trips) (a : Fin 8) (l : Fin 128) :
    U (trip1.sl.r_2 i arg2 k0_h1 X2 k) (ix2 a l)
      = BitVec.ofNat 32 (mag fun j => cd (arg2.view.read (Elt F) X2) ⟨l.val / 64 * 128 + l.val % 64, by omega⟩ (256 * k.val + (32 * a.val + j.val))) := by
  have hk := trips1 k
  refine U_of _ (fun d => cd (arg2.view.read (Elt F) X2) ⟨l.val / 64 * 128 + l.val % 64, by omega⟩ (256 * k.val + d)) a l fun p b => ?_
  unfold trip1.sl.r_2
  rw [pay5_wb]
  refine congrArg (fun z => BitVec.toNat z % 128) ?_
  unfold cd
  split
  · exact ld3 arg2.view X2 _ 0 (256 * k.val) (k0_off1_eq k) _ _ _ _ _ (by simp only; omega) (by simp only; omega)
  · exact ld3 arg2.view X2 _ 128 (256 * k.val) (k0_off2_eq k) _ _ _ _ _ (by simp only; omega) (by simp only; omega)

theorem u1hi (i : grid0.Coords) (arg2 : Memref sig .tc .vmem S1x256x6144 .i8) (k0_h1 : k0_cond1 i = 1#1) (X2 : BufTy.Contents (Elt F) arg2.view.ty)
    (k : Fin k0_t1_loop.trips) (a : Fin 8) (l : Fin 128) :
    U (trip1.sl.r_3 i arg2 k0_h1 X2 k) (ix2 a l)
      = BitVec.ofNat 32 (mag fun j => cd (arg2.view.read (Elt F) X2) ⟨l.val / 64 * 128 + 64 + l.val % 64, by omega⟩ (256 * k.val + (32 * a.val + j.val))) := by
  have hk := trips1 k
  refine U_of _ (fun d => cd (arg2.view.read (Elt F) X2) ⟨l.val / 64 * 128 + 64 + l.val % 64, by omega⟩ (256 * k.val + d)) a l fun p b => ?_
  unfold trip1.sl.r_3
  rw [pay6_wb]
  refine congrArg (fun z => BitVec.toNat z % 128) ?_
  unfold cd
  split
  · exact ld3 arg2.view X2 _ 64 (256 * k.val) (k0_off3_eq k) _ _ _ _ _ (by simp only; omega) (by simp only; omega)
  · exact ld3 arg2.view X2 _ 192 (256 * k.val) (k0_off4_eq k) _ _ _ _ _ (by simp only; omega) (by simp only; omega)

theorem s1 (i : grid0.Coords) (arg5 : Memref sig .tc .smem S1x1x2x48 .f32) (k0_h1 : k0_cond1 i = 1#1) (X5 : BufTy.Contents (Elt F) arg5.view.ty)
    (k : Fin k0_t1_loop.trips) (a : Fin 8) (l : Fin 128) :
    trip1.sl.r_7 i arg5 k0_h1 X5 k (ix2 a l)
      = flS (arg5.view.read (Elt F) X5 (ix4 0 0 ⟨l.val / 64, by omega⟩ ⟨2 * k.val + a.val / 4, by have := trips1 k; omega⟩)) := by
  have hk := trips1 k
  unfold trip1.sl.r_7 trip1.sl.v59 trip1.sl.v60 trip1.sl.v70 trip1.sl.r_4
  rw [pay11_at]
  split <;> split <;> refine congrArg flS ?_
  · exact ld4 arg5.view X5 _ 0 (2 * k.val) (k0_off5_eq k) _ _ _ _ (by simp only; omega) (by simp only; omega)
  · exact ld4 arg5.view X5 _ 1 (2 * k.val) (k0_off6_eq k) _ _ _ _ (by simp only; omega) (by simp only; omega)
  · exact ld4 arg5.view X5 _ 0 (2 * k.val + 1) (k0_off7_eq k) _ _ _ _ (by simp only; omega) (by simp only; omega)
  · exact ld4 arg5.view X5 _ 1 (2 * k.val + 1) (k0_off8_eq k) _ _ _ _ (by simp only; omega) (by simp only; omega)

end Cert.Proof.KernelIdeal

end
-- ==== Proof.Load2I.lean ====
/- The magnitudes and exponents of each trip of the second loop, in terms of the blocks' codes and scales. -/
module

public import proofs.«01_k».proof.Proof.LoadI
public import Idealize.ShloMosaic.Lib.KernelVsHost

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx

variable {F : FTy → Type} [FloatOps F]

/-- Comparing two small numbers as signed words. -/
theorem slt_small (n : ℕ) (hn : n < 128) (m : ℕ) (hm : m < 128) : IntOp.cmpi .slt (BitVec.ofNat 32 n) (BitVec.ofNat 32 m) = if n < m then 1#1 else 0#1 := by
  simp only [IntOp.cmpi, BitVec.slt_eq_decide, BitVec.toInt_ofNat']
  have e1 : (n : ℤ).bmod (2 ^ 32) = n := by rw [Int.bmod_eq_of_le] <;> omega
  have e2 : (m : ℤ).bmod (2 ^ 32) = m := by rw [Int.bmod_eq_of_le] <;> omega
  simp only [e1, e2]
  by_cases c : n < m
  · simp [c]
  · simp [c]

theorem lane_at (p : Fin 64) (l : Fin 128) : lane (ix2 p l) = BitVec.ofNat 32 l.val := by
  unfold lane
  pointwise

/-- The packed words of a block of 128 rows, before any regrouping. -/
theorem pack_wb (x : Vec F S1x128x256 .i8) (p : Fin 64) (l : Fin 128) (b : Fin 4) :
    wb (bitcast S64x128 32 (transpose S256x128 [1, 0] (shapeCast S128x256 x shapeCasts_S1x128x256_S128x256) transposes_S128x256_p1_0_S256x128) bitcasts_S256x128_w8_S64x128_w32 (ix2 p l)) b.val
      = (x (ix3 0 l ⟨4 * p.val + b.val, by omega⟩)).toNat % 128 := by
  rw [wb_eq]
  rw [wb_cast _ _ p l b.val b.isLt ⟨4 * p.val + b.val, by omega⟩ rfl]
  pointwise
  rfl

theorem v45_wb (i : grid0.Coords) (arg3 : Memref sig .tc .vmem S1x128x6144 .i8) (k0_h2 : k0_cond2 i = 1#1) (X3 : BufTy.Contents (Elt F) arg3.view.ty)
    (k : Fin k0_t2_loop.trips) (p : Fin 64) (l : Fin 128) (b : Fin 4) :
    wb (trip2.sl.v45 i arg3 k0_h2 X3 k (ix2 p l)) b.val = (cd (arg3.view.read (Elt F) X3) l (256 * k.val + (4 * p.val + b.val))).toNat % 128 := by
  have hk := trips2 k
  unfold trip2.sl.v45 trip2.sl.v44 trip2.sl.v43
  refine (pack_wb _ p l b).trans ?_
  refine congrArg (fun z => BitVec.toNat z % 128) ?_
  exact ld3 arg3.view X3 _ 0 (256 * k.val) (k0_off13_eq k) _ _ _ _ _ (by first | omega | (simp only; omega)) (by first | omega | (simp only; omega))

theorem v50_wb (i : grid0.Coords) (arg4 : Memref sig .tc .vmem S1x128x6144 .i8) (k0_h2 : k0_cond2 i = 1#1) (X4 : BufTy.Contents (Elt F) arg4.view.ty)
    (k : Fin k0_t2_loop.trips) (p : Fin 64) (l : Fin 128) (b : Fin 4) :
    wb (trip2.sl.v50 i arg4 k0_h2 X4 k (ix2 p l)) b.val = (cd (arg4.view.read (Elt F) X4) l (256 * k.val + (4 * p.val + b.val))).toNat % 128 := by
  have hk := trips2 k
  unfold trip2.sl.v50 trip2.sl.v49 trip2.sl.v48
  refine (pack_wb _ p l b).trans ?_
  refine congrArg (fun z => BitVec.toNat z % 128) ?_
  exact ld3 arg4.view X4 _ 0 (256 * k.val) (k0_off13_eq k) _ _ _ _ _ (by first | omega | (simp only; omega)) (by first | omega | (simp only; omega))

theorem perm_at : ∀ l : Fin 128,
    (Scalar.select (IntOp.cmpi .slt (Scalar.select (IntOp.cmpi .slt (BitVec.ofNat 32 l.val) 64#32) (2#32 * BitVec.ofNat 32 l.val + 1#32) (2#32 * (BitVec.ofNat 32 l.val - 64#32))) 0#32)
        (Scalar.select (IntOp.cmpi .slt (BitVec.ofNat 32 l.val) 64#32) (2#32 * BitVec.ofNat 32 l.val + 1#32) (2#32 * (BitVec.ofNat 32 l.val - 64#32)) + 128#32)
        (Scalar.select (IntOp.cmpi .slt (BitVec.ofNat 32 l.val) 64#32) (2#32 * BitVec.ofNat 32 l.val + 1#32) (2#32 * (BitVec.ofNat 32 l.val - 64#32)))).toNat % 128
      = if l.val < 64 then 2 * l.val + 1 else 2 * (l.val - 64) := by decide +kernel

/-- The lane the value rows are gathered from. -/
def src (l : Fin 128) : Fin 128 := ⟨if l.val < 64 then 2 * l.val + 1 else 2 * (l.val - 64), by split <;> omega⟩

theorem v69_at (i : grid0.Coords) (arg4 : Memref sig .tc .vmem S1x128x6144 .i8) (k0_h2 : k0_cond2 i = 1#1) (X4 : BufTy.Contents (Elt F) arg4.view.ty)
    (k : Fin k0_t2_loop.trips) (p : Fin 64) (l : Fin 128) :
    trip2.sl.v69 i arg4 lane k0_h2 X4 k (ix2 p l) = trip2.sl.v50 i arg4 k0_h2 X4 k (ix2 p (src l)) := by
  have e : trip2.sl.v68 lane (ix2 p l) = trip2.sl.v66 lane (ix2 p l) := by
    unfold trip2.sl.v68 trip2.sl.v67
    pointwise
  have e2 : (trip2.sl.v66 lane (ix2 p l)).toNat % 128 = (src l).val := by
    refine Eq.trans ?_ (perm_at l)
    rw [← lane_at p l]
    rfl
  unfold trip2.sl.v69
  unfold dynamicGather
  refine congrArg (trip2.sl.v50 i arg4 k0_h2 X4 k) (funext fun a => ?_)
  fin_cases a
  · rfl
  · refine Fin.ext ?_
    refine Eq.trans ?_ e2
    exact congrArg (fun z => BitVec.toNat z % 128) e

theorem v52_at (p : Fin 64) (l : Fin 128) : trip2.sl.v52 lane (ix2 p l) = if l.val < 64 then 1#1 else 0#1 := by
  refine Eq.trans ?_ (slt_small l.val l.isLt 64 (by decide))
  rw [← lane_at p l]
  rfl

/-- The row of the key block (lanes below 64) or of the value block a lane's first half is. -/
theorem u2lo (i : grid0.Coords) (arg3 : Memref sig .tc .vmem S1x128x6144 .i8) (arg4 : Memref sig .tc .vmem S1x128x6144 .i8) (k0_h2 : k0_cond2 i = 1#1)
    (X3 : BufTy.Contents (Elt F) arg3.view.ty) (X4 : BufTy.Contents (Elt F) arg4.view.ty) (k : Fin k0_t2_loop.trips) (a : Fin 8) (l : Fin 128) :
    U (trip2.sl.v72 i arg3 arg4 lane k0_h2 X3 X4 k) (ix2 a l)
      = BitVec.ofNat 32 (mag fun j => if l.val < 64 then cd (arg3.view.read (Elt F) X3) l (256 * k.val + (32 * a.val + j.val))
          else cd (arg4.view.read (Elt F) X4) ⟨2 * (l.val - 64), by omega⟩ (256 * k.val + (32 * a.val + j.val))) := by
  refine U_of _ (fun d => if l.val < 64 then cd (arg3.view.read (Elt F) X3) l (256 * k.val + d)
          else cd (arg4.view.read (Elt F) X4) ⟨2 * (l.val - 64), by omega⟩ (256 * k.val + d)) a l fun p b => ?_
  unfold trip2.sl.v72
  show wb (Scalar.select (trip2.sl.v52 lane (ix2 p l)) (trip2.sl.v45 i arg3 k0_h2 X3 k (ix2 p l)) (trip2.sl.v69 i arg4 lane k0_h2 X4 k (ix2 p l))) b.val = _
  rw [v52_at, v69_at]
  by_cases h : l.val < 64
  · simp only [if_pos h]
    exact v45_wb i arg3 k0_h2 X3 k p l b
  · simp only [if_neg h]
    refine (v50_wb i arg4 k0_h2 X4 k p (src l) b).trans ?_
    have e : src l = ⟨2 * (l.val - 64), by omega⟩ := Fin.ext (if_neg h)
    rw [e]

theorem v75_at (i : grid0.Coords) (arg3 : Memref sig .tc .vmem S1x128x6144 .i8) (arg4 : Memref sig .tc .vmem S1x128x6144 .i8) (k0_h2 : k0_cond2 i = 1#1)
    (X3 : BufTy.Contents (Elt F) arg3.view.ty) (X4 : BufTy.Contents (Elt F) arg4.view.ty) (k : Fin k0_t2_loop.trips) (p : Fin 64) (l : Fin 128) :
    trip2.sl.v75 i arg3 arg4 lane k0_h2 X3 X4 k (ix2 p l)
      = if l.val < 64 then trip2.sl.v50 i arg4 k0_h2 X4 k (ix2 p (src l)) else trip2.sl.v45 i arg3 k0_h2 X3 k (ix2 p l) := by
  unfold trip2.sl.v75
  show Scalar.select (trip2.sl.v52 lane (ix2 p l)) (trip2.sl.v69 i arg4 lane k0_h2 X4 k (ix2 p l)) (trip2.sl.v45 i arg3 k0_h2 X3 k (ix2 p l)) = _
  rw [v52_at, v69_at]
  split <;> rfl

theorem u2hi (i : grid0.Coords) (arg3 : Memref sig .tc .vmem S1x128x6144 .i8) (arg4 : Memref sig .tc .vmem S1x128x6144 .i8) (k0_h2 : k0_cond2 i = 1#1)
    (X3 : BufTy.Contents (Elt F) arg3.view.ty) (X4 : BufTy.Contents (Elt F) arg4.view.ty) (k : Fin k0_t2_loop.trips) (a : Fin 8) (l : Fin 128) :
    U (trip2.sl.v76 i arg3 arg4 lane k0_h2 X3 X4 k) (ix2 a l)
      = BitVec.ofNat 32 (mag fun j => if h : l.val < 64 then cd (arg3.view.read (Elt F) X3) ⟨l.val + 64, by omega⟩ (256 * k.val + (32 * a.val + j.val))
          else cd (arg4.view.read (Elt F) X4) ⟨2 * (l.val - 64) + 1, by omega⟩ (256 * k.val + (32 * a.val + j.val))) := by
  refine U_of _ (fun d => if h : l.val < 64 then cd (arg3.view.read (Elt F) X3) ⟨l.val + 64, by omega⟩ (256 * k.val + d)
          else cd (arg4.view.read (Elt F) X4) ⟨2 * (l.val - 64) + 1, by omega⟩ (256 * k.val + d)) a l fun p b => ?_
  have hr : trip2.sl.v76 i arg3 arg4 lane k0_h2 X3 X4 k (ix2 p l) = trip2.sl.v75 i arg3 arg4 lane k0_h2 X3 X4 k (ix2 p ⟨(l.val + 64) % 128, Nat.mod_lt _ (by decide)⟩) := by
    unfold trip2.sl.v76
    refine dynamicRotate_apply _ _ _ _ _ _ fun b => ?_
    fin_cases b
    · rfl
    · exact (show (l.val + 64) % 128 = (l.val + 128 - 64 % 128) % 128 by omega)
  rw [hr]
  rw [v75_at]
  by_cases h : l.val < 64
  · rw [if_neg (by simp only; omega)]
    simp only [dif_pos h]
    refine (v45_wb i arg3 k0_h2 X3 k p _ b).trans ?_
    have e : (⟨(l.val + 64) % 128, Nat.mod_lt _ (by decide)⟩ : Fin 128) = ⟨l.val + 64, by omega⟩ := Fin.ext (by simp only; omega)
    rw [e]
  · rw [if_pos (by simp only; omega)]
    simp only [dif_neg h]
    refine (v50_wb i arg4 k0_h2 X4 k p _ b).trans ?_
    have e0 : (l.val + 64) % 128 < 64 := by omega
    have e : src ⟨(l.val + 64) % 128, Nat.mod_lt _ (by decide)⟩ = ⟨2 * (l.val - 64) + 1, by omega⟩ := Fin.ext ((if_pos e0).trans (by simp only; omega))
    rw [e]

theorem s2 (i : grid0.Coords) (arg6 : Memref sig .tc .smem S1x1x1x48 .f32) (arg7 : Memref sig .tc .smem S1x1x1x48 .f32) (k0_h2 : k0_cond2 i = 1#1)
    (X6 : BufTy.Contents (Elt F) arg6.view.ty) (X7 : BufTy.Contents (Elt F) arg7.view.ty) (k : Fin k0_t2_loop.trips) (a : Fin 8) (l : Fin 128) :
    trip2.sl.v122 i arg6 arg7 k0_h2 X6 X7 k (ix2 a l)
      = flS (if l.val < 64 then arg6.view.read (Elt F) X6 (ix4 0 0 0 ⟨2 * k.val + a.val / 4, by have := trips2 k; omega⟩)
          else arg7.view.read (Elt F) X7 (ix4 0 0 0 ⟨2 * k.val + a.val / 4, by have := trips2 k; omega⟩)) := by
  have hk := trips2 k
  have i1 : trip2.sl.v77 (ix2 a l) = BitVec.ofNat 32 l.val := by unfold trip2.sl.v77; pointwise
  have i0 : trip2.sl.v78 (ix2 a l) = BitVec.ofNat 32 a.val := by unfold trip2.sl.v78; pointwise
  have e : trip2.sl.v122 i arg6 arg7 k0_h2 X6 X7 k (ix2 a l)
      = Scalar.select (IntOp.cmpi .slt (trip2.sl.v78 (ix2 a l)) (BitVec.ofNat 32 4))
        (Scalar.select (IntOp.cmpi .slt (trip2.sl.v77 (ix2 a l)) (BitVec.ofNat 32 64)) (flS (trip2.sl.r i arg6 k0_h2 X6 k)) (flS (trip2.sl.r_1 i arg7 k0_h2 X7 k)))
        (Scalar.select (IntOp.cmpi .slt (trip2.sl.v77 (ix2 a l)) (BitVec.ofNat 32 64)) (flS (trip2.sl.r_2 i arg6 k0_h2 X6 k)) (flS (trip2.sl.r_3 i arg7 k0_h2 X7 k))) := rfl
  rw [e, i0, i1, slt_small _ (by omega) _ (by omega), slt_small _ (by omega) _ (by omega)]
  have r0 : trip2.sl.r i arg6 k0_h2 X6 k = arg6.view.read (Elt F) X6 (ix4 0 0 0 ⟨2 * k.val, by omega⟩) :=
    ld4 arg6.view X6 _ 0 (2 * k.val) (k0_off14_eq k) _ _ _ _ rfl rfl
  have r1 : trip2.sl.r_1 i arg7 k0_h2 X7 k = arg7.view.read (Elt F) X7 (ix4 0 0 0 ⟨2 * k.val, by omega⟩) :=
    ld4 arg7.view X7 _ 0 (2 * k.val) (k0_off14_eq k) _ _ _ _ rfl rfl
  have r2 : trip2.sl.r_2 i arg6 k0_h2 X6 k = arg6.view.read (Elt F) X6 (ix4 0 0 0 ⟨2 * k.val + 1, by omega⟩) :=
    ld4 arg6.view X6 _ 0 (2 * k.val + 1) (k0_off15_eq k) _ _ _ _ rfl rfl
  have r3 : trip2.sl.r_3 i arg7 k0_h2 X7 k = arg7.view.read (Elt F) X7 (ix4 0 0 0 ⟨2 * k.val + 1, by omega⟩) :=
    ld4 arg7.view X7 _ 0 (2 * k.val + 1) (k0_off15_eq k) _ _ _ _ rfl rfl
  rw [r0, r1, r2, r3]
  by_cases h4 : a.val < 4
  · have e4 : (⟨2 * k.val + a.val / 4, by omega⟩ : Fin 48) = ⟨2 * k.val, by omega⟩ := Fin.ext (by simp only; omega)
    rw [e4, if_pos h4]
    by_cases h : l.val < 64
    · simp only [if_pos h]; rfl
    · simp only [if_neg h]; rfl
  · have e4 : (⟨2 * k.val + a.val / 4, by omega⟩ : Fin 48) = ⟨2 * k.val + 1, by omega⟩ := Fin.ext (by simp only; omega)
    rw [e4, if_neg h4]
    by_cases h : l.val < 64
    · simp only [if_pos h]; rfl
    · simp only [if_neg h]; rfl

end Cert.Proof.KernelIdeal

end
-- ==== Proof.Num.lean ====
/- What the codes and the scales denote, and the exponent of their product. -/
module

public import proofs.«01_k».proof.Proof.XsI
public import Idealize.ShloMosaic.PureOps.Ideal

@[expose] public section

noncomputable section

namespace Cert.Proof.Num

open Idealize.ShloMosaic Cert.Proof.KernelIdeal

/-- The value of a code of magnitude `u`. -/
def vR (u : ℕ) : ℝ := if u / 8 = 0 then (u % 8 : ℕ) * (2 : ℝ) ^ (-9 : ℤ) else (8 + u % 8 : ℕ) * (2 : ℝ) ^ (((u / 8 : ℕ) : ℤ) - 10)

/-- Its exponent. -/
def ce (u : ℕ) : ℤ := if 8 ≤ u then ((u / 8 : ℕ) : ℤ) - 7 else (if 2 ≤ u then 1 else 0) + (if 4 ≤ u then 1 else 0) - 9

theorem zpow_nn (n : ℤ) : (0 : ℝ) < (2 : ℝ) ^ n := zpow_pos (by norm_num) n

theorem vR_nonneg (u : ℕ) : 0 ≤ vR u := by
  unfold vR
  split
  · exact mul_nonneg (Nat.cast_nonneg _) (zpow_nn _).le
  · exact mul_nonneg (Nat.cast_nonneg _) (zpow_nn _).le

theorem vR_zero : vR 0 = 0 := by simp [vR]

/-- `2 ^ ce u ≤ vR u < 2 ^ (ce u + 1)`. -/
theorem vR_bounds (u : ℕ) (h : 0 < u) : (2 : ℝ) ^ (ce u) ≤ vR u ∧ vR u < (2 : ℝ) ^ (ce u + 1) := by
  by_cases h8 : 8 ≤ u
  · have h0 : ¬ u / 8 = 0 := by omega
    unfold vR ce
    rw [if_pos h8, if_neg h0]
    have e : (((u / 8 : ℕ) : ℤ) - 7) = 3 + (((u / 8 : ℕ) : ℤ) - 10) := by ring
    have e' : (((u / 8 : ℕ) : ℤ) - 7 + 1) = 4 + (((u / 8 : ℕ) : ℤ) - 10) := by ring
    rw [e', e, zpow_add₀ (by norm_num), zpow_add₀ (by norm_num)]
    have hp := zpow_nn (((u / 8 : ℕ) : ℤ) - 10)
    have l1 : (8 : ℝ) ≤ ((8 + u % 8 : ℕ) : ℝ) := by exact_mod_cast Nat.le_add_right 8 _
    have l2 : ((8 + u % 8 : ℕ) : ℝ) < 16 := by exact_mod_cast (by omega : 8 + u % 8 < 16)
    constructor
    · have : (2 : ℝ) ^ (3 : ℤ) = 8 := by norm_num
      rw [this]; exact mul_le_mul_of_nonneg_right l1 hp.le
    · have : (2 : ℝ) ^ (4 : ℤ) = 16 := by norm_num
      rw [this]; exact mul_lt_mul_of_pos_right l2 hp
  · have : u < 8 := by omega
    interval_cases u <;> norm_num [vR, ce]

theorem vR_pos (u : ℕ) (h : 0 < u) : 0 < vR u := lt_of_lt_of_le (zpow_nn _) (vR_bounds u h).1

theorem vR_mono {u v : ℕ} (h : u ≤ v) : vR u ≤ vR v := by
  by_cases e : u / 8 = v / 8
  · have hm : u % 8 ≤ v % 8 := by omega
    unfold vR
    rw [e]
    split
    · exact mul_le_mul_of_nonneg_right (by exact_mod_cast hm) (zpow_nn _).le
    · exact mul_le_mul_of_nonneg_right (by exact_mod_cast Nat.add_le_add_left hm 8) (zpow_nn _).le
  · rcases Nat.eq_zero_or_pos u with rfl | hu
    · rw [vR_zero]; exact vR_nonneg v
    have hlt : u / 8 < v / 8 := by have : u / 8 ≤ v / 8 := Nat.div_le_div_right h; omega
    refine ((vR_bounds u hu).2.le).trans (le_trans ?_ (vR_bounds v (by omega)).1)
    refine zpow_le_zpow_right₀ (by norm_num) ?_
    unfold ce
    rw [if_pos (show 8 ≤ v by omega)]
    split
    · push_cast; omega
    · split <;> split <;> omega

/-- The magnitude of a code's value. -/
theorem abs_code : ∀ b : BitVec 8, b.toNat % 128 ≠ 127 →
    ∃ r : ℝ, Ideal.ofBits .fp8e4m3 b = (r : EReal) ∧ |r| = vR (b.toNat % 128) := by
  intro b hb
  have hex : (b.extractLsb' 3 4).toNat = b.toNat % 128 / 8 := by
    rw [BitVec.extractLsb'_toNat, Nat.shiftRight_eq_div_pow]; omega
  have hfr : (b.extractLsb' 0 3).toNat = b.toNat % 128 % 8 := by
    rw [BitVec.extractLsb'_toNat, Nat.shiftRight_eq_div_pow]; omega
  show ∃ r : ℝ, Ideal.e4m3fn b = (r : EReal) ∧ _
  unfold Ideal.e4m3fn
  simp only [hex, hfr]
  rw [if_neg (by omega)]
  unfold vR
  have hs : |(if (b.extractLsb' 7 1 == 1#1) = true then (-1 : ℝ) else 1)| = 1 := by split <;> simp
  split
  · refine ⟨_, rfl, ?_⟩
    rw [abs_mul, abs_mul, hs, one_mul, Nat.abs_cast, abs_of_pos (zpow_nn _)]
  · refine ⟨_, rfl, ?_⟩
    rw [abs_mul, abs_mul, hs, one_mul, Nat.abs_cast, abs_of_pos (zpow_nn _)]

/-- The constant two. -/
theorem two_eq : Ideal.ofBits .f32 0x40000000#32 = ((2 : ℝ) : EReal) := by
  show Ideal.ieee 8 23 0x40000000#32 = _
  have h1 : (BitVec.extractLsb' 23 8 (0x40000000#32)).toNat = 128 := by decide
  have h2 : (BitVec.extractLsb' 0 23 (0x40000000#32)).toNat = 0 := by decide
  have h3 : (BitVec.extractLsb' (8 + 23) 1 (0x40000000#32) == 1#1) = false := by decide
  unfold Ideal.ieee
  simp only [h1, h2, h3]
  norm_num

theorem zero_eq : Ideal.ofBits .f32 0x00000000#32 = ((0 : ℝ) : EReal) := by
  show Ideal.ieee 8 23 0x00000000#32 = _
  have h1 : (BitVec.extractLsb' 23 8 (0x00000000#32)).toNat = 0 := by decide
  have h2 : (BitVec.extractLsb' 0 23 (0x00000000#32)).toNat = 0 := by decide
  unfold Ideal.ieee
  simp only [h1, h2]
  norm_num

theorem ninf_eq : Ideal.ofBits .f32 0xFF800000#32 = ⊥ := by
  show Ideal.ieee 8 23 0xFF800000#32 = _
  have h1 : (BitVec.extractLsb' 23 8 (0xFF800000#32)).toNat = 255 := by decide
  have h2 : (BitVec.extractLsb' 0 23 (0xFF800000#32)).toNat = 0 := by decide
  have h3 : (BitVec.extractLsb' (8 + 23) 1 (0xFF800000#32) == 1#1) = true := by decide
  unfold Ideal.ieee
  simp only [h1, h2, h3]
  norm_num

/-- The logarithm in base two. -/
def lg (r : ℝ) : ℝ := Real.log r * (Real.log 2)⁻¹

theorem log2_pos : 0 < Real.log 2 := Real.log_pos (by norm_num)

theorem lg_zpow (j : ℤ) : lg ((2 : ℝ) ^ j) = j := by
  unfold lg
  rw [Real.log_zpow, mul_assoc, mul_inv_cancel₀ log2_pos.ne', mul_one]

theorem lg_le {x y : ℝ} (h : 0 < x) (e : x ≤ y) : lg x ≤ lg y :=
  mul_le_mul_of_nonneg_right (Real.log_le_log h e) (inv_nonneg.2 log2_pos.le)

theorem lg_lt {x y : ℝ} (h : 0 < x) (e : x < y) : lg x < lg y :=
  mul_lt_mul_of_pos_right (Real.log_lt_log h e) (inv_pos.2 log2_pos)

/-- The logarithm of a positive real in base two, as the programs compute it. -/
theorem div_log (r : ℝ) (hr : 0 < r) : Ideal.div (Ideal.log (r : EReal)) (Ideal.log (Ideal.ofBits .f32 0x40000000#32)) = ((lg r : ℝ) : EReal) := by
  have hl : Real.log 2 ≠ 0 := (Real.log_pos (by norm_num)).ne'
  rw [two_eq]
  have e1 : Ideal.log (r : EReal) = ((Real.log r : ℝ) : EReal) := if_neg (not_le.2 hr)
  have e2 : Ideal.log ((2 : ℝ) : EReal) = ((Real.log 2 : ℝ) : EReal) := if_neg (by norm_num)
  rw [e1, e2]
  unfold Ideal.div
  rw [if_neg (by exact_mod_cast hl), ← EReal.coe_inv, ← EReal.coe_mul]
  rfl

theorem fptosi_floor (r : ℝ) (h1 : -1000 ≤ ⌊r⌋) (h2 : ⌊r⌋ ≤ 1000) : Ideal.fptosi 32 (Ideal.liftRound Int.floor (r : EReal)) = BitVec.ofInt 32 ⌊r⌋ := by
  show BitVec.ofInt 32 (max _ (min _ (if (0 : ℝ) ≤ ((⌊r⌋ : ℤ) : ℝ) then ⌊((⌊r⌋ : ℤ) : ℝ)⌋ else ⌈((⌊r⌋ : ℤ) : ℝ)⌉))) = _
  rw [Int.floor_intCast, Int.ceil_intCast, ite_self]
  congr 1
  norm_num
  omega

/-- A scale as the claim takes it: a power of two with exponent `n`. -/
structure Pow (s : EReal) (n : ℤ) : Prop where
  eq : s = (((2 : ℝ) ^ n : ℝ) : EReal)
  lo : -63 ≤ n
  hi : n ≤ 63

/-- The exponent of a scale. -/
theorem ls_eq {s : EReal} {n : ℤ} (h : Pow s n) :
    Ideal.fptosi 32 (Ideal.liftRound Int.floor (Ideal.div (Ideal.log s) (Ideal.log (Ideal.ofBits .f32 0x40000000#32)))) = BitVec.ofInt 32 n := by
  have e : lg ((2 : ℝ) ^ n) = n := lg_zpow n
  rw [h.eq, div_log _ (zpow_nn n), e, fptosi_floor _ (by rw [Int.floor_intCast]; have := h.lo; omega) (by rw [Int.floor_intCast]; have := h.hi; omega),
    Int.floor_intCast]

/-- The exponent of a code's magnitude times a scale. -/
theorem fl_eq {n : ℤ} (h1 : -63 ≤ n) (h2 : n ≤ 63) (u : ℕ) (hu : 0 < u) (hu' : u < 128) :
    Ideal.fptosi 32 (Ideal.liftRound Int.floor (Ideal.div (Ideal.log ((vR u * (2 : ℝ) ^ n : ℝ) : EReal)) (Ideal.log (Ideal.ofBits .f32 0x40000000#32))))
      = BitVec.ofInt 32 (ce u + n) := by
  have hp : 0 < vR u * (2 : ℝ) ^ n := mul_pos (vR_pos u hu) (zpow_nn n)
  have hfl : ⌊lg (vR u * (2 : ℝ) ^ n)⌋ = ce u + n := by
    obtain ⟨b1, b2⟩ := vR_bounds u hu
    rw [Int.floor_eq_iff]
    have k : ∀ j : ℤ, lg ((2 : ℝ) ^ j) = j := lg_zpow
    constructor
    · rw [← k (ce u + n)]
      refine lg_le (zpow_nn _) ?_
      rw [zpow_add₀ (by norm_num)]
      exact mul_le_mul_of_nonneg_right b1 (zpow_nn n).le
    · have : ((ce u + n : ℤ) : ℝ) + 1 = ((ce u + 1 + n : ℤ) : ℝ) := by push_cast; ring
      rw [this, ← k (ce u + 1 + n)]
      refine lg_lt hp ?_
      rw [zpow_add₀ (by norm_num)]
      exact mul_lt_mul_of_pos_right b2 (zpow_nn n)
  have hc : -9 ≤ ce u ∧ ce u ≤ 9 := by
    unfold ce
    constructor
    · split
      · omega
      · split <;> split <;> omega
    · split
      · omega
      · split <;> split <;> omega
  rw [div_log _ hp, fptosi_floor _ (by omega) (by omega), hfl]

theorem codeX_eq : ∀ u : Fin 128, codeX (BitVec.ofNat 32 u.val) = BitVec.ofInt 32 (ce u.val - 2) := by
  unfold ce
  decide +kernel

/-- THE BYTE: the reference's word from the largest magnitude's product is the kernel's. -/
theorem byte_eq {s : EReal} {n : ℤ} (h : Pow s n) (u : ℕ) (hu : u < 128) (a : EReal) (ha : a = ((vR u * (2 : ℝ) ^ n : ℝ) : EReal)) :
    ((Scalar.select (Ideal.cmp .oeq a (Ideal.ofBits .f32 0x00000000#32)) 0#32
        (Ideal.fptosi 32 (Ideal.liftRound Int.floor (Ideal.div (Ideal.log a) (Ideal.log (Ideal.ofBits .f32 0x40000000#32)))) + 1#32) - 3#32 + 127#32) &&& 255#32)
      = byteW (BitVec.ofNat 32 u) (BitVec.ofInt 32 n) := by
  subst ha
  unfold byteW
  rcases Nat.eq_zero_or_pos u with rfl | h0
  · have : Ideal.cmp .oeq ((vR 0 * (2 : ℝ) ^ n : ℝ) : EReal) (Ideal.ofBits .f32 0x00000000#32) = 1#1 := by
      rw [vR_zero, zero_mul, zero_eq]; simp [Ideal.cmp]
    rw [this]
    have e0 : IntOp.cmpi .eq (BitVec.ofNat 32 0) 0#32 = 1#1 := rfl
    rw [e0]
    have t : ∀ x y : BitVec 32, Scalar.select (1#1) x y = x := fun _ _ => rfl
    rw [t, t]
    rfl
  · have hp : 0 < vR u * (2 : ℝ) ^ n := mul_pos (vR_pos u h0) (zpow_nn n)
    have : Ideal.cmp .oeq ((vR u * (2 : ℝ) ^ n : ℝ) : EReal) (Ideal.ofBits .f32 0x00000000#32) = 0#1 := by
      rw [zero_eq]
      have : ¬ ((vR u * (2 : ℝ) ^ n : ℝ) : EReal) = ((0 : ℝ) : EReal) := fun e => hp.ne' (EReal.coe_eq_coe_iff.1 e)
      simp only [Ideal.cmp, this, decide_false]; rfl
    rw [this, fl_eq h.lo h.hi u h0 hu]
    have e2 : IntOp.cmpi .eq (BitVec.ofNat 32 u) 0#32 = 0#1 := by
      have : (BitVec.ofNat 32 u == 0#32) = false := by
        rw [beq_eq_false_iff_ne]
        intro e
        have := congrArg BitVec.toNat e
        rw [BitVec.toNat_ofNat, Nat.mod_eq_of_lt (by omega)] at this
        simp at this
        omega
      simp only [IntOp.cmpi, this]; rfl
    rw [e2, codeX_eq ⟨u, hu⟩]
    show (BitVec.ofInt 32 (ce u + n) + 1#32 - 3#32 + 127#32) &&& 255#32 = (BitVec.ofInt 32 (ce u - 2) + BitVec.ofInt 32 n + 127#32) &&& 255#32
    congr 1
    have e3 : BitVec.ofInt 32 (ce u + n) = BitVec.ofInt 32 (ce u - 2) + BitVec.ofInt 32 n + 2#32 := by
      rw [show (2#32 : BitVec 32) = BitVec.ofInt 32 2 from rfl, ← BitVec.ofInt_add, ← BitVec.ofInt_add]
      congr 1; ring
    rw [e3]
    generalize BitVec.ofInt 32 (ce u - 2) + BitVec.ofInt 32 n = w
    bv_omega

end Cert.Proof.Num

end
-- ==== Proof.RefPack.lean ====
/- The reference's scale bytes, element by element. -/
module

public import proofs.«01_k».proof.Proof.RefRun
public import proofs.«01_k».proof.Proof.Num
public import Idealize.ShloMosaic.Lib.Pointwise
public import Idealize.ShloMosaic.Lib.ValueIdxRank6

@[expose] public section

set_option maxRecDepth 16384

noncomputable section

namespace Cert.Proof.RefRun

open Cert.ReferenceIdeal Cert.ReferenceIdeal.Gen
open Idealize.ShloMosaic hiding ix1 ix2 ix3 ix4 ix5 ix6
open Idealize.ShloMosaic.TcCoe Idealize.ShloMosaic.ValueIdx

/-- The row of the packed array's lane `L`, half `h`: of the query, the key or the value array. -/
def sel {α : Type} (L : Fin 4608) (h : Fin 2) (f : Fin 8192 → α) (g1 g2 : Fin 512 → α) : α :=
  if h0 : L.val % 1152 / 64 < 16 then f ⟨(L.val / 1152 * 16 + L.val % 1152 / 64) * 128 + h.val * 64 + L.val % 64, by omega⟩
  else if L.val % 1152 / 64 = 16 then g1 ⟨L.val / 1152 * 128 + h.val * 64 + L.val % 64, by omega⟩
  else g2 ⟨L.val / 1152 * 128 + 2 * (L.val % 64) + h.val, by omega⟩

/-- The three arrays' rows regrouped by lane and half. -/
def pack6144 {α : Type} (x : S5x8192x6144.Idx → α) (y z : S5x512x6144.Idx → α) : S5x6144x2x4608.Idx → α :=
  shapeCast S5x6144x2x4608 (transpose S5x6144x2x4x18x64 [0, 5, 3, 1, 2, 4]
    (concatenate S5x4x18x2x64x6144 2
      [⟨S5x4x16x2x64x6144, shapeCast S5x4x16x2x64x6144 x shapeCasts_S5x8192x6144_S5x4x16x2x64x6144⟩,
       ⟨S5x4x1x2x64x6144, shapeCast S5x4x1x2x64x6144 y shapeCasts_S5x512x6144_S5x4x1x2x64x6144⟩,
       ⟨S5x4x1x2x64x6144, transpose S5x4x1x2x64x6144 [0, 1, 2, 4, 3, 5] (shapeCast S5x4x1x64x2x6144 z shapeCasts_S5x512x6144_S5x4x1x64x2x6144) transposes_S5x4x1x64x2x6144_p0_1_2_4_3_5_S5x4x1x2x64x6144⟩]
      concatenates_S5x4x16x2x64x6144_S5x4x1x2x64x6144_S5x4x1x2x64x6144_S5x4x18x2x64x6144_d2)
    transposes_S5x4x18x2x64x6144_p0_5_3_1_2_4_S5x6144x2x4x18x64) shapeCasts_S5x6144x2x4x18x64_S5x6144x2x4608

theorem pack6144_at {α : Type} (x : S5x8192x6144.Idx → α) (y z : S5x512x6144.Idx → α) (e : Fin 5) (d : Fin 6144) (h : Fin 2) (L : Fin 4608) :
    pack6144 x y z (ix4 e d h L) = sel L h (fun r => x (ix3 e r d)) (fun r => y (ix3 e r d)) (fun r => z (ix3 e r d)) := by
  have hL := L.isLt
  have hd := d.isLt
  unfold pack6144
  rw [shapeCast_apply _ _ _ (ix6 e d h ⟨L.val / 1152, by omega⟩ ⟨L.val % 1152 / 64, by omega⟩ ⟨L.val % 64, by omega⟩)
    (by rw [Shape.rowMajor_val_six, Shape.rowMajor_val_four]
        show ((((e.val * 6144 + d.val) * 2 + h.val) * 4 + L.val / 1152) * 18 + L.val % 1152 / 64) * 64 + L.val % 64 = ((e.val * 6144 + d.val) * 2 + h.val) * 4608 + L.val
        omega)]
  rw [transpose_apply _ _ _ _ (ix6 e (⟨L.val / 1152, by omega⟩ : Fin 4) (⟨L.val % 1152 / 64, by omega⟩ : Fin 18) h (⟨L.val % 64, by omega⟩ : Fin 64) d) (by intro b; fin_cases b <;> rfl)]
  unfold sel
  split
  · rename_i h0
    refine (concatenate_apply_piece (t := S5x4x18x2x64x6144) (2 : Fin 6) _ _ _ 0 (by exact (show 0 < 3 by decide)) S5x4x16x2x64x6144 _ rfl rfl 0 rfl
      (ix6 e (⟨L.val / 1152, by omega⟩ : Fin 4) (⟨L.val % 1152 / 64, h0⟩ : Fin 16) h (⟨L.val % 64, by omega⟩ : Fin 64) d)
      (by intro b hb; fin_cases b <;> first | rfl | exact absurd rfl hb) (by exact Nat.zero_add _)).trans ?_
    refine shapeCast_apply _ _ _ _ ?_
    rw [Shape.rowMajor_val_six, Shape.rowMajor_val_three]
    show (e.val * 8192 + ((L.val / 1152 * 16 + L.val % 1152 / 64) * 128 + h.val * 64 + L.val % 64)) * 6144 + d.val
      = ((((e.val * 4 + L.val / 1152) * 16 + L.val % 1152 / 64) * 2 + h.val) * 64 + L.val % 64) * 6144 + d.val
    omega
  · rename_i h0
    split
    · rename_i h1
      refine (concatenate_apply_piece (t := S5x4x18x2x64x6144) (2 : Fin 6) _ _ _ 1 (by exact (show 1 < 3 by decide)) S5x4x1x2x64x6144 _ rfl rfl 16 rfl
        (ix6 e (⟨L.val / 1152, by omega⟩ : Fin 4) (0 : Fin 1) h (⟨L.val % 64, by omega⟩ : Fin 64) d)
        (by intro b hb; fin_cases b <;> first | rfl | exact absurd rfl hb) (by exact h1.symm)).trans ?_
      refine shapeCast_apply _ _ _ _ ?_
      rw [Shape.rowMajor_val_six, Shape.rowMajor_val_three]
      show (e.val * 512 + (L.val / 1152 * 128 + h.val * 64 + L.val % 64)) * 6144 + d.val
        = ((((e.val * 4 + L.val / 1152) * 1 + 0) * 2 + h.val) * 64 + L.val % 64) * 6144 + d.val
      omega
    · rename_i h1
      refine (concatenate_apply_piece (t := S5x4x18x2x64x6144) (2 : Fin 6) _ _ _ 2 (by exact (show 2 < 3 by decide)) S5x4x1x2x64x6144 _ rfl rfl 17 rfl
        (ix6 e (⟨L.val / 1152, by omega⟩ : Fin 4) (0 : Fin 1) h (⟨L.val % 64, by omega⟩ : Fin 64) d)
        (by intro b hb; fin_cases b <;> first | rfl | exact absurd rfl hb) (by show 17 + 0 = L.val % 1152 / 64; omega)).trans ?_
      rw [transpose_apply _ _ _ _ (ix6 e (⟨L.val / 1152, by omega⟩ : Fin 4) (0 : Fin 1) (⟨L.val % 64, by omega⟩ : Fin 64) h d) (by intro b; fin_cases b <;> rfl)]
      refine shapeCast_apply _ _ _ _ ?_
      rw [Shape.rowMajor_val_six, Shape.rowMajor_val_three]
      show (e.val * 512 + (L.val / 1152 * 128 + 2 * (L.val % 64) + h.val)) * 6144 + d.val
        = ((((e.val * 4 + L.val / 1152) * 1 + 0) * 64 + L.val % 64) * 2 + h.val) * 6144 + d.val
      omega

/-- The three arrays' rows regrouped by lane and half. -/
def pack48 {α : Type} (x : S5x8192x48.Idx → α) (y z : S5x512x48.Idx → α) : S5x48x2x4608.Idx → α :=
  shapeCast S5x48x2x4608 (transpose S5x48x2x4x18x64 [0, 5, 3, 1, 2, 4]
    (concatenate S5x4x18x2x64x48 2
      [⟨S5x4x16x2x64x48, shapeCast S5x4x16x2x64x48 x shapeCasts_S5x8192x48_S5x4x16x2x64x48⟩,
       ⟨S5x4x1x2x64x48, shapeCast S5x4x1x2x64x48 y shapeCasts_S5x512x48_S5x4x1x2x64x48⟩,
       ⟨S5x4x1x2x64x48, transpose S5x4x1x2x64x48 [0, 1, 2, 4, 3, 5] (shapeCast S5x4x1x64x2x48 z shapeCasts_S5x512x48_S5x4x1x64x2x48) transposes_S5x4x1x64x2x48_p0_1_2_4_3_5_S5x4x1x2x64x48⟩]
      concatenates_S5x4x16x2x64x48_S5x4x1x2x64x48_S5x4x1x2x64x48_S5x4x18x2x64x48_d2)
    transposes_S5x4x18x2x64x48_p0_5_3_1_2_4_S5x48x2x4x18x64) shapeCasts_S5x48x2x4x18x64_S5x48x2x4608

theorem pack48_at {α : Type} (x : S5x8192x48.Idx → α) (y z : S5x512x48.Idx → α) (e : Fin 5) (d : Fin 48) (h : Fin 2) (L : Fin 4608) :
    pack48 x y z (ix4 e d h L) = sel L h (fun r => x (ix3 e r d)) (fun r => y (ix3 e r d)) (fun r => z (ix3 e r d)) := by
  have hL := L.isLt
  have hd := d.isLt
  unfold pack48
  rw [shapeCast_apply _ _ _ (ix6 e d h ⟨L.val / 1152, by omega⟩ ⟨L.val % 1152 / 64, by omega⟩ ⟨L.val % 64, by omega⟩)
    (by rw [Shape.rowMajor_val_six, Shape.rowMajor_val_four]
        show ((((e.val * 48 + d.val) * 2 + h.val) * 4 + L.val / 1152) * 18 + L.val % 1152 / 64) * 64 + L.val % 64 = ((e.val * 48 + d.val) * 2 + h.val) * 4608 + L.val
        omega)]
  rw [transpose_apply _ _ _ _ (ix6 e (⟨L.val / 1152, by omega⟩ : Fin 4) (⟨L.val % 1152 / 64, by omega⟩ : Fin 18) h (⟨L.val % 64, by omega⟩ : Fin 64) d) (by intro b; fin_cases b <;> rfl)]
  unfold sel
  split
  · rename_i h0
    refine (concatenate_apply_piece (t := S5x4x18x2x64x48) (2 : Fin 6) _ _ _ 0 (by exact (show 0 < 3 by decide)) S5x4x16x2x64x48 _ rfl rfl 0 rfl
      (ix6 e (⟨L.val / 1152, by omega⟩ : Fin 4) (⟨L.val % 1152 / 64, h0⟩ : Fin 16) h (⟨L.val % 64, by omega⟩ : Fin 64) d)
      (by intro b hb; fin_cases b <;> first | rfl | exact absurd rfl hb) (by exact Nat.zero_add _)).trans ?_
    refine shapeCast_apply _ _ _ _ ?_
    rw [Shape.rowMajor_val_six, Shape.rowMajor_val_three]
    show (e.val * 8192 + ((L.val / 1152 * 16 + L.val % 1152 / 64) * 128 + h.val * 64 + L.val % 64)) * 48 + d.val
      = ((((e.val * 4 + L.val / 1152) * 16 + L.val % 1152 / 64) * 2 + h.val) * 64 + L.val % 64) * 48 + d.val
    omega
  · rename_i h0
    split
    · rename_i h1
      refine (concatenate_apply_piece (t := S5x4x18x2x64x48) (2 : Fin 6) _ _ _ 1 (by exact (show 1 < 3 by decide)) S5x4x1x2x64x48 _ rfl rfl 16 rfl
        (ix6 e (⟨L.val / 1152, by omega⟩ : Fin 4) (0 : Fin 1) h (⟨L.val % 64, by omega⟩ : Fin 64) d)
        (by intro b hb; fin_cases b <;> first | rfl | exact absurd rfl hb) (by exact h1.symm)).trans ?_
      refine shapeCast_apply _ _ _ _ ?_
      rw [Shape.rowMajor_val_six, Shape.rowMajor_val_three]
      show (e.val * 512 + (L.val / 1152 * 128 + h.val * 64 + L.val % 64)) * 48 + d.val
        = ((((e.val * 4 + L.val / 1152) * 1 + 0) * 2 + h.val) * 64 + L.val % 64) * 48 + d.val
      omega
    · rename_i h1
      refine (concatenate_apply_piece (t := S5x4x18x2x64x48) (2 : Fin 6) _ _ _ 2 (by exact (show 2 < 3 by decide)) S5x4x1x2x64x48 _ rfl rfl 17 rfl
        (ix6 e (⟨L.val / 1152, by omega⟩ : Fin 4) (0 : Fin 1) h (⟨L.val % 64, by omega⟩ : Fin 64) d)
        (by intro b hb; fin_cases b <;> first | rfl | exact absurd rfl hb) (by show 17 + 0 = L.val % 1152 / 64; omega)).trans ?_
      rw [transpose_apply _ _ _ _ (ix6 e (⟨L.val / 1152, by omega⟩ : Fin 4) (0 : Fin 1) (⟨L.val % 64, by omega⟩ : Fin 64) h d) (by intro b; fin_cases b <;> rfl)]
      refine shapeCast_apply _ _ _ _ ?_
      rw [Shape.rowMajor_val_six, Shape.rowMajor_val_three]
      show (e.val * 512 + (L.val / 1152 * 128 + 2 * (L.val % 64) + h.val)) * 48 + d.val
        = ((((e.val * 4 + L.val / 1152) * 1 + 0) * 64 + L.val % 64) * 2 + h.val) * 48 + d.val
      omega

end Cert.Proof.RefRun

end
-- ==== Proof.RefVal.lean ====
/- The reference's scale bytes, element by element. -/
module

public import proofs.«01_k».proof.Proof.RefPack
public import proofs.«01_k».proof.Proof.Num
public import Idealize.ShloMosaic.Lib.Pointwise
public import Idealize.ShloMosaic.Lib.ValueIdxRank6

@[expose] public section

set_option maxRecDepth 16384

noncomputable section

namespace Cert.Proof.RefRun

open Cert.ReferenceIdeal Cert.ReferenceIdeal.Gen
open Idealize.ShloMosaic hiding ix1 ix2 ix3 ix4 ix5 ix6
open Idealize.ShloMosaic.TcCoe Idealize.ShloMosaic.ValueIdx

/-- A scale array spread over its blocks' rows. -/
theorem spreadQ (x : S5x64x48.Idx → EReal) (e : Fin 5) (r : Fin 8192) (b : Fin 48) :
    shapeCast S5x8192x48 (broadcastTo S5x64x128x48 (shapeCast S5x64x1x48 (shapeCast S5x64x1x48 x shapeCasts_S5x64x48_S5x64x1x48) shapeCasts_S5x64x1x48_S5x64x1x48) broadcasts_S5x64x1x48_S5x64x128x48) shapeCasts_S5x64x128x48_S5x8192x48 (ix3 e r b)
      = x (ix3 e ⟨r.val / 128, by omega⟩ b) := by
  rw [shapeCast_apply _ _ _ (ix4 e (⟨r.val / 128, by omega⟩ : Fin 64) (⟨r.val % 128, by omega⟩ : Fin 128) b)
    (by rw [Shape.rowMajor_val_four, Shape.rowMajor_val_three]
        show ((e.val * 64 + r.val / 128) * 128 + r.val % 128) * 48 + b.val = (e.val * 8192 + r.val) * 48 + b.val
        omega)]
  rw [broadcastTo_apply _ _ _ (ix4 e (⟨r.val / 128, by omega⟩ : Fin 64) (0 : Fin 1) b) (by intro a; fin_cases a <;> rfl)]
  rw [Idealize.ShloMosaic.shapeCast_self]
  refine shapeCast_apply _ _ _ _ ?_
  rw [Shape.rowMajor_val_four, Shape.rowMajor_val_three]
  show (e.val * 64 + r.val / 128) * 48 + b.val = ((e.val * 64 + r.val / 128) * 1 + 0) * 48 + b.val
  omega

theorem spreadK (x : S5x4x48.Idx → EReal) (e : Fin 5) (r : Fin 512) (b : Fin 48) :
    shapeCast S5x512x48 (broadcastTo S5x4x128x48 (shapeCast S5x4x1x48 (shapeCast S5x4x1x48 x shapeCasts_S5x4x48_S5x4x1x48) shapeCasts_S5x4x1x48_S5x4x1x48) broadcasts_S5x4x1x48_S5x4x128x48) shapeCasts_S5x4x128x48_S5x512x48 (ix3 e r b)
      = x (ix3 e ⟨r.val / 128, by omega⟩ b) := by
  rw [shapeCast_apply _ _ _ (ix4 e (⟨r.val / 128, by omega⟩ : Fin 4) (⟨r.val % 128, by omega⟩ : Fin 128) b)
    (by rw [Shape.rowMajor_val_four, Shape.rowMajor_val_three]
        show ((e.val * 4 + r.val / 128) * 128 + r.val % 128) * 48 + b.val = (e.val * 512 + r.val) * 48 + b.val
        omega)]
  rw [broadcastTo_apply _ _ _ (ix4 e (⟨r.val / 128, by omega⟩ : Fin 4) (0 : Fin 1) b) (by intro a; fin_cases a <;> rfl)]
  rw [Idealize.ShloMosaic.shapeCast_self]
  refine shapeCast_apply _ _ _ _ ?_
  rw [Shape.rowMajor_val_four, Shape.rowMajor_val_three]
  show (e.val * 4 + r.val / 128) * 48 + b.val = ((e.val * 4 + r.val / 128) * 1 + 0) * 48 + b.val
  omega

/-- The code at a packed place, and the scale of its block. -/
def codeAt (q : S5x8192x6144.Idx → BitVec 8) (k v : S5x512x6144.Idx → BitVec 8) (e : Fin 5) (d : Fin 6144) (h : Fin 2) (L : Fin 4608) : BitVec 8 :=
  sel L h (fun r => q (ix3 e r d)) (fun r => k (ix3 e r d)) (fun r => v (ix3 e r d))
def scaleAt (qs : S5x64x48.Idx → EReal) (ks vs : S5x4x48.Idx → EReal) (e : Fin 5) (b : Fin 48) (h : Fin 2) (L : Fin 4608) : EReal :=
  sel L h (fun r => qs (ix3 e ⟨r.val / 128, by omega⟩ b)) (fun r => ks (ix3 e ⟨r.val / 128, by omega⟩ b)) (fun r => vs (ix3 e ⟨r.val / 128, by omega⟩ b))

theorem sel_map {α β : Type} (φ : α → β) (L : Fin 4608) (h : Fin 2) (f : Fin 8192 → α) (g1 g2 : Fin 512 → α) :
    sel L h (fun r => φ (f r)) (fun r => φ (g1 r)) (fun r => φ (g2 r)) = φ (sel L h f g1 g2) := by
  unfold sel
  split
  · rfl
  · split <;> rfl

/-- A packed value: the code times its block's scale. -/
theorem pay2_at (q : Vec Ideal S5x8192x6144 .i8) (k : Vec Ideal S5x512x6144 .i8) (v : Vec Ideal S5x512x6144 .i8) (qs : Vec Ideal S5x64x48 .f32)
    (ks : Vec Ideal S5x4x48 .f32) (vs : Vec Ideal S5x4x48 .f32) (e : Fin 5) (b : Fin 48) (j : Fin 128) (h : Fin 2) (L : Fin 4608) :
    k0_pay2 (F := Ideal) q k v qs ks vs (ix5 e b j h L)
      = Ideal.ofBits .fp8e4m3 (codeAt q k v e ⟨128 * b.val + j.val, by omega⟩ h L) * scaleAt qs ks vs e b h L := by
  have e1 : k0_pay2 (F := Ideal) q k v qs ks vs (ix5 e b j h L)
      = (mulf (F := Ideal) (φ := .f32) (shapeCast S5x48x128x2x4608 (pack6144 (fun i => Ideal.ofBits .fp8e4m3 (q i)) (fun i => Ideal.ofBits .fp8e4m3 (k i)) (fun i => Ideal.ofBits .fp8e4m3 (v i))) shapeCasts_S5x6144x2x4608_S5x48x128x2x4608)
        (broadcastTo S5x48x128x2x4608 (shapeCast S5x48x1x2x4608 (pack48
            (shapeCast S5x8192x48 (broadcastTo S5x64x128x48 (shapeCast S5x64x1x48 (shapeCast S5x64x1x48 qs shapeCasts_S5x64x48_S5x64x1x48) shapeCasts_S5x64x1x48_S5x64x1x48) broadcasts_S5x64x1x48_S5x64x128x48) shapeCasts_S5x64x128x48_S5x8192x48)
            (shapeCast S5x512x48 (broadcastTo S5x4x128x48 (shapeCast S5x4x1x48 (shapeCast S5x4x1x48 ks shapeCasts_S5x4x48_S5x4x1x48) shapeCasts_S5x4x1x48_S5x4x1x48) broadcasts_S5x4x1x48_S5x4x128x48) shapeCasts_S5x4x128x48_S5x512x48)
            (shapeCast S5x512x48 (broadcastTo S5x4x128x48 (shapeCast S5x4x1x48 (shapeCast S5x4x1x48 vs shapeCasts_S5x4x48_S5x4x1x48) shapeCasts_S5x4x1x48_S5x4x1x48) broadcasts_S5x4x1x48_S5x4x128x48) shapeCasts_S5x4x128x48_S5x512x48))
            shapeCasts_S5x48x2x4608_S5x48x1x2x4608) broadcasts_S5x48x1x2x4608_S5x48x128x2x4608)) (ix5 e b j h L) := by
    refine congrFun ?_ _
    unfold k0_pay2 pack6144 pack48
    rfl
  rw [e1]
  have hL := L.isLt
  refine (mulf_apply _ _ _).trans (congrArg₂ (fun a b : EReal => a * b) ?_ ?_)
  · rw [shapeCast_apply _ _ _ (ix4 e (⟨128 * b.val + j.val, by omega⟩ : Fin 6144) h L)
      (by rw [Shape.rowMajor_val_four, Shape.rowMajor_val_five]
          show ((e.val * 6144 + (128 * b.val + j.val)) * 2 + h.val) * 4608 + L.val = (((e.val * 48 + b.val) * 128 + j.val) * 2 + h.val) * 4608 + L.val
          omega)]
    rw [pack6144_at]
    exact sel_map (Ideal.ofBits .fp8e4m3) L h _ _ _
  · rw [broadcastTo_apply _ _ _ (ix5 e b (0 : Fin 1) h L) (by intro a; fin_cases a <;> rfl)]
    rw [shapeCast_apply _ _ _ (ix4 e b h L)
      (by rw [Shape.rowMajor_val_four, Shape.rowMajor_val_five]
          show ((e.val * 48 + b.val) * 2 + h.val) * 4608 + L.val = (((e.val * 48 + b.val) * 1 + 0) * 2 + h.val) * 4608 + L.val
          omega)]
    rw [pack48_at]
    simp only [spreadQ, spreadK]
    rfl

theorem pay12_at (v58 : IVec S5x192x2x4608 32) (e : Fin 5) (g : Fin 192) (c : Fin 9216) :
    k0_pay12 v58 (ix3 e g c) = ((v58 (ix4 e g ⟨c.val % 2, by omega⟩ ⟨c.val / 2, by omega⟩) + 127#32) &&& 255#32).setWidth 8 := by
  have hc := c.isLt
  show BitVec.setWidth 8 (shapeCast S5x192x9216 (transpose S5x192x4608x2 [0, 1, 3, 2] (k0_pay10 v58) transposes_S5x192x2x4608_p0_1_3_2_S5x192x4608x2) shapeCasts_S5x192x4608x2_S5x192x9216 (ix3 e g c)) = _
  rw [shapeCast_apply _ _ _ (ix4 e g (⟨c.val / 2, by omega⟩ : Fin 4608) (⟨c.val % 2, by omega⟩ : Fin 2))
    (by rw [Shape.rowMajor_val_four, Shape.rowMajor_val_three]
        show ((e.val * 192 + g.val) * 4608 + c.val / 2) * 2 + c.val % 2 = (e.val * 192 + g.val) * 9216 + c.val
        omega)]
  rw [transpose_apply _ _ _ _ (ix4 e g (⟨c.val % 2, by omega⟩ : Fin 2) (⟨c.val / 2, by omega⟩ : Fin 4608)) (by intro b; fin_cases b <;> rfl)]
  rfl

end Cert.Proof.RefRun

end
-- ==== Proof.RefByte.lean ====
/- The reference's scale bytes as the largest magnitude of 32 codes and the exponent of their block's scale. -/
module

public import proofs.«01_k».proof.Proof.RefVal
public import proofs.«01_k».proof.Proof.WordsI

@[expose] public section

set_option maxRecDepth 16384

noncomputable section

namespace Cert.Proof.RefRun

open Cert.ReferenceIdeal Cert.ReferenceIdeal.Gen Cert.Proof.Num
open Idealize.ShloMosaic hiding ix1 ix2 ix3 ix4 ix5 ix6
open Idealize.ShloMosaic.TcCoe Idealize.ShloMosaic.ValueIdx
open Cert.Proof.KernelIdeal (mag mag_lt flS byteW)

/-- The largest of the magnitudes of a group of 32 values. -/
theorem amax_at (v41 : FVec Ideal S5x48x128x2x4608 .f32) (e : Fin 5) (g : Fin 192) (h : Fin 2) (L : Fin 4608) (f : Fin 32 → BitVec 8) (s : EReal) (n : ℤ)
    (hs : Pow s n) (hf : ∀ j, (f j).toNat % 128 ≠ 127)
    (hv : ∀ j : Fin 32, v41 (ix5 e ⟨g.val / 4, by omega⟩ ⟨g.val % 4 * 32 + j.val, by omega⟩ h L) = Ideal.ofBits .fp8e4m3 (f j) * s) :
    multiReduction (F := Ideal) .maximumf [2] S5x192x2x4608 (k0_pay4 (F := Ideal) v41) 0xFF800000#32 reduces_S5x192x32x2x4608_S5x192x2x4608 (.inl rfl) rfl (ix4 e g h L)
      = ((vR (mag f) * (2 : ℝ) ^ n : ℝ) : EReal) := by
  have hg := g.isLt
  have hL := L.isLt
  have el : ∀ j : Fin 32, k0_pay4 (F := Ideal) v41 (ix5 e g j h L) = ((vR ((f j).toNat % 128) * (2 : ℝ) ^ n : ℝ) : EReal) := by
    intro j
    have e0 : k0_pay3 (F := Ideal) v41 (ix5 e g j h L) = v41 (ix5 e ⟨g.val / 4, by omega⟩ ⟨g.val % 4 * 32 + j.val, by omega⟩ h L) := by
      unfold k0_pay3
      refine shapeCast_apply _ _ _ _ ?_
      rw [Shape.rowMajor_val_five, Shape.rowMajor_val_five]
      show (((e.val * 48 + g.val / 4) * 128 + (g.val % 4 * 32 + j.val)) * 2 + h.val) * 4608 + L.val = (((e.val * 192 + g.val) * 32 + j.val) * 2 + h.val) * 4608 + L.val
      omega
    obtain ⟨r, hr, ha⟩ := abs_code (f j) (hf j)
    have e1 : k0_pay3 (F := Ideal) v41 (ix5 e g j h L) = ((r * (2 : ℝ) ^ n : ℝ) : EReal) := by
      rw [e0, hv j, hr, hs.eq, EReal.coe_mul]
    show max (k0_pay3 (F := Ideal) v41 (ix5 e g j h L)) (-(k0_pay3 (F := Ideal) v41 (ix5 e g j h L))) = _
    rw [e1, ← ha, ← abs_of_pos (zpow_nn n), ← abs_mul, abs_of_pos (zpow_nn n)]
    rw [← EReal.coe_neg, ← EReal.coe_strictMono.monotone.map_max]
    rfl
  refine (multiReduction_maximumf_eq_fold _ _ _ _ _ _).trans ?_
  have hfold : ∀ (S : Finset S5x192x32x2x4608.Idx) (x : S5x192x32x2x4608.Idx → EReal),
      S.fold (FloatOps.maximumf (F := Ideal) (φ := .f32)) (FloatOps.ofBits .f32 0xFF800000#32) x = S.fold max ⊥ x := by
    intro S x
    have : (FloatOps.ofBits (F := Ideal) .f32 0xFF800000#32) = (⊥ : EReal) := ninf_eq
    rw [this]
    rfl
  rw [hfold]
  have hmem : ∀ i : S5x192x32x2x4608.Idx, i ∈ (Finset.univ.filter fun i => reduces_S5x192x32x2x4608_S5x192x2x4608.drop i = ix4 e g h L) →
      i = ix5 e g (i 2) h L := by
    intro i hi
    have hd := (Finset.mem_filter.1 hi).2
    have d0 := congrArg Fin.val (congrFun hd 0)
    have d1 := congrArg Fin.val (congrFun hd 1)
    have d2 := congrArg Fin.val (congrFun hd 2)
    have d3 := congrArg Fin.val (congrFun hd 3)
    rw [Shape.Reduces.drop_apply_val_of_eq reduces_S5x192x32x2x4608_S5x192x2x4608 i 0 0] at d0
    rw [Shape.Reduces.drop_apply_val_of_eq reduces_S5x192x32x2x4608_S5x192x2x4608 i 1 1] at d1
    rw [Shape.Reduces.drop_apply_val_of_eq reduces_S5x192x32x2x4608_S5x192x2x4608 i 2 3] at d2
    rw [Shape.Reduces.drop_apply_val_of_eq reduces_S5x192x32x2x4608_S5x192x2x4608 i 3 4] at d3
    funext a
    match a with
    | ⟨0, _⟩ => exact Fin.ext d0
    | ⟨1, _⟩ => exact Fin.ext d1
    | ⟨2, _⟩ => rfl
    | ⟨3, _⟩ => exact Fin.ext d2
    | ⟨4, _⟩ => exact Fin.ext d3
  apply le_antisymm
  · rw [Finset.fold_max_le]
    refine ⟨bot_le, fun i hi => ?_⟩
    rw [hmem i hi]
    refine (el (i 2)).le.trans ?_
    refine EReal.coe_le_coe_iff.2 (mul_le_mul_of_nonneg_right (vR_mono ?_) (zpow_nn n).le)
    exact Finset.le_sup (f := fun j => (f j).toNat % 128) (Finset.mem_univ _)
  · obtain ⟨j, -, hj⟩ := Finset.exists_mem_eq_sup Finset.univ ⟨(0 : Fin 32), Finset.mem_univ _⟩ (fun j => (f j).toNat % 128)
    rw [Finset.le_fold_max]
    refine Or.inr ⟨ix5 e g j h L, Finset.mem_filter.2 ⟨Finset.mem_univ _, ?_⟩, ?_⟩
    · funext b
      apply Fin.ext
      match b with
      | ⟨0, _⟩ => exact Shape.Reduces.drop_apply_val_of_eq reduces_S5x192x32x2x4608_S5x192x2x4608 _ 0 0
      | ⟨1, _⟩ => exact Shape.Reduces.drop_apply_val_of_eq reduces_S5x192x32x2x4608_S5x192x2x4608 _ 1 1
      | ⟨2, _⟩ => exact Shape.Reduces.drop_apply_val_of_eq reduces_S5x192x32x2x4608_S5x192x2x4608 _ 2 3
      | ⟨3, _⟩ => exact Shape.Reduces.drop_apply_val_of_eq reduces_S5x192x32x2x4608_S5x192x2x4608 _ 3 4
    · rw [el]
      have : mag f = (f j).toNat % 128 := hj
      rw [this]

/-- The exponent word from the largest magnitude. -/
def tail5 (v44 : FVec Ideal S5x192x2x4608 .f32) : IVec S5x192x2x4608 32 :=
  have cst_17 : Ideal .f32 := Scalar.ofBits .f32 0x00000000#32
  have v45 : FVec Ideal S5x192x2x4608 .f32 := broadcast S5x192x2x4608 cst_17
  have v46 : IVec S5x192x2x4608 1 := cmpf .oeq v44 v45
  have v47 : FVec Ideal S5x192x2x4608 .f32 := log v44
  have cst_18 : Ideal .f32 := Scalar.ofBits .f32 0x40000000#32
  have v48 : Ideal .f32 := Scalar.log cst_18
  have v49 : FVec Ideal S5x192x2x4608 .f32 := broadcast S5x192x2x4608 v48
  have v50 : FVec Ideal S5x192x2x4608 .f32 := divf v47 v49
  have v51 : FVec Ideal S5x192x2x4608 .f32 := floor v50
  have v52 : IVec S5x192x2x4608 32 := fptosi 32 v51
  have v53 : IVec S5x192x2x4608 32 := broadcast S5x192x2x4608 1#32
  have v54 : IVec S5x192x2x4608 32 := addi v52 v53
  have v55 : IVec S5x192x2x4608 32 := broadcast S5x192x2x4608 0#32
  have v56 : IVec S5x192x2x4608 32 := select v46 v55 v54
  have v57 : IVec S5x192x2x4608 32 := broadcast S5x192x2x4608 3#32
  have v58 : IVec S5x192x2x4608 32 := subi v56 v57
  v58

theorem tail5_at (w : FVec Ideal S5x192x2x4608 .f32) (i : S5x192x2x4608.Idx) (a : EReal) (ha : w i = a) :
    tail5 w i = Scalar.select (Ideal.cmp .oeq a (Ideal.ofBits .f32 0x00000000#32)) 0#32
        (Ideal.fptosi 32 (Ideal.liftRound Int.floor (Ideal.div (Ideal.log a) (Ideal.log (Ideal.ofBits .f32 0x40000000#32)))) + 1#32) - 3#32 := by
  subst ha
  rfl

theorem pay5_eq (v41 : FVec Ideal S5x48x128x2x4608 .f32) :
    k0_pay5 (F := Ideal) v41 = tail5 (multiReduction (F := Ideal) .maximumf [2] S5x192x2x4608 (k0_pay4 (F := Ideal) v41) 0xFF800000#32 reduces_S5x192x32x2x4608_S5x192x2x4608 (.inl rfl) rfl) := rfl

/-- The exponent byte before its truncation. -/
theorem pay5_at (v41 : FVec Ideal S5x48x128x2x4608 .f32) (e : Fin 5) (g : Fin 192) (h : Fin 2) (L : Fin 4608) (f : Fin 32 → BitVec 8) (s : EReal) (n : ℤ)
    (hs : Pow s n) (hf : ∀ j, (f j).toNat % 128 ≠ 127)
    (hv : ∀ j : Fin 32, v41 (ix5 e ⟨g.val / 4, by omega⟩ ⟨g.val % 4 * 32 + j.val, by omega⟩ h L) = Ideal.ofBits .fp8e4m3 (f j) * s) :
    (k0_pay5 (F := Ideal) v41 (ix4 e g h L) + 127#32) &&& 255#32 = byteW (BitVec.ofNat 32 (mag f)) (flS (F := Ideal) s) := by
  have hfl : flS (F := Ideal) s = BitVec.ofInt 32 n := ls_eq hs
  rw [hfl]
  rw [pay5_eq, tail5_at _ _ _ (amax_at v41 e g h L f s n hs hf hv)]
  exact byte_eq hs (mag f) (mag_lt f) _ rfl

/-- What the arguments must satisfy, element by element. -/
structure Tame (q : S5x8192x6144.Idx → BitVec 8) (qs : S5x64x48.Idx → EReal) (k : S5x512x6144.Idx → BitVec 8) (ks : S5x4x48.Idx → EReal)
    (v : S5x512x6144.Idx → BitVec 8) (vs : S5x4x48.Idx → EReal) : Prop where
  q : ∀ i, (q i).toNat % 128 ≠ 127
  k : ∀ i, (k i).toNat % 128 ≠ 127
  v : ∀ i, (v i).toNat % 128 ≠ 127
  qs : ∀ i, ∃ n, Pow (qs i) n
  ks : ∀ i, ∃ n, Pow (ks i) n
  vs : ∀ i, ∃ n, Pow (vs i) n

theorem sel_all {α : Type} (P : α → Prop) (L : Fin 4608) (h : Fin 2) (f : Fin 8192 → α) (g1 g2 : Fin 512 → α) (hf : ∀ r, P (f r)) (h1 : ∀ r, P (g1 r)) (h2 : ∀ r, P (g2 r)) :
    P (sel L h f g1 g2) := by
  unfold sel
  split
  · exact hf _
  · split
    · exact h1 _
    · exact h2 _

/-- The scale byte of group `g`, column `c` of layer `e`. -/
def byteAt (q : S5x8192x6144.Idx → BitVec 8) (qs : S5x64x48.Idx → EReal) (k : S5x512x6144.Idx → BitVec 8) (ks : S5x4x48.Idx → EReal)
    (v : S5x512x6144.Idx → BitVec 8) (vs : S5x4x48.Idx → EReal) (e : Fin 5) (g : Fin 192) (c : Fin 9216) : BitVec 8 :=
  (byteW (BitVec.ofNat 32 (mag fun j : Fin 32 => codeAt q k v e ⟨32 * g.val + j.val, by omega⟩ ⟨c.val % 2, by omega⟩ ⟨c.val / 2, by omega⟩))
    (flS (F := Ideal) (scaleAt qs ks vs e ⟨g.val / 4, by omega⟩ ⟨c.val % 2, by omega⟩ ⟨c.val / 2, by omega⟩))).setWidth 8

theorem G7_at (q : Vec Ideal S5x8192x6144 .i8) (qs : Vec Ideal S5x64x48 .f32) (k : Vec Ideal S5x512x6144 .i8) (ks : Vec Ideal S5x4x48 .f32)
    (v : Vec Ideal S5x512x6144 .i8) (vs : Vec Ideal S5x4x48 .f32) (T : Tame q qs k ks v vs) (e : Fin 5) (g : Fin 192) (c : Fin 9216) :
    k0_pay12 (k0_pay5 (F := Ideal) (k0_pay2 (F := Ideal) q k v qs ks vs)) (ix3 e g c) = byteAt q qs k ks v vs e g c := by
  have hg := g.isLt
  rw [pay12_at]
  unfold byteAt
  obtain ⟨n, hn⟩ := sel_all (fun s => ∃ n, Pow s n) (⟨c.val / 2, by omega⟩ : Fin 4608) (⟨c.val % 2, by omega⟩ : Fin 2)
    (fun r : Fin 8192 => qs (ix3 e ⟨r.val / 128, by omega⟩ ⟨g.val / 4, by omega⟩)) (fun r : Fin 512 => ks (ix3 e ⟨r.val / 128, by omega⟩ ⟨g.val / 4, by omega⟩))
    (fun r : Fin 512 => vs (ix3 e ⟨r.val / 128, by omega⟩ ⟨g.val / 4, by omega⟩)) (fun r => T.qs _) (fun r => T.ks _) (fun r => T.vs _)
  congr 1
  refine pay5_at _ e g _ _ _ _ n hn (fun j => ?_) fun j => ?_
  · exact sel_all (fun b : BitVec 8 => b.toNat % 128 ≠ 127) _ _ _ _ _ (fun r => T.q _) (fun r => T.k _) (fun r => T.v _)
  · rw [pay2_at]
    congr 3
    apply Fin.ext
    show 128 * (g.val / 4) + (g.val % 4 * 32 + j.val) = 32 * g.val + j.val
    omega

end Cert.Proof.RefRun

end
-- ==== Proof.ByteI.lean ====
/- The block of scale bytes each point leaves, in terms of the argument arrays. -/
module

public import proofs.«01_k».proof.Proof.Load2I
public import proofs.«01_k».proof.Proof.RefByte

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx
open Cert.Proof.RefRun (sel codeAt scaleAt byteAt)

/-- A lane of a pair of query heads is a row of the query block. -/
theorem sel_A {α : Type} (p : ℕ) (hp : p < 36) (hA : p % 9 < 8) (l : ℕ) (hl : l < 128) (L : Fin 4608) (hL : L.val = 128 * p + l) (h : Fin 2)
    (f : Fin 8192 → α) (g1 g2 : Fin 512 → α) :
    sel L h f g1 g2 = f ⟨(p / 9 * 8 + min (p % 9) 7) * 256 + (l / 64 * 128 + 64 * h.val + l % 64), by omega⟩ := by
  unfold sel
  rw [dif_pos (by omega)]
  refine congrArg f (Fin.ext ?_)
  show (L.val / 1152 * 16 + L.val % 1152 / 64) * 128 + h.val * 64 + L.val % 64 = _
  simp only
  omega

/-- A lane of the pair of a key and a value head is a row of the key block or of the value block. -/
theorem sel_B {α : Type} (p : ℕ) (hp : p < 36) (hB : p % 9 = 8) (l : ℕ) (hl : l < 128) (L : Fin 4608) (hL : L.val = 128 * p + l) (h : Fin 2)
    (f : Fin 8192 → α) (g1 g2 : Fin 512 → α) :
    sel L h f g1 g2 = if hlt : l < 64 then g1 ⟨p / 9 * 128 + (l + 64 * h.val), by omega⟩ else g2 ⟨p / 9 * 128 + (2 * (l - 64) + h.val), by omega⟩ := by
  unfold sel
  rw [dif_neg (by omega)]
  by_cases hlt : l < 64
  · rw [if_pos (by omega), dif_pos hlt]
    refine congrArg g1 (Fin.ext ?_)
    show L.val / 1152 * 128 + h.val * 64 + L.val % 64 = _
    simp only
    omega
  · rw [if_neg (by omega), dif_neg hlt]
    refine congrArg g2 (Fin.ext ?_)
    show L.val / 1152 * 128 + 2 * (L.val % 64) + h.val = _
    simp only
    omega

/-- A trip of loop 1 by its number. -/
def tr1 (n : ℕ) (h : n < 24) : Fin k0_t1_loop.trips := (⟨n, h⟩ : Fin 24)

/-- A trip of loop 2 by its number. -/
def tr2 (n : ℕ) (h : n < 24) : Fin k0_t2_loop.trips := (⟨n, h⟩ : Fin 24)

theorem mag_congr {f g : Fin 32 → BitVec 8} (h : ∀ j, f j = g j) : mag f = mag g := congrArg mag (funext h)

section

variable (q : Cert.ReferenceIdeal.S5x8192x6144.Idx → BitVec 8) (qs : Cert.ReferenceIdeal.S5x64x48.Idx → EReal) (kc : Cert.ReferenceIdeal.S5x512x6144.Idx → BitVec 8)
  (ks : Cert.ReferenceIdeal.S5x4x48.Idx → EReal) (vc : Cert.ReferenceIdeal.S5x512x6144.Idx → BitVec 8) (vs : Cert.ReferenceIdeal.S5x4x48.Idx → EReal)

/-- The block of scale bytes of a pair of query heads. -/
theorem byteA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : S1x256x6144.Idx → BitVec 8) (X5 : S1x1x2x48.Idx → Elt Ideal .f32)
    (e : Fin 5) (p : ℕ) (hp : p < 36) (hA : p % 9 < 8)
    (h2 : ∀ (r : Fin 256) (d : Fin 6144), X2 (ix3 0 r d) = q (ix3 e ⟨(p / 9 * 8 + min (p % 9) 7) * 256 + r.val, by omega⟩ d))
    (h5 : ∀ (a : Fin 2) (b : Fin 48), X5 (ix4 0 0 a b) = qs (ix3 e ⟨(p / 9 * 8 + min (p % 9) 7) * 2 + a.val, by omega⟩ b))
    (gr : Fin 192) (col : Fin 256) :
    (Zof (z1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread X2) (harg5.unread X5)) (ix2 gr col)).setWidth 8
      = byteAt q qs kc ks vc vs e gr ⟨256 * p + col.val, by omega⟩ := by
  have hgr := gr.isLt
  have hcol := col.isLt
  unfold byteAt Zof z1 zrow
  refine congrArg (BitVec.setWidth 8) ?_
  have hs : trip1.sl.r_7 i arg5 k0_h1 (harg5.unread X5) (tr1 (gr.val / 8) (by omega)) (ix2 ⟨gr.val % 8, by omega⟩ ⟨col.val / 2, by omega⟩)
      = flS (F := Ideal) (scaleAt qs ks vs e ⟨gr.val / 4, by omega⟩ ⟨(256 * p + col.val) % 2, by omega⟩ ⟨(256 * p + col.val) / 2, by omega⟩) := by
    rw [s1, harg5.read_unread, h5]
    refine congrArg (flS (F := Ideal)) ?_
    unfold scaleAt
    rw [sel_A p hp hA (col.val / 2) (by omega) _ (by simp only; omega)]
    refine congrArg qs (funext fun b => ?_)
    fin_cases b
    · rfl
    · exact Fin.ext (by show (p / 9 * 8 + min (p % 9) 7) * 2 + col.val / 2 / 64 = ((p / 9 * 8 + min (p % 9) 7) * 256 + (col.val / 2 / 64 * 128 + 64 * ((256 * p + col.val) % 2) + col.val / 2 % 64)) / 128; omega)
    · exact Fin.ext (by show 2 * (gr.val / 8) + gr.val % 8 / 4 = gr.val / 4; omega)
  have hd : ∀ j : Fin 32, (256 * (gr.val / 8) + (32 * (gr.val % 8) + j.val)) % 6144 = 32 * gr.val + j.val := fun j => by omega
  have hu : (if col.val % 2 = 0 then trip1.sl.v209 (F := Ideal) i arg2 arg14 k0_h1 (harg2.unread X2) (tr1 (gr.val / 8) (by omega)) (ix2 ⟨gr.val % 8, by omega⟩ ⟨col.val / 2, by omega⟩)
        else trip1.sl.v313 (F := Ideal) i arg2 arg14 k0_h1 (harg2.unread X2) (tr1 (gr.val / 8) (by omega)) (ix2 ⟨gr.val % 8, by omega⟩ ⟨col.val / 2, by omega⟩))
      = BitVec.ofNat 32 (mag fun j : Fin 32 => codeAt q kc vc e ⟨32 * gr.val + j.val, by omega⟩ ⟨(256 * p + col.val) % 2, by omega⟩ ⟨(256 * p + col.val) / 2, by omega⟩) := by
    by_cases hc : col.val % 2 = 0
    · rw [if_pos hc, ulo1, u1lo, harg2.read_unread]
      refine congrArg (BitVec.ofNat 32) (mag_congr fun j => ?_)
      unfold cd codeAt
      rw [h2, sel_A p hp hA (col.val / 2) (by omega) _ (by simp only; omega)]
      refine congrArg q (funext fun b => ?_)
      fin_cases b
      · rfl
      · exact Fin.ext (by show (p / 9 * 8 + min (p % 9) 7) * 256 + (col.val / 2 / 64 * 128 + col.val / 2 % 64) = (p / 9 * 8 + min (p % 9) 7) * 256 + (col.val / 2 / 64 * 128 + 64 * ((256 * p + col.val) % 2) + col.val / 2 % 64); omega)
      · exact Fin.ext (hd j)
    · rw [if_neg hc, uhi1, u1hi, harg2.read_unread]
      refine congrArg (BitVec.ofNat 32) (mag_congr fun j => ?_)
      unfold cd codeAt
      rw [h2, sel_A p hp hA (col.val / 2) (by omega) _ (by simp only; omega)]
      refine congrArg q (funext fun b => ?_)
      fin_cases b
      · rfl
      · exact Fin.ext (by show (p / 9 * 8 + min (p % 9) 7) * 256 + (col.val / 2 / 64 * 128 + 64 + col.val / 2 % 64) = (p / 9 * 8 + min (p % 9) 7) * 256 + (col.val / 2 / 64 * 128 + 64 * ((256 * p + col.val) % 2) + col.val / 2 % 64); omega)
      · exact Fin.ext (hd j)
  exact congrArg₂ byteW hu hs

/-- The block of scale bytes of a key and a value head. -/
theorem byteB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h2 : k0_cond2 i = 1#1) (X3 : S1x128x6144.Idx → BitVec 8) (X4 : S1x128x6144.Idx → BitVec 8)
    (X6 : S1x1x1x48.Idx → Elt Ideal .f32) (X7 : S1x1x1x48.Idx → Elt Ideal .f32)
    (e : Fin 5) (p : ℕ) (hp : p < 36) (hB : p % 9 = 8)
    (h3 : ∀ (r : Fin 128) (d : Fin 6144), X3 (ix3 0 r d) = kc (ix3 e ⟨p / 9 * 128 + r.val, by omega⟩ d))
    (h4 : ∀ (r : Fin 128) (d : Fin 6144), X4 (ix3 0 r d) = vc (ix3 e ⟨p / 9 * 128 + r.val, by omega⟩ d))
    (h6 : ∀ (b : Fin 48), X6 (ix4 0 0 0 b) = ks (ix3 e ⟨p / 9, by omega⟩ b))
    (h7 : ∀ (b : Fin 48), X7 (ix4 0 0 0 b) = vs (ix3 e ⟨p / 9, by omega⟩ b))
    (gr : Fin 192) (col : Fin 256) :
    (Zof (z2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 (harg3.unread X3) (harg4.unread X4) (harg6.unread X6) (harg7.unread X7)) (ix2 gr col)).setWidth 8
      = byteAt q qs kc ks vc vs e gr ⟨256 * p + col.val, by omega⟩ := by
  have hgr := gr.isLt
  have hcol := col.isLt
  unfold byteAt Zof z2 zrow
  refine congrArg (BitVec.setWidth 8) ?_
  have hs : trip2.sl.v122 i arg6 arg7 k0_h2 (harg6.unread X6) (harg7.unread X7) (tr2 (gr.val / 8) (by omega)) (ix2 ⟨gr.val % 8, by omega⟩ ⟨col.val / 2, by omega⟩)
      = flS (F := Ideal) (scaleAt qs ks vs e ⟨gr.val / 4, by omega⟩ ⟨(256 * p + col.val) % 2, by omega⟩ ⟨(256 * p + col.val) / 2, by omega⟩) := by
    rw [s2, harg6.read_unread, harg7.read_unread, h6, h7]
    refine congrArg (flS (F := Ideal)) ?_
    unfold scaleAt
    rw [sel_B p hp hB (col.val / 2) (by omega) _ (by simp only; omega)]
    by_cases hlt : col.val / 2 < 64
    · rw [if_pos hlt, dif_pos hlt]
      refine congrArg ks (funext fun b => ?_)
      fin_cases b
      · rfl
      · exact Fin.ext (by show p / 9 = (p / 9 * 128 + (col.val / 2 + 64 * ((256 * p + col.val) % 2))) / 128; omega)
      · exact Fin.ext (by show 2 * (gr.val / 8) + gr.val % 8 / 4 = gr.val / 4; omega)
    · rw [if_neg hlt, dif_neg hlt]
      refine congrArg vs (funext fun b => ?_)
      fin_cases b
      · rfl
      · exact Fin.ext (by show p / 9 = (p / 9 * 128 + (2 * (col.val / 2 - 64) + (256 * p + col.val) % 2)) / 128; omega)
      · exact Fin.ext (by show 2 * (gr.val / 8) + gr.val % 8 / 4 = gr.val / 4; omega)
  have hd : ∀ j : Fin 32, (256 * (gr.val / 8) + (32 * (gr.val % 8) + j.val)) % 6144 = 32 * gr.val + j.val := fun j => by omega
  have hu : (if col.val % 2 = 0 then trip2.sl.v227 (F := Ideal) i arg3 arg4 arg14 lane k0_h2 (harg3.unread X3) (harg4.unread X4) (tr2 (gr.val / 8) (by omega)) (ix2 ⟨gr.val % 8, by omega⟩ ⟨col.val / 2, by omega⟩)
        else trip2.sl.v331 (F := Ideal) i arg3 arg4 arg14 lane k0_h2 (harg3.unread X3) (harg4.unread X4) (tr2 (gr.val / 8) (by omega)) (ix2 ⟨gr.val % 8, by omega⟩ ⟨col.val / 2, by omega⟩))
      = BitVec.ofNat 32 (mag fun j : Fin 32 => codeAt q kc vc e ⟨32 * gr.val + j.val, by omega⟩ ⟨(256 * p + col.val) % 2, by omega⟩ ⟨(256 * p + col.val) / 2, by omega⟩) := by
    by_cases hc : col.val % 2 = 0
    · rw [if_pos hc, ulo2, u2lo, harg3.read_unread, harg4.read_unread]
      refine congrArg (BitVec.ofNat 32) (mag_congr fun j => ?_)
      unfold cd codeAt
      rw [h3, h4, sel_B p hp hB (col.val / 2) (by omega) _ (by simp only; omega)]
      by_cases hlt : col.val / 2 < 64
      · rw [if_pos hlt, dif_pos hlt]
        refine congrArg kc (funext fun b => ?_)
        fin_cases b
        · rfl
        · exact Fin.ext (by show p / 9 * 128 + col.val / 2 = p / 9 * 128 + (col.val / 2 + 64 * ((256 * p + col.val) % 2)); omega)
        · exact Fin.ext (hd j)
      · rw [if_neg hlt, dif_neg hlt]
        refine congrArg vc (funext fun b => ?_)
        fin_cases b
        · rfl
        · exact Fin.ext (by show p / 9 * 128 + 2 * (col.val / 2 - 64) = p / 9 * 128 + (2 * (col.val / 2 - 64) + (256 * p + col.val) % 2); omega)
        · exact Fin.ext (hd j)
    · rw [if_neg hc, uhi2, u2hi, harg3.read_unread, harg4.read_unread]
      refine congrArg (BitVec.ofNat 32) (mag_congr fun j => ?_)
      unfold cd codeAt
      rw [sel_B p hp hB (col.val / 2) (by omega) _ (by simp only; omega)]
      by_cases hlt : col.val / 2 < 64
      · rw [dif_pos hlt, dif_pos hlt, h3]
        refine congrArg kc (funext fun b => ?_)
        fin_cases b
        · rfl
        · exact Fin.ext (by show p / 9 * 128 + (col.val / 2 + 64) = p / 9 * 128 + (col.val / 2 + 64 * ((256 * p + col.val) % 2)); omega)
        · exact Fin.ext (hd j)
      · rw [dif_neg hlt, dif_neg hlt, h4]
        refine congrArg vc (funext fun b => ?_)
        fin_cases b
        · rfl
        · exact Fin.ext (by show p / 9 * 128 + (2 * (col.val / 2 - 64) + 1) = p / 9 * 128 + (2 * (col.val / 2 - 64) + (256 * p + col.val) % 2); omega)
        · exact Fin.ext (hd j)
  exact congrArg₂ byteW hu hs

end

end Cert.Proof.KernelIdeal

end
-- ==== Proof.NibI.lean ====
/- The codes of a chunk, as functions of the chunk's bytes and of the scratch of scales. -/
module

public import proofs.«01_k».proof.Proof.ScratchI
public import proofs.«01_k».proof.Proof.XsI

@[expose] public section

set_option maxRecDepth 16384

noncomputable section

namespace Cert.Proof.KernelIdeal

open Cert.KernelIdeal Cert.KernelIdeal.Gen Cert.Proof.Bytes
open Idealize.ShloMosaic Idealize.ShloMosaic.TcCoe Idealize.ShloMosaic.Tactic Idealize.ShloMosaic.ValueIdx

variable {F : FTy → Type} [FloatOps F]

/-- The number of thresholds each magnitude passes. -/
def cnt7 (a : FVec F S256x128 .bf16) : IVec S256x128 32 :=
  addi (addi (addi (addi (addi (addi (addi (broadcast S256x128 0#32) (extui 32 (cmpf .ogt a (broadcast S256x128 (Scalar.ofBits (F := F) .bf16 0x3E80#16))) natLt_1_32)) (extui 32 (cmpf .oge a (broadcast S256x128 (Scalar.ofBits (F := F) .bf16 0x3F40#16))) natLt_1_32)) (extui 32 (cmpf .ogt a (broadcast S256x128 (Scalar.ofBits (F := F) .bf16 0x3FA0#16))) natLt_1_32)) (extui 32 (cmpf .oge a (broadcast S256x128 (Scalar.ofBits (F := F) .bf16 0x3FE0#16))) natLt_1_32)) (extui 32 (cmpf .ogt a (broadcast S256x128 (Scalar.ofBits (F := F) .bf16 0x4020#16))) natLt_1_32)) (extui 32 (cmpf .oge a (broadcast S256x128 (Scalar.ofBits (F := F) .bf16 0x4060#16))) natLt_1_32)) (extui 32 (cmpf .ogt a (broadcast S256x128 (Scalar.ofBits (F := F) .bf16 0x40A0#16))) natLt_1_32)

/-- The four-bit code of each scaled value. -/
def nibs (s : FVec F S256x128 .bf16) : IVec S256x128 32 :=
  select (cmpf .olt s (broadcast S256x128 (Scalar.ofBits (F := F) .bf16 0x0000#16))) (addi (cnt7 (absf s)) (broadcast S256x128 8#32)) (cnt7 (absf s))

/-- A row of scales repeated for the 32 rows of codes it scales. -/
def rep (r : S1x128.Idx → BitVec 32) : IVec S16x128 32 :=
  broadcastTo S16x128 (shapeCast S1x128 r shapeCasts_S1x128_S1x128) broadcasts_S1x128_S16x128

/-- The scaled values of a chunk. -/
def vals (W : IVec S64x128 32) (d0 d1 d2 d3 d4 d5 d6 d7 : S1x128.Idx → BitVec 32) : FVec F S256x128 .bf16 :=
  addf (mulf (extf .bf16 (bitcastToFloat .fp8e4m3 (bitcast S256x128 8 W bitcasts_S64x128_w32_S256x128_w8)) bitsLt_fp8e4m3_bf16)
    (bitcastToFloat .bf16 (bitcast S256x128 16 (concatenate S128x128 0 [⟨S16x128, rep d0⟩, ⟨S16x128, rep d1⟩, ⟨S16x128, rep d2⟩, ⟨S16x128, rep d3⟩, ⟨S16x128, rep d4⟩, ⟨S16x128, rep d5⟩, ⟨S16x128, rep d6⟩, ⟨S16x128, rep d7⟩] concatenates_S16x128_S16x128_S16x128_S16x128_S16x128_S16x128_S16x128_S16x128_S128x128_d0)
      bitcasts_S128x128_w32_S256x128_w16)))
    (broadcast S256x128 (Scalar.ofBits (F := F) .bf16 0x0000#16))

/-- The exponent words of the eight groups' inverse scales, each in both halves of its word. -/
def twin (x : S8x128.Idx → BitVec 32) : S8x128.Idx → BitVec 32 := fun i => ((127#32 - x i) <<< 7) ||| (((127#32 - x i) <<< 7) <<< 16)

/-- A row of the twinned words. -/
def rowOf (E : S8x128.Idx → BitVec 32) (g : Fin 8) : S1x128.Idx → BitVec 32 := fun x => E (ix2 g (x 1))

/-- What the scratch of scales holds: row `g` of half `h`. -/
def G15 (M : ℕ → S8x128.Idx → BitVec 32) (y : S2x8x128.Idx) : BitVec 32 := M (y 0).val (ix2 (y 1) (y 2))

theorem inb15 (h : ℕ) (hh : h < 2) : ∀ a, (![h, 0, 0] : Fin 3 → ℕ) a + S1x8x128.size a ≤ S2x8x128.size a := fun a =>
  match a with
  | ⟨0, _⟩ => by show h + 1 ≤ 2; omega
  | ⟨1, _⟩ => by show 0 + 8 ≤ 8; omega
  | ⟨2, _⟩ => by show 0 + 128 ≤ 128; omega

theorem inbR15 (g : ℕ) (hg : g < 8) : ∀ a, (![g, 0] : Fin 2 → ℕ) a + S1x128.size a ≤ (⟨2, ![8, 128]⟩ : Shape).size a := fun a =>
  match a with
  | ⟨0, _⟩ => by show g + 1 ≤ 8; omega
  | ⟨1, _⟩ => by show 0 + 128 ≤ 128; omega

theorem lift15 : ∀ i : Fin 2, (![1, 8, 128] : Fin 3 → ℕ) i.succ = (![8, 128] : Fin 2 → ℕ) i := by decide

/-- One piece of the scratch of scales. -/
def pc15 (F : FTy → Type) (h : ℕ) (hh : h < 2) (g : ℕ) (hg : g < 8) (w : S1x128.Idx → BitVec 32) : View.Piece (Elt F) S2x8x128 .i32 :=
  ⟨(Rect.unit (s := S2x8x128) ![h, 0, 0] S1x8x128.size (inb15 h hh)).within
    ((Rect.unit (s := ⟨2, ![8, 128]⟩) ![g, 0] S1x128.size (inbR15 g hg)).consLift ![1, 8, 128] rfl lift15) (fun _ => rfl),
    Rect.payAlong (R := (Rect.unit (s := ⟨2, ![8, 128]⟩) ![g, 0] S1x128.size (inbR15 g hg)).consLift ![1, 8, 128] rfl lift15)
      (r := Rect.unit (s := ⟨2, ![8, 128]⟩) ![g, 0] S1x128.size (inbR15 g hg))
      (Rect.numel_consLift _ _ _ _) w⟩

/-- A piece of the scratch of scales holds its row. -/
theorem piece15 (h : ℕ) (hh : h < 2) (g : ℕ) (hg : g < 8) (M : ℕ → S8x128.Idx → BitVec 32) (w : S1x128.Idx → BitVec 32)
    (hw : ∀ l : Fin 128, w (ix2 0 l) = M h (ix2 ⟨g, hg⟩ l)) (x : (pc15 F h hh g hg w).1.shape.Idx) :
    (pc15 F h hh g hg w).2 x = G15 M ((pc15 F h hh g hg w).1.emb x) := by
  have l0 : (x 0).val < 1 := (x 0).isLt
  have l1 : (x 1).val < 1 := (x 1).isLt
  have l2 : (x 2).val < 128 := (x 2).isLt
  show Rect.payAlong (R := (Rect.unit (s := ⟨2, ![8, 128]⟩) ![g, 0] S1x128.size (inbR15 g hg)).consLift ![1, 8, 128] rfl lift15) (r := Rect.unit (s := ⟨2, ![8, 128]⟩) ![g, 0] S1x128.size (inbR15 g hg)) (Rect.numel_consLift _ _ _ _) w x = _
  rw [Rect.payAlong_consLift (Rect.unit (s := ⟨2, ![8, 128]⟩) ![g, 0] S1x128.size (inbR15 g hg)) ![1, 8, 128] rfl lift15 w _ x
    (ix2 ⟨(x 1).val, l1⟩ ⟨(x 2).val, l2⟩) (fun i => match i with | ⟨0, _⟩ => rfl | ⟨1, _⟩ => rfl)]
  have z : (⟨(x 1).val, l1⟩ : Fin 1) = 0 := Fin.ext (by show (x 1).val = 0; omega)
  rw [z, hw]
  unfold G15
  have e0 : (((pc15 F h hh g hg w).1.emb x) 0).val = h := by show (h + 0) + 1 * (x 0).val = h; omega
  have e1 : (((pc15 F h hh g hg w).1.emb x) 1).val = g := by show (0 + g) + 1 * (x 1).val = g; omega
  have e2 : (((pc15 F h hh g hg w).1.emb x) 2).val = (x 2).val := by show (0 + 0) + 1 * (x 2).val = (x 2).val; omega
  rw [e0]
  congr 1
  exact congrArg₂ ix2 (Fin.ext e1.symm) (Fin.ext e2.symm)

theorem mem15 (h : ℕ) (hh : h < 2) (g : ℕ) (hg : g < 8) (w : S1x128.Idx → BitVec 32) (y : S2x8x128.Idx) (e0 : (y 0).val = h) (e1 : (y 1).val = g) :
    y ∈ (pc15 F h hh g hg w).1.set := by
  have l2 : (y 2).val < 128 := (y 2).isLt
  unfold pc15
  rw [LoadRect.mem_set]
  intro a
  match a with
  | ⟨0, _⟩ => exact ⟨0, Nat.one_pos, show (y 0).val = (h + 0) + 1 * 0 by omega⟩
  | ⟨1, _⟩ => exact ⟨0, Nat.one_pos, show (y 1).val = (0 + g) + 1 * 0 by omega⟩
  | ⟨2, _⟩ => exact ⟨(y 2).val, l2, show (y 2).val = (0 + 0) + 1 * (y 2).val by omega⟩

/-- A load of one row of the scratch of scales. -/
theorem load15 (h : ℕ) (g : ℕ) (hg : g < 8) (M : ℕ → S8x128.Idx → BitVec 32) (v : View sig .tc .vmem S2x8x128 .i32)
    (L : List (View.Piece (Elt F) S2x8x128 .i32)) (hL : ∀ p ∈ L, ∀ x : p.1.shape.Idx, p.2 x = G15 M (p.1.emb x))
    (hc : ∀ y : S2x8x128.Idx, (y 0).val = h → ∃ p ∈ L, y ∈ p.1.set)
    (i1 : ∀ a, (![h, 0, 0] : Fin 3 → ℕ) a + S1x8x128.size a ≤ S2x8x128.size a) (i2) (h0) (hs) (hst)
    (hR : (Rect.unit (s := ⟨2, ![8, 128]⟩) ![g, 0] S1x128.size i2).toLoadRect.shape.numel
      = (LoadRect.consLift (n := 2) (d := ![8, 128]) (Rect.unit (s := ⟨2, ![8, 128]⟩) ![g, 0] S1x128.size i2).toLoadRect ![1, 8, 128] h0 hs).shape.numel) :
    LoadRect.valAlong hR (v.readCov L ((Rect.unit (s := S2x8x128) ![h, 0, 0] S1x8x128.size i1).withinL
      (LoadRect.consLift (n := 2) (d := ![8, 128]) (Rect.unit (s := ⟨2, ![8, 128]⟩) ![g, 0] S1x128.size i2).toLoadRect ![1, 8, 128] h0 hs) hst))
      = rowOf (M h) ⟨g, hg⟩ := by
  funext x
  have l0 : (x 0).val < 1 := (x 0).isLt
  have l1 : (x 1).val < 128 := (x 1).isLt
  rw [View.readCov_eq_canon']
  show View.canon L (LoadRect.idx ((Rect.unit (s := S2x8x128) ![h, 0, 0] S1x8x128.size i1).withinL (LoadRect.consLift (n := 2) (d := ![8, 128]) (Rect.unit (s := ⟨2, ![8, 128]⟩) ![g, 0] S1x128.size i2).toLoadRect ![1, 8, 128] h0 hs) hst) (Shape.reshapeEquiv hR x)) = _
  have hx : Shape.reshapeEquiv hR x = Fin.cons ⟨0, Nat.one_pos⟩ x :=
    Shape.reshapeEquiv_cons_one (d := S1x128.size) _ _
  rw [hx]
  set y : S2x8x128.Idx := LoadRect.idx ((Rect.unit (s := S2x8x128) ![h, 0, 0] S1x8x128.size i1).withinL (LoadRect.consLift (n := 2) (d := ![8, 128]) (Rect.unit (s := ⟨2, ![8, 128]⟩) ![g, 0] S1x128.size i2).toLoadRect ![1, 8, 128] h0 hs) hst) (Fin.cons ⟨0, Nat.one_pos⟩ x) with hy
  have e0 : (y 0).val = h := by rw [hy]; show (h + 0) + 1 * 0 = h; omega
  have e1 : (y 1).val = g := by rw [hy]; show (0 + g) + 1 * (x 0).val = _; omega
  have e2 : (y 2).val = (x 1).val := by rw [hy]; show (0 + 0) + 1 * (x 1).val = _; omega
  refine (View.canon_apply_of_pieces (G15 M) L hL y (hc y e0)).trans ?_
  unfold G15 rowOf
  rw [e0]
  congr 1
  exact congrArg₂ ix2 (Fin.ext e1) (Fin.ext e2)

/-- Row `g` cut from the eight. -/
theorem slice15 (E : S8x128.Idx → BitVec 32) (g : ℕ) (hg : g < 8) (hs : Shape.Slices S8x128 ![g, 0] S1x128) (l : Fin 128) :
    shapeCast S1x128 (extractStridedSlice S1x128 ![g, 0] E hs) shapeCasts_S1x128_S1x128 (ix2 0 l) = E (ix2 ⟨g, hg⟩ l) := by
  rw [shapeCast_self]
  unfold extractStridedSlice
  refine congrArg E (funext fun a => Fin.ext ?_)
  fin_cases a
  · show g + 0 = g; omega
  · show 0 + l.val = l.val; omega

/-- The eight pieces written to one half of the scratch of scales. -/
def pieces15 (F : FTy → Type) (h : ℕ) (hh : h < 2) (E : S8x128.Idx → BitVec 32) (tail : List (View.Piece (Elt F) S2x8x128 .i32)) : List (View.Piece (Elt F) S2x8x128 .i32) :=
  pc15 F h hh 7 (by decide) (shapeCast S1x128 (extractStridedSlice S1x128 ![7, 0] (E) slices_S8x128_o7_0_S1x128) shapeCasts_S1x128_S1x128) :: pc15 F h hh 6 (by decide) (shapeCast S1x128 (extractStridedSlice S1x128 ![6, 0] (E) slices_S8x128_o6_0_S1x128) shapeCasts_S1x128_S1x128) :: pc15 F h hh 5 (by decide) (shapeCast S1x128 (extractStridedSlice S1x128 ![5, 0] (E) slices_S8x128_o5_0_S1x128) shapeCasts_S1x128_S1x128) :: pc15 F h hh 4 (by decide) (shapeCast S1x128 (extractStridedSlice S1x128 ![4, 0] (E) slices_S8x128_o4_0_S1x128) shapeCasts_S1x128_S1x128) :: pc15 F h hh 3 (by decide) (shapeCast S1x128 (extractStridedSlice S1x128 ![3, 0] (E) slices_S8x128_o3_0_S1x128) shapeCasts_S1x128_S1x128) :: pc15 F h hh 2 (by decide) (shapeCast S1x128 (extractStridedSlice S1x128 ![2, 0] (E) slices_S8x128_o2_0_S1x128) shapeCasts_S1x128_S1x128) :: pc15 F h hh 1 (by decide) (shapeCast S1x128 (extractStridedSlice S1x128 ![1, 0] (E) slices_S8x128_o1_0_S1x128) shapeCasts_S1x128_S1x128) :: pc15 F h hh 0 (by decide) (shapeCast S1x128 (extractStridedSlice S1x128 ![0, 0] (E) slices_S8x128_o0_0_S1x128) shapeCasts_S1x128_S1x128) :: tail

theorem pieces15_ok (h : ℕ) (hh : h < 2) (E : S8x128.Idx → BitVec 32) (tail : List (View.Piece (Elt F) S2x8x128 .i32)) (M : ℕ → S8x128.Idx → BitVec 32) (hM : M h = E)
    (ht : ∀ p ∈ tail, ∀ x : p.1.shape.Idx, p.2 x = G15 M (p.1.emb x)) :
    ∀ p ∈ pieces15 F h hh E tail, ∀ x : p.1.shape.Idx, p.2 x = G15 M (p.1.emb x) := by
  subst hM
  unfold pieces15
  simp only [List.forall_mem_cons]
  exact ⟨fun x => piece15 h hh 7 (by decide) M _ (fun l => slice15 (M h) 7 (by decide) _ l) x, fun x => piece15 h hh 6 (by decide) M _ (fun l => slice15 (M h) 6 (by decide) _ l) x, fun x => piece15 h hh 5 (by decide) M _ (fun l => slice15 (M h) 5 (by decide) _ l) x, fun x => piece15 h hh 4 (by decide) M _ (fun l => slice15 (M h) 4 (by decide) _ l) x, fun x => piece15 h hh 3 (by decide) M _ (fun l => slice15 (M h) 3 (by decide) _ l) x, fun x => piece15 h hh 2 (by decide) M _ (fun l => slice15 (M h) 2 (by decide) _ l) x, fun x => piece15 h hh 1 (by decide) M _ (fun l => slice15 (M h) 1 (by decide) _ l) x, fun x => piece15 h hh 0 (by decide) M _ (fun l => slice15 (M h) 0 (by decide) _ l) x, ht⟩

theorem pieces15_cover (h : ℕ) (hh : h < 2) (E : S8x128.Idx → BitVec 32) (tail : List (View.Piece (Elt F) S2x8x128 .i32)) (y : S2x8x128.Idx) (e0 : (y 0).val = h) :
    ∃ p ∈ pieces15 F h hh E tail, y ∈ p.1.set := by
  unfold pieces15
  simp only [List.exists_mem_cons_iff]
  have h1 : (y 1).val < 8 := (y 1).isLt
  have hc : (y 1).val = 7 ∨ (y 1).val = 6 ∨ (y 1).val = 5 ∨ (y 1).val = 4 ∨ (y 1).val = 3 ∨ (y 1).val = 2 ∨ (y 1).val = 1 ∨ (y 1).val = 0 := by omega
  rcases hc with e | e | e | e | e | e | e | e
  · exact .inl (mem15 h hh 7 (by decide) _ y e0 e)
  · exact .inr (.inl (mem15 h hh 6 (by decide) _ y e0 e))
  · exact .inr (.inr (.inl (mem15 h hh 5 (by decide) _ y e0 e)))
  · exact .inr (.inr (.inr (.inl (mem15 h hh 4 (by decide) _ y e0 e))))
  · exact .inr (.inr (.inr (.inr (.inl (mem15 h hh 3 (by decide) _ y e0 e)))))
  · exact .inr (.inr (.inr (.inr (.inr (.inl (mem15 h hh 2 (by decide) _ y e0 e))))))
  · exact .inr (.inr (.inr (.inr (.inr (.inr (.inl (mem15 h hh 1 (by decide) _ y e0 e)))))))
  · exact .inr (.inr (.inr (.inr (.inr (.inr (.inr (.inl (mem15 h hh 0 (by decide) _ y e0 e))))))))

theorem cover15_cons (p : View.Piece (Elt F) S2x8x128 .i32) (L : List (View.Piece (Elt F) S2x8x128 .i32)) (y : S2x8x128.Idx) (h : ∃ q ∈ L, y ∈ q.1.set) :
    ∃ q ∈ p :: L, y ∈ q.1.set := by
  obtain ⟨q, hq, hy⟩ := h
  exact ⟨q, List.mem_cons_of_mem _ hq, hy⟩

theorem H15a_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : trip1.sl.H15_8 i arg2 arg14 k0_h1 X2 k = pieces15 F 0 (by decide) (twin (trip1.sl.v329 i arg2 arg14 k0_h1 X2 k)) [] := rfl
theorem H15b_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : trip1.sl.H15_16 i arg2 arg14 k0_h1 X2 k = pieces15 F 1 (by decide) (twin (trip1.sl.v345 i arg2 arg14 k0_h1 X2 k)) (pieces15 F 0 (by decide) (twin (trip1.sl.v329 i arg2 arg14 k0_h1 X2 k)) []) := rfl
theorem xlo_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : trip1.sl.v329 i arg2 arg14 k0_h1 X2 k = fun y => codeX (trip1.sl.v209 i arg2 arg14 k0_h1 X2 k y) := rfl
theorem xhi_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : trip1.sl.v345 i arg2 arg14 k0_h1 X2 k = fun y => codeX (trip1.sl.v313 i arg2 arg14 k0_h1 X2 k y) := rfl
theorem H15a_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : trip2.sl.H15_8 i arg3 arg4 arg14 v10 k0_h2 X3 X4 k = pieces15 F 0 (by decide) (twin (trip2.sl.v347 i arg3 arg4 arg14 v10 k0_h2 X3 X4 k)) [] := rfl
theorem H15b_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : trip2.sl.H15_16 i arg3 arg4 arg14 v10 k0_h2 X3 X4 k = pieces15 F 1 (by decide) (twin (trip2.sl.v363 i arg3 arg4 arg14 v10 k0_h2 X3 X4 k)) (pieces15 F 0 (by decide) (twin (trip2.sl.v347 i arg3 arg4 arg14 v10 k0_h2 X3 X4 k)) []) := rfl
theorem xlo_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : trip2.sl.v347 i arg3 arg4 arg14 v10 k0_h2 X3 X4 k = fun y => codeX (trip2.sl.v227 i arg3 arg4 arg14 v10 k0_h2 X3 X4 k y) := rfl
theorem xhi_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : trip2.sl.v363 i arg3 arg4 arg14 v10 k0_h2 X3 X4 k = fun y => codeX (trip2.sl.v331 i arg3 arg4 arg14 v10 k0_h2 X3 X4 k y) := rfl

end Cert.Proof.KernelIdeal

end
-- ==== Proof.Nib8I.lean ====
/- The block of packed codes after the 24 trips. -/
module

public import proofs.«01_k».proof.Proof.NibI
public import proofs.«01_k».proof.Proof.BodyI
public import proofs.«01_k».proof.Proof.Body9I
public import Idealize.ShloMosaic.Lib.Pointwise

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx

variable {F : FTy → Type} [FloatOps F]

/-- The scaled values of a chunk, from the twinned words of its groups. -/
def valsE (W : IVec S64x128 32) (E : S8x128.Idx → BitVec 32) : FVec F S256x128 .bf16 :=
  vals W (rowOf E 0) (rowOf E 1) (rowOf E 2) (rowOf E 3) (rowOf E 4) (rowOf E 5) (rowOf E 6) (rowOf E 7)

theorem hR15 (g : Fin 8) : (Rect.unit (s := ⟨2, ![8, 128]⟩) ![g.val, 0] S1x128.size (inbR15 g.val g.isLt)).toLoadRect.shape.numel
      = (LoadRect.consLift (n := 2) (d := ![8, 128]) (Rect.unit (s := ⟨2, ![8, 128]⟩) ![g.val, 0] S1x128.size (inbR15 g.val g.isLt)).toLoadRect ![1, 8, 128] rfl lift15).shape.numel := by
  rfl

/-- A load of one row of the scratch of scales. -/
def lrow (h : ℕ) (hh : h < 2) (v : View sig .tc .vmem S2x8x128 .i32) (L : List (View.Piece (Elt F) S2x8x128 .i32)) (g : Fin 8) : S1x128.Idx → BitVec 32 :=
  LoadRect.valAlong (hR15 g) (v.readCov L ((Rect.unit (s := S2x8x128) ![h, 0, 0] S1x8x128.size (inb15 h hh)).withinL
      (LoadRect.consLift (n := 2) (d := ![8, 128]) (Rect.unit (s := ⟨2, ![8, 128]⟩) ![g.val, 0] S1x128.size (inbR15 g.val g.isLt)).toLoadRect ![1, 8, 128] rfl lift15) (fun _ => rfl)))

theorem lrow_eq (h : ℕ) (hh : h < 2) (g : Fin 8) (M : ℕ → S8x128.Idx → BitVec 32) (v : View sig .tc .vmem S2x8x128 .i32)
    (L : List (View.Piece (Elt F) S2x8x128 .i32)) (hL : ∀ p ∈ L, ∀ x : p.1.shape.Idx, p.2 x = G15 M (p.1.emb x))
    (hc : ∀ y : S2x8x128.Idx, (y 0).val = h → ∃ p ∈ L, y ∈ p.1.set) : lrow h hh v L g = rowOf (M h) g :=
  load15 h g.val g.isLt M v L hL hc _ _ _ _ _ _

/-- The two halves' twinned words. -/
def two (E0 E1 : S8x128.Idx → BitVec 32) (h : ℕ) : S8x128.Idx → BitVec 32 := if h = 0 then E0 else E1

/-- The packed codes of a chunk. -/
def bytes8 (lo hi : IVec S256x128 32) (r : Fin 256) (l : Fin 128) : BitVec 8 :=
  (lo (ix2 r l) ||| IntOp.shli .vector (hi (ix2 r l)) 4#32).setWidth 8

/-- A block of packed codes, from each chunk's rows. -/
def Yof (z : Fin 24 → Fin 256 → Fin 128 → BitVec 8) : S1x6144x128.Idx → BitVec 8 := fun y =>
  z ⟨(y 1).val / 256, by have : (y 1).val < 6144 := (y 1).isLt; omega⟩ ⟨(y 1).val % 256, Nat.mod_lt _ (by decide)⟩ (y 2)

theorem piece8 (z : Fin 24 → Fin 256 → Fin 128 → BitVec 8) (k : Fin 24) (off : Fin 3 → ℕ) (ho : off = ![0, 256 * k.val, 0])
    (hin : ∀ a, off a + S1x256x128.size a ≤ S1x6144x128.size a) (w : S1x256x128.Idx → BitVec 8)
    (hw : ∀ (r : Fin 256) (l : Fin 128), w (ix3 0 r l) = z k r l) (x : S1x256x128.Idx) :
    w x = Yof z ((Rect.unit (s := S1x6144x128) off S1x256x128.size hin).emb x) := by
  subst ho
  have e : x = ix3 (0 : Fin 1) (x 1) (x 2) := by
    funext b
    fin_cases b
    · exact Subsingleton.elim (α := Fin 1) _ _
    · rfl
    · rfl
  have h1 : (x 1).val < 256 := (x 1).isLt
  have q1 : (((Rect.unit (s := S1x6144x128) ![0, 256 * k.val, 0] S1x256x128.size hin).emb x) 1).val = 256 * k.val + 1 * (x 1).val := Rect.emb_apply _ _ _
  have q2 : (((Rect.unit (s := S1x6144x128) ![0, 256 * k.val, 0] S1x256x128.size hin).emb x) 2).val = 0 + 1 * (x 2).val := Rect.emb_apply _ _ _
  unfold Yof
  conv_lhs => rw [e]
  refine (hw _ _).trans ?_
  refine congr (congr (congrArg z ?_) ?_) ?_
  · apply Fin.ext; show k.val = _ / 256; rw [q1]; omega
  · apply Fin.ext; show (x 1).val = _ % 256; rw [q1]; omega
  · apply Fin.ext; show (x 2).val = _; rw [q2]; omega

theorem cover8 (k : Fin 24) (off : Fin 3 → ℕ) (ho : off = ![0, 256 * k.val, 0])
    (hin : ∀ a, off a + S1x256x128.size a ≤ S1x6144x128.size a) (y : S1x6144x128.Idx) (h0 : (y 1).val / 256 = k.val) :
    y ∈ (Rect.unit (s := S1x6144x128) off S1x256x128.size hin).toLoadRect.set := by
  subst ho
  have z0 : (y 0).val < 1 := (y 0).isLt
  rw [LoadRect.mem_set]
  intro b
  fin_cases b
  · exact ⟨0, Nat.one_pos, show (y 0).val = 0 + 1 * 0 by omega⟩
  · exact ⟨(y 1).val % 256, Nat.mod_lt _ (by decide), show (y 1).val = 256 * k.val + 1 * ((y 1).val % 256) by omega⟩
  · exact ⟨(y 2).val, (y 2).isLt, show (y 2).val = 0 + 1 * (y 2).val by omega⟩

theorem pay90_at (lo hi : IVec S256x128 32) (r : Fin 256) (l : Fin 128) : k0_pay90 lo hi 4#32 (ix3 0 r l) = bytes8 lo hi r l := by
  unfold k0_pay90
  exact shapeCast_ab_1ab_apply _ _ 0 r l

theorem ld15_10 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) (g : Fin 8) : lrow 0 (by decide) arg15.view (trip1.sl.H15_8 i arg2 arg14 k0_h1 X2 k) g = rowOf (twin (trip1.sl.v329 i arg2 arg14 k0_h1 X2 k)) g := by
  rw [H15a_1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k]
  exact lrow_eq 0 (by decide) g (two (twin (trip1.sl.v329 i arg2 arg14 k0_h1 X2 k)) (twin (trip1.sl.v345 i arg2 arg14 k0_h1 X2 k))) arg15.view _ (pieces15_ok 0 (by decide) _ [] (two (twin (trip1.sl.v329 i arg2 arg14 k0_h1 X2 k)) (twin (trip1.sl.v345 i arg2 arg14 k0_h1 X2 k))) (if_pos rfl) (fun p hp => absurd hp List.not_mem_nil)) (fun y e0 => pieces15_cover 0 (by decide) _ [] y e0)
theorem nib_10 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : trip1.sl.r_15 i arg2 arg14 arg15 k0_h1 X2 k = nibs (valsE (F := F) (trip1.sl.r_2 i arg2 k0_h1 X2 k) (twin (trip1.sl.v329 i arg2 arg14 k0_h1 X2 k))) := by
  have e : trip1.sl.r_15 i arg2 arg14 arg15 k0_h1 X2 k = nibs (vals (F := F) (trip1.sl.r_2 i arg2 k0_h1 X2 k) (lrow 0 (by decide) arg15.view (trip1.sl.H15_8 i arg2 arg14 k0_h1 X2 k) 0) (lrow 0 (by decide) arg15.view (trip1.sl.H15_8 i arg2 arg14 k0_h1 X2 k) 1) (lrow 0 (by decide) arg15.view (trip1.sl.H15_8 i arg2 arg14 k0_h1 X2 k) 2) (lrow 0 (by decide) arg15.view (trip1.sl.H15_8 i arg2 arg14 k0_h1 X2 k) 3) (lrow 0 (by decide) arg15.view (trip1.sl.H15_8 i arg2 arg14 k0_h1 X2 k) 4) (lrow 0 (by decide) arg15.view (trip1.sl.H15_8 i arg2 arg14 k0_h1 X2 k) 5) (lrow 0 (by decide) arg15.view (trip1.sl.H15_8 i arg2 arg14 k0_h1 X2 k) 6) (lrow 0 (by decide) arg15.view (trip1.sl.H15_8 i arg2 arg14 k0_h1 X2 k) 7)) := rfl
  rw [e]
  simp only [ld15_10 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k]
  rfl
theorem ld15_11 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) (g : Fin 8) : lrow 1 (by decide) arg15.view (trip1.sl.H15_16 i arg2 arg14 k0_h1 X2 k) g = rowOf (twin (trip1.sl.v345 i arg2 arg14 k0_h1 X2 k)) g := by
  rw [H15b_1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k]
  exact lrow_eq 1 (by decide) g (two (twin (trip1.sl.v329 i arg2 arg14 k0_h1 X2 k)) (twin (trip1.sl.v345 i arg2 arg14 k0_h1 X2 k))) arg15.view _ (pieces15_ok 1 (by decide) _ _ (two (twin (trip1.sl.v329 i arg2 arg14 k0_h1 X2 k)) (twin (trip1.sl.v345 i arg2 arg14 k0_h1 X2 k))) (if_neg (by decide)) (pieces15_ok 0 (by decide) _ [] (two (twin (trip1.sl.v329 i arg2 arg14 k0_h1 X2 k)) (twin (trip1.sl.v345 i arg2 arg14 k0_h1 X2 k))) (if_pos rfl) (fun p hp => absurd hp List.not_mem_nil))) (fun y e0 => pieces15_cover 1 (by decide) _ _ y e0)
theorem nib_11 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : trip1.sl.r_33 i arg2 arg14 arg15 k0_h1 X2 k = nibs (valsE (F := F) (trip1.sl.r_3 i arg2 k0_h1 X2 k) (twin (trip1.sl.v345 i arg2 arg14 k0_h1 X2 k))) := by
  have e : trip1.sl.r_33 i arg2 arg14 arg15 k0_h1 X2 k = nibs (vals (F := F) (trip1.sl.r_3 i arg2 k0_h1 X2 k) (lrow 1 (by decide) arg15.view (trip1.sl.H15_16 i arg2 arg14 k0_h1 X2 k) 0) (lrow 1 (by decide) arg15.view (trip1.sl.H15_16 i arg2 arg14 k0_h1 X2 k) 1) (lrow 1 (by decide) arg15.view (trip1.sl.H15_16 i arg2 arg14 k0_h1 X2 k) 2) (lrow 1 (by decide) arg15.view (trip1.sl.H15_16 i arg2 arg14 k0_h1 X2 k) 3) (lrow 1 (by decide) arg15.view (trip1.sl.H15_16 i arg2 arg14 k0_h1 X2 k) 4) (lrow 1 (by decide) arg15.view (trip1.sl.H15_16 i arg2 arg14 k0_h1 X2 k) 5) (lrow 1 (by decide) arg15.view (trip1.sl.H15_16 i arg2 arg14 k0_h1 X2 k) 6) (lrow 1 (by decide) arg15.view (trip1.sl.H15_16 i arg2 arg14 k0_h1 X2 k) 7)) := rfl
  rw [e]
  simp only [ld15_11 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k]
  rfl
theorem ld15_20 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) (g : Fin 8) : lrow 0 (by decide) arg15.view (trip2.sl.H15_8 i arg3 arg4 arg14 v10 k0_h2 X3 X4 k) g = rowOf (twin (trip2.sl.v347 i arg3 arg4 arg14 v10 k0_h2 X3 X4 k)) g := by
  rw [H15a_2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k]
  exact lrow_eq 0 (by decide) g (two (twin (trip2.sl.v347 i arg3 arg4 arg14 v10 k0_h2 X3 X4 k)) (twin (trip2.sl.v363 i arg3 arg4 arg14 v10 k0_h2 X3 X4 k))) arg15.view _ (pieces15_ok 0 (by decide) _ [] (two (twin (trip2.sl.v347 i arg3 arg4 arg14 v10 k0_h2 X3 X4 k)) (twin (trip2.sl.v363 i arg3 arg4 arg14 v10 k0_h2 X3 X4 k))) (if_pos rfl) (fun p hp => absurd hp List.not_mem_nil)) (fun y e0 => pieces15_cover 0 (by decide) _ [] y e0)
theorem nib_20 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : trip2.sl.r_21 i arg3 arg4 arg14 arg15 v10 k0_h2 X3 X4 k = nibs (valsE (F := F) (trip2.sl.v72 i arg3 arg4 v10 k0_h2 X3 X4 k) (twin (trip2.sl.v347 i arg3 arg4 arg14 v10 k0_h2 X3 X4 k))) := by
  have e : trip2.sl.r_21 i arg3 arg4 arg14 arg15 v10 k0_h2 X3 X4 k = nibs (vals (F := F) (trip2.sl.v72 i arg3 arg4 v10 k0_h2 X3 X4 k) (lrow 0 (by decide) arg15.view (trip2.sl.H15_8 i arg3 arg4 arg14 v10 k0_h2 X3 X4 k) 0) (lrow 0 (by decide) arg15.view (trip2.sl.H15_8 i arg3 arg4 arg14 v10 k0_h2 X3 X4 k) 1) (lrow 0 (by decide) arg15.view (trip2.sl.H15_8 i arg3 arg4 arg14 v10 k0_h2 X3 X4 k) 2) (lrow 0 (by decide) arg15.view (trip2.sl.H15_8 i arg3 arg4 arg14 v10 k0_h2 X3 X4 k) 3) (lrow 0 (by decide) arg15.view (trip2.sl.H15_8 i arg3 arg4 arg14 v10 k0_h2 X3 X4 k) 4) (lrow 0 (by decide) arg15.view (trip2.sl.H15_8 i arg3 arg4 arg14 v10 k0_h2 X3 X4 k) 5) (lrow 0 (by decide) arg15.view (trip2.sl.H15_8 i arg3 arg4 arg14 v10 k0_h2 X3 X4 k) 6) (lrow 0 (by decide) arg15.view (trip2.sl.H15_8 i arg3 arg4 arg14 v10 k0_h2 X3 X4 k) 7)) := rfl
  rw [e]
  simp only [ld15_20 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k]
  rfl
theorem ld15_21 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) (g : Fin 8) : lrow 1 (by decide) arg15.view (trip2.sl.H15_16 i arg3 arg4 arg14 v10 k0_h2 X3 X4 k) g = rowOf (twin (trip2.sl.v363 i arg3 arg4 arg14 v10 k0_h2 X3 X4 k)) g := by
  rw [H15b_2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k]
  exact lrow_eq 1 (by decide) g (two (twin (trip2.sl.v347 i arg3 arg4 arg14 v10 k0_h2 X3 X4 k)) (twin (trip2.sl.v363 i arg3 arg4 arg14 v10 k0_h2 X3 X4 k))) arg15.view _ (pieces15_ok 1 (by decide) _ _ (two (twin (trip2.sl.v347 i arg3 arg4 arg14 v10 k0_h2 X3 X4 k)) (twin (trip2.sl.v363 i arg3 arg4 arg14 v10 k0_h2 X3 X4 k))) (if_neg (by decide)) (pieces15_ok 0 (by decide) _ [] (two (twin (trip2.sl.v347 i arg3 arg4 arg14 v10 k0_h2 X3 X4 k)) (twin (trip2.sl.v363 i arg3 arg4 arg14 v10 k0_h2 X3 X4 k))) (if_pos rfl) (fun p hp => absurd hp List.not_mem_nil))) (fun y e0 => pieces15_cover 1 (by decide) _ _ y e0)
theorem nib_21 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : select (cmpf .olt (trip2.sl.r_28 i arg3 arg4 arg14 arg15 v10 k0_h2 X3 X4 k) (broadcast S256x128 (Scalar.ofBits (F := F) .bf16 0x0000#16))) (addi (trip2.sl.r_29 i arg3 arg4 arg14 arg15 v10 k0_h2 X3 X4 k) (broadcast S256x128 8#32)) (trip2.sl.r_29 i arg3 arg4 arg14 arg15 v10 k0_h2 X3 X4 k) = nibs (valsE (F := F) (trip2.sl.v76 i arg3 arg4 v10 k0_h2 X3 X4 k) (twin (trip2.sl.v363 i arg3 arg4 arg14 v10 k0_h2 X3 X4 k))) := by
  have e : select (cmpf .olt (trip2.sl.r_28 i arg3 arg4 arg14 arg15 v10 k0_h2 X3 X4 k) (broadcast S256x128 (Scalar.ofBits (F := F) .bf16 0x0000#16))) (addi (trip2.sl.r_29 i arg3 arg4 arg14 arg15 v10 k0_h2 X3 X4 k) (broadcast S256x128 8#32)) (trip2.sl.r_29 i arg3 arg4 arg14 arg15 v10 k0_h2 X3 X4 k) = nibs (vals (F := F) (trip2.sl.v76 i arg3 arg4 v10 k0_h2 X3 X4 k) (lrow 1 (by decide) arg15.view (trip2.sl.H15_16 i arg3 arg4 arg14 v10 k0_h2 X3 X4 k) 0) (lrow 1 (by decide) arg15.view (trip2.sl.H15_16 i arg3 arg4 arg14 v10 k0_h2 X3 X4 k) 1) (lrow 1 (by decide) arg15.view (trip2.sl.H15_16 i arg3 arg4 arg14 v10 k0_h2 X3 X4 k) 2) (lrow 1 (by decide) arg15.view (trip2.sl.H15_16 i arg3 arg4 arg14 v10 k0_h2 X3 X4 k) 3) (lrow 1 (by decide) arg15.view (trip2.sl.H15_16 i arg3 arg4 arg14 v10 k0_h2 X3 X4 k) 4) (lrow 1 (by decide) arg15.view (trip2.sl.H15_16 i arg3 arg4 arg14 v10 k0_h2 X3 X4 k) 5) (lrow 1 (by decide) arg15.view (trip2.sl.H15_16 i arg3 arg4 arg14 v10 k0_h2 X3 X4 k) 6) (lrow 1 (by decide) arg15.view (trip2.sl.H15_16 i arg3 arg4 arg14 v10 k0_h2 X3 X4 k) 7)) := rfl
  rw [e]
  simp only [ld15_21 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k]
  rfl
/-- The packed codes of chunk `k` in loop 1. -/
def y1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) : Fin 256 → Fin 128 → BitVec 8 :=
  bytes8 (nibs (valsE (F := F) (trip1.sl.r_2 i arg2 k0_h1 X2 k) (twin (trip1.sl.v329 i arg2 arg14 k0_h1 X2 k)))) (nibs (valsE (F := F) (trip1.sl.r_3 i arg2 k0_h1 X2 k) (twin (trip1.sl.v345 i arg2 arg14 k0_h1 X2 k))))

theorem l8_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (k : Fin k0_t1_loop.trips) : (trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 k).1.1 = [⟨Rect.unit (k0_off9 k) S1x256x128.size (k0_off9_inb i k k0_h1), k0_pay90 (trip1.sl.r_15 i arg2 arg14 arg15 k0_h1 X2 k) (trip1.sl.r_33 i arg2 arg14 arg15 k0_h1 X2 k) 4#32⟩] := by
  unfold trip1; rfl

theorem py_1 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (k : Fin k0_t1_loop.trips) (r : Fin 256) (l : Fin 128) : (k0_pay90 (trip1.sl.r_15 i arg2 arg14 arg15 k0_h1 X2 k) (trip1.sl.r_33 i arg2 arg14 arg15 k0_h1 X2 k) 4#32) (ix3 0 r l) = y1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k r l := by
  rw [nib_10 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k, nib_11 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 k]
  exact pay90_at _ _ r l

/-- After `n` trips of loop 1 the pieces agree with the codes and cover their rows. -/
theorem pb1_8 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : BufTy.Contents (Elt F) arg2.view.ty) (X5 : BufTy.Contents (Elt F) arg5.view.ty) (n : ℕ) (hn : n ≤ 24) :
    (∀ p ∈ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 n).1, ∀ x : p.1.shape.Idx, p.2 x = Yof (y1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2) (p.1.emb x))
    ∧ ∀ y : S1x6144x128.Idx, (y 1).val < 256 * n → ∃ p ∈ (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 n).1, y ∈ p.1.set := by
  induction n with
  | zero => exact ⟨fun p hp => absurd hp List.not_mem_nil, fun y hy => absurd hy (by omega)⟩
  | succ n ih =>
    obtain ⟨ih1, ih2⟩ := ih (by omega)
    have e := pb1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 ⟨n, show n < 24 by omega⟩
    dsimp only at e
    rw [e, l8_1]
    dsimp only
    refine ⟨fun p hp => ?_, fun y hy => ?_⟩
    · rcases List.mem_cons.1 hp with rfl | hp
      · exact piece8 (y1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2) ⟨n, by omega⟩ _ (k0_off9_eq _) (k0_off9_inb i _ k0_h1) _ (fun r l => py_1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 _ r l)
      · exact ih1 p hp
    · by_cases h : (y 1).val < 256 * n
      · obtain ⟨p, hp, hy⟩ := ih2 y h
        exact ⟨p, List.mem_cons_of_mem _ hp, hy⟩
      · exact ⟨_, List.mem_cons_self, cover8 ⟨n, by omega⟩ _ (k0_off9_eq _) (k0_off9_inb i _ k0_h1) y (show _ = n by omega)⟩

/-- The packed codes of chunk `k` in loop 2. -/
def y2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) : Fin 256 → Fin 128 → BitVec 8 :=
  bytes8 (nibs (valsE (F := F) (trip2.sl.v72 i arg3 arg4 v10 k0_h2 X3 X4 k) (twin (trip2.sl.v347 i arg3 arg4 arg14 v10 k0_h2 X3 X4 k)))) (nibs (valsE (F := F) (trip2.sl.v76 i arg3 arg4 v10 k0_h2 X3 X4 k) (twin (trip2.sl.v363 i arg3 arg4 arg14 v10 k0_h2 X3 X4 k))))

theorem l8_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (k : Fin k0_t2_loop.trips) : (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 k).1.1 = [⟨Rect.unit (k0_off16 k) S1x256x128.size (k0_off16_inb i k k0_h2), k0_pay90 (trip2.sl.r_21 i arg3 arg4 arg14 arg15 v10 k0_h2 X3 X4 k) (select (cmpf .olt (trip2.sl.r_28 i arg3 arg4 arg14 arg15 v10 k0_h2 X3 X4 k) (broadcast S256x128 (Scalar.ofBits (F := F) .bf16 0x0000#16))) (addi (trip2.sl.r_29 i arg3 arg4 arg14 arg15 v10 k0_h2 X3 X4 k) (broadcast S256x128 8#32)) (trip2.sl.r_29 i arg3 arg4 arg14 arg15 v10 k0_h2 X3 X4 k)) 4#32⟩] := by
  unfold trip2; rfl

theorem py_2 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (k : Fin k0_t2_loop.trips) (r : Fin 256) (l : Fin 128) : (k0_pay90 (trip2.sl.r_21 i arg3 arg4 arg14 arg15 v10 k0_h2 X3 X4 k) (select (cmpf .olt (trip2.sl.r_28 i arg3 arg4 arg14 arg15 v10 k0_h2 X3 X4 k) (broadcast S256x128 (Scalar.ofBits (F := F) .bf16 0x0000#16))) (addi (trip2.sl.r_29 i arg3 arg4 arg14 arg15 v10 k0_h2 X3 X4 k) (broadcast S256x128 8#32)) (trip2.sl.r_29 i arg3 arg4 arg14 arg15 v10 k0_h2 X3 X4 k)) 4#32) (ix3 0 r l) = y2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k r l := by
  rw [nib_20 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k, nib_21 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 k]
  exact pay90_at _ _ r l

/-- After `n` trips of loop 2 the pieces agree with the codes and cover their rows. -/
theorem pb2_8 (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (v10 : IVec S64x128 32) (k0_h2 : k0_cond2 i = 1#1) (X3 : BufTy.Contents (Elt F) arg3.view.ty) (X4 : BufTy.Contents (Elt F) arg4.view.ty) (X6 : BufTy.Contents (Elt F) arg6.view.ty) (X7 : BufTy.Contents (Elt F) arg7.view.ty) (n : ℕ) (hn : n ≤ 24) :
    (∀ p ∈ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 n).1, ∀ x : p.1.shape.Idx, p.2 x = Yof (y2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4) (p.1.emb x))
    ∧ ∀ y : S1x6144x128.Idx, (y 1).val < 256 * n → ∃ p ∈ (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 n).1, y ∈ p.1.set := by
  induction n with
  | zero => exact ⟨fun p hp => absurd hp List.not_mem_nil, fun y hy => absurd hy (by omega)⟩
  | succ n ih =>
    obtain ⟨ih1, ih2⟩ := ih (by omega)
    have e := pb2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 X6 X7 ⟨n, show n < 24 by omega⟩
    dsimp only at e
    rw [e, l8_2]
    dsimp only
    refine ⟨fun p hp => ?_, fun y hy => ?_⟩
    · rcases List.mem_cons.1 hp with rfl | hp
      · exact piece8 (y2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4) ⟨n, by omega⟩ _ (k0_off16_eq _) (k0_off16_inb i _ k0_h2) _ (fun r l => py_2 𝒱 c bd i arg2 harg2 arg3 harg3 arg4 harg4 arg5 harg5 arg6 harg6 arg7 harg7 arg8 harg8 arg9 harg9 arg10 harg10 arg11 harg11 arg12 harg12 arg13 harg13 arg14 harg14 arg15 harg15 v10 k0_h2 X3 X4 _ r l)
      · exact ih1 p hp
    · by_cases h : (y 1).val < 256 * n
      · obtain ⟨p, hp, hy⟩ := ih2 y h
        exact ⟨p, List.mem_cons_of_mem _ hp, hy⟩
      · exact ⟨_, List.mem_cons_self, cover8 ⟨n, by omega⟩ _ (k0_off16_eq _) (k0_off16_inb i _ k0_h2) y (show _ = n by omega)⟩

theorem b8_A (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (k0_h2 : k0_cond2 i ≠ 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.1 = (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 24).1 := by
  unfold bodyA; rfl

/-- The block of packed codes at a point of kind A. -/
theorem x8_A (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (k0_h2 : k0_cond2 i ≠ 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    arg8.view.read (Elt F) (arg8.view.writes (Elt F) f8 (bodyA 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.1) = Yof (y1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2) := by
  rw [b8_A]
  funext y
  have h := pb1_8 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 24 (by decide)
  exact View.read_writes_apply_of_pieces arg8.view f8 (Yof (y1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2)) _ h.1 y (h.2 y (y 1).isLt)

theorem b8_B (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.1 = (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24).1 := by
  unfold bodyB; rfl

/-- The block of packed codes at a point of kind B. -/
theorem x8_B (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i ≠ 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    arg8.view.read (Elt F) (arg8.view.writes (Elt F) f8 (bodyB 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.1) = Yof (y2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4) := by
  rw [b8_B]
  funext y
  have h := pb2_8 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24 (by decide)
  exact View.read_writes_apply_of_pieces arg8.view f8 (Yof (y2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4)) _ h.1 y (h.2 y (y 1).isLt)

theorem b8_C (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.1 = (pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24).1 := by
  unfold bodyC; rfl

/-- The block of packed codes at a point of kind C. -/
theorem x8_C (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i ≠ 1#1) (k0_h2 : k0_cond2 i = 1#1) (k0_h3 : k0_cond3 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) (f13 : BufTy.Contents (Elt F) arg13.view.ty) :
    arg8.view.read (Elt F) (arg8.view.writes (Elt F) f8 (bodyC 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 k0_h2 k0_h3 X2 X3 X4 X5 X6 X7 f8 f11 f12 f13).1.1) = Yof (y2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4) := by
  rw [b8_C]
  funext y
  have h := pb2_8 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4 X6 X7 24 (by decide)
  exact View.read_writes_apply_of_pieces arg8.view f8 (Yof (y2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 X3 X4)) _ h.1 y (h.2 y (y 1).isLt)

end Cert.Proof.KernelIdeal

end
-- ==== Proof.NibNum.lean ====
/- The four-bit codes on real numbers: the thresholds, and the kernel's and the reference's scaled values. -/
module

public import proofs.«01_k».proof.Proof.Num

@[expose] public section

noncomputable section

namespace Cert.Proof.Num

open Idealize.ShloMosaic Cert.Proof.KernelIdeal

theorem b3E80 : Ideal.ofBits .bf16 0x3E80#16 = ((1/4 : ℝ) : EReal) := by
  show Ideal.ieee 8 7 0x3E80#16 = _
  have h1 : (BitVec.extractLsb' 7 8 (0x3E80#16)).toNat = 125 := by decide
  have h2 : (BitVec.extractLsb' 0 7 (0x3E80#16)).toNat = 0 := by decide
  have h3 : (BitVec.extractLsb' (8 + 7) 1 (0x3E80#16) == 1#1) = false := by decide
  unfold Ideal.ieee
  simp only [h1, h2, h3]
  norm_num

theorem f3E80 : Ideal.ofBits .f32 0x3E800000#32 = ((1/4 : ℝ) : EReal) := by
  show Ideal.ieee 8 23 0x3E800000#32 = _
  have h1 : (BitVec.extractLsb' 23 8 (0x3E800000#32)).toNat = 125 := by decide
  have h2 : (BitVec.extractLsb' 0 23 (0x3E800000#32)).toNat = 0 := by decide
  have h3 : (BitVec.extractLsb' (8 + 23) 1 (0x3E800000#32) == 1#1) = false := by decide
  unfold Ideal.ieee
  simp only [h1, h2, h3]
  norm_num

theorem b3F40 : Ideal.ofBits .bf16 0x3F40#16 = ((3/4 : ℝ) : EReal) := by
  show Ideal.ieee 8 7 0x3F40#16 = _
  have h1 : (BitVec.extractLsb' 7 8 (0x3F40#16)).toNat = 126 := by decide
  have h2 : (BitVec.extractLsb' 0 7 (0x3F40#16)).toNat = 64 := by decide
  have h3 : (BitVec.extractLsb' (8 + 7) 1 (0x3F40#16) == 1#1) = false := by decide
  unfold Ideal.ieee
  simp only [h1, h2, h3]
  norm_num

theorem f3F40 : Ideal.ofBits .f32 0x3F400000#32 = ((3/4 : ℝ) : EReal) := by
  show Ideal.ieee 8 23 0x3F400000#32 = _
  have h1 : (BitVec.extractLsb' 23 8 (0x3F400000#32)).toNat = 126 := by decide
  have h2 : (BitVec.extractLsb' 0 23 (0x3F400000#32)).toNat = 4194304 := by decide
  have h3 : (BitVec.extractLsb' (8 + 23) 1 (0x3F400000#32) == 1#1) = false := by decide
  unfold Ideal.ieee
  simp only [h1, h2, h3]
  norm_num

theorem b3FA0 : Ideal.ofBits .bf16 0x3FA0#16 = ((5/4 : ℝ) : EReal) := by
  show Ideal.ieee 8 7 0x3FA0#16 = _
  have h1 : (BitVec.extractLsb' 7 8 (0x3FA0#16)).toNat = 127 := by decide
  have h2 : (BitVec.extractLsb' 0 7 (0x3FA0#16)).toNat = 32 := by decide
  have h3 : (BitVec.extractLsb' (8 + 7) 1 (0x3FA0#16) == 1#1) = false := by decide
  unfold Ideal.ieee
  simp only [h1, h2, h3]
  norm_num

theorem f3FA0 : Ideal.ofBits .f32 0x3FA00000#32 = ((5/4 : ℝ) : EReal) := by
  show Ideal.ieee 8 23 0x3FA00000#32 = _
  have h1 : (BitVec.extractLsb' 23 8 (0x3FA00000#32)).toNat = 127 := by decide
  have h2 : (BitVec.extractLsb' 0 23 (0x3FA00000#32)).toNat = 2097152 := by decide
  have h3 : (BitVec.extractLsb' (8 + 23) 1 (0x3FA00000#32) == 1#1) = false := by decide
  unfold Ideal.ieee
  simp only [h1, h2, h3]
  norm_num

theorem b3FE0 : Ideal.ofBits .bf16 0x3FE0#16 = ((7/4 : ℝ) : EReal) := by
  show Ideal.ieee 8 7 0x3FE0#16 = _
  have h1 : (BitVec.extractLsb' 7 8 (0x3FE0#16)).toNat = 127 := by decide
  have h2 : (BitVec.extractLsb' 0 7 (0x3FE0#16)).toNat = 96 := by decide
  have h3 : (BitVec.extractLsb' (8 + 7) 1 (0x3FE0#16) == 1#1) = false := by decide
  unfold Ideal.ieee
  simp only [h1, h2, h3]
  norm_num

theorem f3FE0 : Ideal.ofBits .f32 0x3FE00000#32 = ((7/4 : ℝ) : EReal) := by
  show Ideal.ieee 8 23 0x3FE00000#32 = _
  have h1 : (BitVec.extractLsb' 23 8 (0x3FE00000#32)).toNat = 127 := by decide
  have h2 : (BitVec.extractLsb' 0 23 (0x3FE00000#32)).toNat = 6291456 := by decide
  have h3 : (BitVec.extractLsb' (8 + 23) 1 (0x3FE00000#32) == 1#1) = false := by decide
  unfold Ideal.ieee
  simp only [h1, h2, h3]
  norm_num

theorem b4020 : Ideal.ofBits .bf16 0x4020#16 = ((5/2 : ℝ) : EReal) := by
  show Ideal.ieee 8 7 0x4020#16 = _
  have h1 : (BitVec.extractLsb' 7 8 (0x4020#16)).toNat = 128 := by decide
  have h2 : (BitVec.extractLsb' 0 7 (0x4020#16)).toNat = 32 := by decide
  have h3 : (BitVec.extractLsb' (8 + 7) 1 (0x4020#16) == 1#1) = false := by decide
  unfold Ideal.ieee
  simp only [h1, h2, h3]
  norm_num

theorem f4020 : Ideal.ofBits .f32 0x40200000#32 = ((5/2 : ℝ) : EReal) := by
  show Ideal.ieee 8 23 0x40200000#32 = _
  have h1 : (BitVec.extractLsb' 23 8 (0x40200000#32)).toNat = 128 := by decide
  have h2 : (BitVec.extractLsb' 0 23 (0x40200000#32)).toNat = 2097152 := by decide
  have h3 : (BitVec.extractLsb' (8 + 23) 1 (0x40200000#32) == 1#1) = false := by decide
  unfold Ideal.ieee
  simp only [h1, h2, h3]
  norm_num

theorem b4060 : Ideal.ofBits .bf16 0x4060#16 = ((7/2 : ℝ) : EReal) := by
  show Ideal.ieee 8 7 0x4060#16 = _
  have h1 : (BitVec.extractLsb' 7 8 (0x4060#16)).toNat = 128 := by decide
  have h2 : (BitVec.extractLsb' 0 7 (0x4060#16)).toNat = 96 := by decide
  have h3 : (BitVec.extractLsb' (8 + 7) 1 (0x4060#16) == 1#1) = false := by decide
  unfold Ideal.ieee
  simp only [h1, h2, h3]
  norm_num

theorem f4060 : Ideal.ofBits .f32 0x40600000#32 = ((7/2 : ℝ) : EReal) := by
  show Ideal.ieee 8 23 0x40600000#32 = _
  have h1 : (BitVec.extractLsb' 23 8 (0x40600000#32)).toNat = 128 := by decide
  have h2 : (BitVec.extractLsb' 0 23 (0x40600000#32)).toNat = 6291456 := by decide
  have h3 : (BitVec.extractLsb' (8 + 23) 1 (0x40600000#32) == 1#1) = false := by decide
  unfold Ideal.ieee
  simp only [h1, h2, h3]
  norm_num

theorem b40A0 : Ideal.ofBits .bf16 0x40A0#16 = ((5 : ℝ) : EReal) := by
  show Ideal.ieee 8 7 0x40A0#16 = _
  have h1 : (BitVec.extractLsb' 7 8 (0x40A0#16)).toNat = 129 := by decide
  have h2 : (BitVec.extractLsb' 0 7 (0x40A0#16)).toNat = 32 := by decide
  have h3 : (BitVec.extractLsb' (8 + 7) 1 (0x40A0#16) == 1#1) = false := by decide
  unfold Ideal.ieee
  simp only [h1, h2, h3]
  norm_num

theorem f40A0 : Ideal.ofBits .f32 0x40A00000#32 = ((5 : ℝ) : EReal) := by
  show Ideal.ieee 8 23 0x40A00000#32 = _
  have h1 : (BitVec.extractLsb' 23 8 (0x40A00000#32)).toNat = 129 := by decide
  have h2 : (BitVec.extractLsb' 0 23 (0x40A00000#32)).toNat = 2097152 := by decide
  have h3 : (BitVec.extractLsb' (8 + 23) 1 (0x40A00000#32) == 1#1) = false := by decide
  unfold Ideal.ieee
  simp only [h1, h2, h3]
  norm_num

theorem f40C0 : Ideal.ofBits .f32 0x40C00000#32 = ((6 : ℝ) : EReal) := by
  show Ideal.ieee 8 23 0x40C00000#32 = _
  have h1 : (BitVec.extractLsb' 23 8 (0x40C00000#32)).toNat = 129 := by decide
  have h2 : (BitVec.extractLsb' 0 23 (0x40C00000#32)).toNat = 4194304 := by decide
  have h3 : (BitVec.extractLsb' (8 + 23) 1 (0x40C00000#32) == 1#1) = false := by decide
  unfold Ideal.ieee
  simp only [h1, h2, h3]
  norm_num

theorem b0000 : Ideal.ofBits .bf16 0x0000#16 = ((0 : ℝ) : EReal) := by
  show Ideal.ieee 8 7 0x0000#16 = _
  have h1 : (BitVec.extractLsb' 7 8 (0x0000#16)).toNat = 0 := by decide
  have h2 : (BitVec.extractLsb' 0 7 (0x0000#16)).toNat = 0 := by decide
  unfold Ideal.ieee
  simp only [h1, h2]
  norm_num

/-- The number of thresholds a magnitude passes. -/
def cR (x : ℝ) : BitVec 32 :=
  0#32 + (if 1/4 < x then 1#32 else 0#32) + (if 3/4 ≤ x then 1#32 else 0#32) + (if 5/4 < x then 1#32 else 0#32) + (if 7/4 ≤ x then 1#32 else 0#32) + (if 5/2 < x then 1#32 else 0#32) + (if 7/2 ≤ x then 1#32 else 0#32) + (if 5 < x then 1#32 else 0#32)

theorem gt_w (x c : ℝ) : (Ideal.cmp .ogt (x : EReal) (c : EReal)).setWidth 32 = if c < x then 1#32 else 0#32 := by
  simp only [Ideal.cmp, EReal.coe_lt_coe_iff]
  by_cases h : c < x
  · simp [h]
  · simp [h]

theorem ge_w (x c : ℝ) : (Ideal.cmp .oge (x : EReal) (c : EReal)).setWidth 32 = if c ≤ x then 1#32 else 0#32 := by
  simp only [Ideal.cmp, EReal.coe_le_coe_iff]
  by_cases h : c ≤ x
  · simp [h]
  · simp [h]

theorem lt_b (x c : ℝ) : Ideal.cmp .olt (x : EReal) (c : EReal) = if x < c then 1#1 else 0#1 := by
  simp only [Ideal.cmp, EReal.coe_lt_coe_iff]
  by_cases h : x < c
  · simp [h]
  · simp [h]

/-- The kernel's count. -/
def cntK (a : EReal) : BitVec 32 :=
  0#32 + (Ideal.cmp .ogt a (Ideal.ofBits .bf16 0x3E80#16)).setWidth 32 + (Ideal.cmp .oge a (Ideal.ofBits .bf16 0x3F40#16)).setWidth 32 + (Ideal.cmp .ogt a (Ideal.ofBits .bf16 0x3FA0#16)).setWidth 32 + (Ideal.cmp .oge a (Ideal.ofBits .bf16 0x3FE0#16)).setWidth 32 + (Ideal.cmp .ogt a (Ideal.ofBits .bf16 0x4020#16)).setWidth 32 + (Ideal.cmp .oge a (Ideal.ofBits .bf16 0x4060#16)).setWidth 32 + (Ideal.cmp .ogt a (Ideal.ofBits .bf16 0x40A0#16)).setWidth 32

theorem cntK_coe (x : ℝ) : cntK (x : EReal) = cR x := by
  unfold cntK cR
  rw [b3E80, gt_w, b3F40, ge_w, b3FA0, gt_w, b3FE0, ge_w, b4020, gt_w, b4060, ge_w, b40A0, gt_w]

/-- The kernel's four-bit code of a scaled value. -/
def nibK (s : EReal) : BitVec 32 :=
  Scalar.select (Ideal.cmp .olt s (Ideal.ofBits .bf16 0x0000#16)) (cntK (max s (-s)) + 8#32) (cntK (max s (-s)))

theorem abs_coe (x : ℝ) : max (x : EReal) (-(x : EReal)) = ((|x| : ℝ) : EReal) := by
  rw [← EReal.coe_neg, ← EReal.coe_strictMono.monotone.map_max]
  rfl

theorem nibK_coe (x : ℝ) : nibK (x : EReal) = if x < 0 then cR |x| + 8#32 else cR |x| := by
  unfold nibK
  rw [b0000, lt_b, abs_coe, cntK_coe]
  by_cases h : x < 0
  · rw [if_pos h, if_pos h]; rfl
  · rw [if_neg h, if_neg h]; rfl

/-- The reference's four-bit code of a value and its scaled magnitude. -/
def nibR (f a : EReal) : BitVec 32 :=
  (Ideal.cmp .ogt a (Ideal.ofBits .f32 0x3E800000#32)).setWidth 32 + (Ideal.cmp .oge a (Ideal.ofBits .f32 0x3F400000#32)).setWidth 32 + (Ideal.cmp .ogt a (Ideal.ofBits .f32 0x3FA00000#32)).setWidth 32 + (Ideal.cmp .oge a (Ideal.ofBits .f32 0x3FE00000#32)).setWidth 32 + (Ideal.cmp .ogt a (Ideal.ofBits .f32 0x40200000#32)).setWidth 32 + (Ideal.cmp .oge a (Ideal.ofBits .f32 0x40600000#32)).setWidth 32 + (Ideal.cmp .ogt a (Ideal.ofBits .f32 0x40A00000#32)).setWidth 32 + 8#32 * (Ideal.cmp .olt f (Ideal.ofBits .f32 0x00000000#32)).setWidth 32

theorem nibR_coe (f a : ℝ) : nibR (f : EReal) (a : EReal) = if f < 0 then cR a + 8#32 else cR a := by
  unfold nibR cR
  rw [zero_eq, f3E80, gt_w, f3F40, ge_w, f3FA0, gt_w, f3FE0, ge_w, f4020, gt_w, f4060, ge_w, f40A0, gt_w, lt_b]
  by_cases h : f < 0
  · rw [if_pos h, if_pos h, BitVec.zero_add]; rfl
  · rw [if_neg h, if_neg h, BitVec.zero_add]
    exact BitVec.add_zero _

/-- Capping at six passes the same thresholds. -/
theorem cR_min (x : ℝ) : cR (min x 6) = cR x := by
  unfold cR
  simp only [lt_min_iff, le_min_iff]
  norm_num

/-- The halfword of a group's inverse scale. -/
def half (u : ℕ) : BitVec 16 := ((127#32 - codeX (BitVec.ofNat 32 u)) <<< 7).setWidth 16

theorem ce_bounds (u : ℕ) (hu : u < 128) : -9 ≤ ce u ∧ ce u ≤ 8 := by
  unfold ce
  constructor
  · split
    · omega
    · split <;> split <;> omega
  · split
    · omega
    · split <;> split <;> omega

theorem half_bits : ∀ u : Fin 128, ((half u.val).extractLsb' 7 8).toNat = (129 - ce u.val).toNat ∧ ((half u.val).extractLsb' 0 7).toNat = 0
    ∧ ((half u.val).extractLsb' (8 + 7) 1 == 1#1) = false := by
  unfold ce half
  decide +kernel

/-- The halfword is a power of two. -/
theorem half_eq (u : ℕ) (hu : u < 128) : Ideal.ofBits .bf16 (half u) = (((2 : ℝ) ^ (2 - ce u) : ℝ) : EReal) := by
  show Ideal.ieee 8 7 (half u) = _
  obtain ⟨h1, h2, h3⟩ := half_bits ⟨u, hu⟩
  obtain ⟨b1, b2⟩ := ce_bounds u hu
  have h1' : ((half u).extractLsb' 7 8).toNat = (129 - ce u).toNat := h1
  have h2' : ((half u).extractLsb' 0 7).toNat = 0 := h2
  have h3' : ((half u).extractLsb' (8 + 7) 1 == 1#1) = false := h3
  unfold Ideal.ieee
  simp only [h1', h2', h3']
  generalize ce u = z at *
  clear h1 h2 h3 h1' h2' h3'
  interval_cases z <;> norm_num <;> decide

/-- The kernel's four-bit code of an fp8 code `b` in a group of largest magnitude `u`. -/
def nibOf (b : BitVec 8) (u : ℕ) : BitVec 32 :=
  nibK (Ideal.ofBits .fp8e4m3 b * Ideal.ofBits .bf16 (half u) + Ideal.ofBits .bf16 0x0000#16)

theorem nibOf_eq (b : BitVec 8) (u : ℕ) (hu : u < 128) (r : ℝ) (hr : Ideal.ofBits .fp8e4m3 b = (r : EReal)) :
    nibOf b u = if r < 0 then cR (|r| * (2 : ℝ) ^ (2 - ce u)) + 8#32 else cR (|r| * (2 : ℝ) ^ (2 - ce u)) := by
  unfold nibOf
  rw [hr, half_eq u hu, b0000, ← EReal.coe_mul, ← EReal.coe_add, nibK_coe, add_zero, abs_mul, abs_of_pos (zpow_nn _)]
  have : r * (2 : ℝ) ^ (2 - ce u) < 0 ↔ r < 0 := by
    constructor
    · intro h
      by_contra c
      exact absurd h (not_lt.2 (mul_nonneg (not_lt.1 c) (zpow_nn _).le))
    · exact fun h => mul_neg_of_neg_of_pos h (zpow_nn _)
  simp only [this]

/-- The reference's scaled magnitude of a value `f` in a group of exponent word `w`. -/
def magR (f : EReal) (w : BitVec 32) : EReal :=
  min (max f (-f) * Ideal.exp2 (Ideal.ofBits .f32 0x00000000#32 - ((w.toInt : ℝ) : EReal))) (Ideal.ofBits .f32 0x40C00000#32)

/-- The reference's exponent word of a group's largest value. -/
def wordR (a : EReal) : BitVec 32 :=
  Scalar.select (Ideal.cmp .oeq a (Ideal.ofBits .f32 0x00000000#32)) 0#32
        (Ideal.fptosi 32 (Ideal.liftRound Int.floor (Ideal.div (Ideal.log a) (Ideal.log (Ideal.ofBits .f32 0x40000000#32)))) + 1#32) - 3#32

theorem magR_coe (f : ℝ) (w : BitVec 32) : magR (f : EReal) w = ((min (|f| * (2 : ℝ) ^ (-w.toInt)) 6 : ℝ) : EReal) := by
  unfold magR
  rw [zero_eq, f40C0, abs_coe, ← EReal.coe_sub, Ideal.exp2_coe, ← EReal.coe_mul, ← EReal.coe_strictMono.monotone.map_min]
  congr 3
  show (2 : ℝ) ^ ((0 : ℝ) - (w.toInt : ℝ)) = _
  rw [zero_sub, ← Int.cast_neg, Real.rpow_intCast]

/-- The word of a group whose largest magnitude is not zero. -/
theorem wordR_pos {n : ℤ} (h1 : -63 ≤ n) (h2 : n ≤ 63) (u : ℕ) (hu : 0 < u) (hu' : u < 128) :
    (wordR ((vR u * (2 : ℝ) ^ n : ℝ) : EReal)).toInt = ce u + n - 2 := by
  have hp : 0 < vR u * (2 : ℝ) ^ n := mul_pos (vR_pos u hu) (zpow_nn n)
  have hc : Ideal.cmp .oeq ((vR u * (2 : ℝ) ^ n : ℝ) : EReal) (Ideal.ofBits .f32 0x00000000#32) = 0#1 := by
    rw [zero_eq]
    have : ¬ ((vR u * (2 : ℝ) ^ n : ℝ) : EReal) = ((0 : ℝ) : EReal) := fun e => hp.ne' (EReal.coe_eq_coe_iff.1 e)
    simp only [Ideal.cmp, this, decide_false]; rfl
  unfold wordR
  rw [hc, fl_eq h1 h2 u hu hu']
  have e : Scalar.select (0#1) 0#32 (BitVec.ofInt 32 (ce u + n) + 1#32) - 3#32 = BitVec.ofInt 32 (ce u + n - 2) := by
    have t : ∀ x y : BitVec 32, Scalar.select (0#1) x y = y := fun _ _ => rfl
    rw [t]
    have e3 : BitVec.ofInt 32 (ce u + n) = BitVec.ofInt 32 (ce u + n - 2) + 2#32 := by
      rw [show (2#32 : BitVec 32) = BitVec.ofInt 32 2 from rfl, ← BitVec.ofInt_add]
      congr 1; ring
    rw [e3]
    generalize BitVec.ofInt 32 (ce u + n - 2) = w
    rw [BitVec.add_assoc]
    exact BitVec.add_sub_cancel w 3#32
  obtain ⟨b1, b2⟩ := ce_bounds u hu'
  rw [e, BitVec.toInt_ofInt, Int.bmod_eq_of_le] <;> omega

/-- THE NIBBLE: the reference's four-bit code of a code times its scale is the kernel's of the code. -/
theorem nib_eq {s : EReal} {n : ℤ} (h : Pow s n) (u : ℕ) (hu : u < 128) (b : BitVec 8) (hb : b.toNat % 128 ≠ 127) (hbu : b.toNat % 128 ≤ u) :
    nibR (Ideal.ofBits .fp8e4m3 b * s) (magR (Ideal.ofBits .fp8e4m3 b * s) (wordR ((vR u * (2 : ℝ) ^ n : ℝ) : EReal))) = nibOf b u := by
  obtain ⟨r, hr, ha⟩ := abs_code b hb
  have hneg : r * (2 : ℝ) ^ n < 0 ↔ r < 0 := by
    constructor
    · intro h
      by_contra c
      exact absurd h (not_lt.2 (mul_nonneg (not_lt.1 c) (zpow_nn _).le))
    · exact fun h => mul_neg_of_neg_of_pos h (zpow_nn _)
  rw [nibOf_eq b u hu r hr, hr, h.eq, ← EReal.coe_mul, magR_coe, nibR_coe, cR_min]
  simp only [hneg]
  have key : |r * (2 : ℝ) ^ n| * (2 : ℝ) ^ (-(wordR ((vR u * (2 : ℝ) ^ n : ℝ) : EReal)).toInt) = |r| * (2 : ℝ) ^ (2 - ce u) := by
    rcases Nat.eq_zero_or_pos u with h0 | h0
    · have : |r| = 0 := by rw [ha, show b.toNat % 128 = 0 by omega, vR_zero]
      rw [abs_mul, this]
      ring
    · rw [wordR_pos h.lo h.hi u h0 hu, abs_mul, abs_of_pos (zpow_nn n), mul_assoc, ← zpow_add₀ (by norm_num)]
      congr 2
      ring
  rw [key]

end Cert.Proof.Num

end
-- ==== Proof.ElemI.lean ====
/- The scaled values of a chunk, element by element, and the codes its words hold. -/
module

public import proofs.«01_k».proof.Proof.Nib8I
public import proofs.«01_k».proof.Proof.NibNum
public import proofs.«01_k».proof.Proof.Load2I
public import proofs.«01_k».proof.Proof.ByteI

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx
open Cert.Proof.Num (nibK nibOf half)

/-- A word array read as bytes. -/
theorem bytes_of_words {r n R : ℕ} (x : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro i hi
  rw [bitcast_getLsbD x h _ i hi (by decide), BitVec.getLsbD_extractLsb']
  have hrow : (⟨2, ![R, n]⟩ : Shape).row (ix2 p l) = p.val := rfl
  have ep : ((⟨2, ![R, n]⟩ : Shape).row (ix2 p l) * 8 + i) / 32 = a.val := by rw [hrow]; omega
  have eq : ((⟨2, ![R, n]⟩ : Shape).row (ix2 p l) * 8 + i) % 32 = 8 * (p.val % 4) + i := by rw [hrow]; omega
  have es : ∀ hp, h.srcIdx (ix2 p l) (((⟨2, ![R, n]⟩ : Shape).row (ix2 p l) * 8 + i) / 32) hp = ix2 a l := by
    intro hp
    funext b
    apply Fin.ext
    match b with
    | ⟨0, _⟩ =>
      rw [Shape.Bitcasts.srcIdx_row h _ _ _ _ rfl]
      exact ep
    | ⟨1, _⟩ =>
      rw [Shape.Bitcasts.srcIdx_other h _ _ _ _ (by simp)]
      rfl
  rw [es, eq]
  simp [hi]

/-- A word array read as halfwords. -/
theorem halves_of_words {r n R : ℕ} (x : (⟨2, ![r, n]⟩ : Shape).Idx → BitVec 32) (h : (⟨2, ![r, n]⟩ : Shape).Bitcasts 32 ⟨2, ![R, n]⟩ 16)
    (p : Fin R) (l : Fin n) (a : Fin r) (ha : a.val = p.val / 2) :
    bitcast ⟨2, ![R, n]⟩ 16 x h (ix2 p l) = (x (ix2 a l)).extractLsb' (16 * (p.val % 2)) 16 := by
  rw [bitcast_32_16]
  have hrow : (⟨2, ![R, n]⟩ : Shape).row (ix2 p l) = p.val := rfl
  have es : ∀ hp, h.srcIdx (ix2 p l) ((⟨2, ![R, n]⟩ : Shape).row (ix2 p l) / 2) hp = ix2 a l := by
    intro hp
    funext b
    apply Fin.ext
    match b with
    | ⟨0, _⟩ =>
      rw [Shape.Bitcasts.srcIdx_row h _ _ _ _ rfl]
      exact ha.symm
    | ⟨1, _⟩ =>
      rw [Shape.Bitcasts.srcIdx_other h _ _ _ _ (by simp)]
      rfl
  rw [es, hrow]

/-- A word whose two halves are one halfword. -/
theorem twin_half (w : BitVec 32) (b : ℕ) (hb : b < 2) (hw : (w <<< 7).toNat < 65536) :
    ((w <<< 7) ||| ((w <<< 7) <<< 16)).extractLsb' (16 * b) 16 = (w <<< 7).setWidth 16 := by
  generalize w <<< 7 = y at *
  have hy : ∀ i, 16 ≤ i → y.getLsbD i = false := fun i hi =>
    Nat.testBit_lt_two_pow (lt_of_lt_of_le hw (show 2 ^ 16 ≤ 2 ^ i from Nat.pow_le_pow_right (by decide) hi))
  apply BitVec.eq_of_getLsbD_eq
  intro i hi
  rw [BitVec.getLsbD_extractLsb', BitVec.getLsbD_or, BitVec.getLsbD_shiftLeft, BitVec.getLsbD_setWidth]
  rcases Nat.lt_or_ge b 1 with h | h
  · obtain rfl : b = 0 := by omega
    have : i < 16 := hi
    simp [this]
  · obtain rfl : b = 1 := by omega
    have h0 := hy (16 * 1 + i) (by omega)
    have h1 : 16 * 1 + i < 32 := by omega
    have h2 : ¬ 16 * 1 + i < 16 := by omega
    have h3 : 16 * 1 + i - 16 = i := by omega
    rw [h0, h3]
    simp [hi, h1, h2]

/-- Row `q` of the repeated rows of scales. -/
theorem rep_at (E : S8x128.Idx → BitVec 32) (q : Fin 128) (l : Fin 128) :
    concatenate S128x128 0 [⟨S16x128, rep (rowOf E 0)⟩, ⟨S16x128, rep (rowOf E 1)⟩, ⟨S16x128, rep (rowOf E 2)⟩, ⟨S16x128, rep (rowOf E 3)⟩, ⟨S16x128, rep (rowOf E 4)⟩, ⟨S16x128, rep (rowOf E 5)⟩, ⟨S16x128, rep (rowOf E 6)⟩, ⟨S16x128, rep (rowOf E 7)⟩]
      concatenates_S16x128_S16x128_S16x128_S16x128_S16x128_S16x128_S16x128_S16x128_S128x128_d0 (ix2 q l) = E (ix2 ⟨q.val / 16, by omega⟩ l) := by
  have hq := q.isLt
  have kr : ∀ (g : Fin 8) (a : Fin 16), rep (rowOf E g) (ix2 a l) = E (ix2 g l) := by
    intro g a
    unfold rep
    rw [broadcastTo_apply _ _ _ (ix2 (0 : Fin 1) l) (by intro b; fin_cases b <;> rfl), shapeCast_self]
    rfl
  have h8 : q.val / 16 = 0 ∨ q.val / 16 = 1 ∨ q.val / 16 = 2 ∨ q.val / 16 = 3 ∨ q.val / 16 = 4 ∨ q.val / 16 = 5 ∨ q.val / 16 = 6 ∨ q.val / 16 = 7 := by omega
  rcases h8 with h | h | h | h | h | h | h | h
  · have e : (⟨q.val / 16, by omega⟩ : Fin 8) = 0 := Fin.ext h
    rw [e, ← kr 0 ⟨q.val - 0, by omega⟩]
    refine concatenate_apply_piece (t := S128x128) (0 : Fin 2) _ _ _ 0 (by exact (show 0 < 8 by decide)) S16x128 _ rfl rfl 0 rfl (ix2 ⟨q.val - 0, by omega⟩ l) ?_ ?_
    · intro b hb
      fin_cases b
      · exact absurd rfl hb
      · rfl
    · exact (show 0 + (q.val - 0) = q.val by omega)
  · have e : (⟨q.val / 16, by omega⟩ : Fin 8) = 1 := Fin.ext h
    rw [e, ← kr 1 ⟨q.val - 16, by omega⟩]
    refine concatenate_apply_piece (t := S128x128) (0 : Fin 2) _ _ _ 1 (by exact (show 1 < 8 by decide)) S16x128 _ rfl rfl 16 rfl (ix2 ⟨q.val - 16, by omega⟩ l) ?_ ?_
    · intro b hb
      fin_cases b
      · exact absurd rfl hb
      · rfl
    · exact (show 16 + (q.val - 16) = q.val by omega)
  · have e : (⟨q.val / 16, by omega⟩ : Fin 8) = 2 := Fin.ext h
    rw [e, ← kr 2 ⟨q.val - 32, by omega⟩]
    refine concatenate_apply_piece (t := S128x128) (0 : Fin 2) _ _ _ 2 (by exact (show 2 < 8 by decide)) S16x128 _ rfl rfl 32 rfl (ix2 ⟨q.val - 32, by omega⟩ l) ?_ ?_
    · intro b hb
      fin_cases b
      · exact absurd rfl hb
      · rfl
    · exact (show 32 + (q.val - 32) = q.val by omega)
  · have e : (⟨q.val / 16, by omega⟩ : Fin 8) = 3 := Fin.ext h
    rw [e, ← kr 3 ⟨q.val - 48, by omega⟩]
    refine concatenate_apply_piece (t := S128x128) (0 : Fin 2) _ _ _ 3 (by exact (show 3 < 8 by decide)) S16x128 _ rfl rfl 48 rfl (ix2 ⟨q.val - 48, by omega⟩ l) ?_ ?_
    · intro b hb
      fin_cases b
      · exact absurd rfl hb
      · rfl
    · exact (show 48 + (q.val - 48) = q.val by omega)
  · have e : (⟨q.val / 16, by omega⟩ : Fin 8) = 4 := Fin.ext h
    rw [e, ← kr 4 ⟨q.val - 64, by omega⟩]
    refine concatenate_apply_piece (t := S128x128) (0 : Fin 2) _ _ _ 4 (by exact (show 4 < 8 by decide)) S16x128 _ rfl rfl 64 rfl (ix2 ⟨q.val - 64, by omega⟩ l) ?_ ?_
    · intro b hb
      fin_cases b
      · exact absurd rfl hb
      · rfl
    · exact (show 64 + (q.val - 64) = q.val by omega)
  · have e : (⟨q.val / 16, by omega⟩ : Fin 8) = 5 := Fin.ext h
    rw [e, ← kr 5 ⟨q.val - 80, by omega⟩]
    refine concatenate_apply_piece (t := S128x128) (0 : Fin 2) _ _ _ 5 (by exact (show 5 < 8 by decide)) S16x128 _ rfl rfl 80 rfl (ix2 ⟨q.val - 80, by omega⟩ l) ?_ ?_
    · intro b hb
      fin_cases b
      · exact absurd rfl hb
      · rfl
    · exact (show 80 + (q.val - 80) = q.val by omega)
  · have e : (⟨q.val / 16, by omega⟩ : Fin 8) = 6 := Fin.ext h
    rw [e, ← kr 6 ⟨q.val - 96, by omega⟩]
    refine concatenate_apply_piece (t := S128x128) (0 : Fin 2) _ _ _ 6 (by exact (show 6 < 8 by decide)) S16x128 _ rfl rfl 96 rfl (ix2 ⟨q.val - 96, by omega⟩ l) ?_ ?_
    · intro b hb
      fin_cases b
      · exact absurd rfl hb
      · rfl
    · exact (show 96 + (q.val - 96) = q.val by omega)
  · have e : (⟨q.val / 16, by omega⟩ : Fin 8) = 7 := Fin.ext h
    rw [e, ← kr 7 ⟨q.val - 112, by omega⟩]
    refine concatenate_apply_piece (t := S128x128) (0 : Fin 2) _ _ _ 7 (by exact (show 7 < 8 by decide)) S16x128 _ rfl rfl 112 rfl (ix2 ⟨q.val - 112, by omega⟩ l) ?_ ?_
    · intro b hb
      fin_cases b
      · exact absurd rfl hb
      · rfl
    · exact (show 112 + (q.val - 112) = q.val by omega)

/-- A scaled value: the code times its group's inverse scale. -/
theorem valsE_at (W : IVec S64x128 32) (E : S8x128.Idx → BitVec 32) (r : Fin 256) (l : Fin 128) :
    valsE (F := Ideal) W E (ix2 r l)
      = Ideal.ofBits .fp8e4m3 ((W (ix2 ⟨r.val / 4, by omega⟩ l)).extractLsb' (8 * (r.val % 4)) 8)
          * Ideal.ofBits .bf16 ((E (ix2 ⟨r.val / 32, by omega⟩ l)).extractLsb' (16 * (r.val % 2)) 16) + Ideal.ofBits .bf16 0x0000#16 := by
  have e1 := bytes_of_words W bitcasts_S64x128_w32_S256x128_w8 r l ⟨r.val / 4, by omega⟩ rfl
  have e2 := (halves_of_words _ bitcasts_S128x128_w32_S256x128_w16 r l ⟨r.val / 2, by omega⟩ rfl).trans
    (congrArg (fun w : BitVec 32 => w.extractLsb' (16 * (r.val % 2)) 16) (rep_at E ⟨r.val / 2, by omega⟩ l))
  have e3 : (⟨r.val / 2 / 16, by omega⟩ : Fin 8) = ⟨r.val / 32, by omega⟩ := Fin.ext (by simp only; omega)
  rw [e3] at e2
  exact congrArg₂ (fun a b => Ideal.ofBits .fp8e4m3 a * Ideal.ofBits .bf16 b + Ideal.ofBits .bf16 0x0000#16) e1 e2

theorem nibs_at (s : FVec Ideal S256x128 .bf16) (i : S256x128.Idx) : nibs s i = nibK (s i) := rfl

/-- A code of a chunk, its group's largest magnitude being `u`. -/
theorem nib_of (W : IVec S64x128 32) (x : S8x128.Idx → BitVec 32) (r : Fin 256) (l : Fin 128) (b : BitVec 8) (u : ℕ) (hu : u < 128)
    (hb : (W (ix2 ⟨r.val / 4, by omega⟩ l)).extractLsb' (8 * (r.val % 4)) 8 = b)
    (hx : x (ix2 ⟨r.val / 32, by omega⟩ l) = codeX (BitVec.ofNat 32 u)) :
    nibs (valsE (F := Ideal) W (twin x)) (ix2 r l) = nibOf b u := by
  rw [nibs_at, valsE_at, hb]
  unfold twin
  rw [hx, twin_half]
  · rfl
  · exact Nat.mod_lt _ (by decide)
  · have : ∀ u : Fin 128, ((127#32 - codeX (BitVec.ofNat 32 u.val)) <<< 7).toNat < 65536 := by decide +kernel
    exact this ⟨u, hu⟩

end Cert.Proof.KernelIdeal

end
-- ==== Proof.RefOut.lean ====
/- The reference's array of scale bytes at an index, from its argument arrays whole. -/
module

public import proofs.«01_k».proof.Proof.RefByte

@[expose] public section

noncomputable section

namespace Cert.Proof.RefRun

open Cert.ReferenceIdeal Cert.ReferenceIdeal.Gen
open Idealize.ShloMosaic hiding ix1 ix2 ix3 ix4 ix5
open Idealize.ShloMosaic.ValueIdx

/-- The words the scale bytes are cut from, of the argument arrays. -/
theorem words_eq (q : Vec Ideal S5x8192x6144 .i8) (qs : Vec Ideal S5x64x48 .f32) (k : Vec Ideal S5x512x6144 .i8) (ks : Vec Ideal S5x4x48 .f32)
    (v : Vec Ideal S5x512x6144 .i8) (vs : Vec Ideal S5x4x48 .f32) :
    k0_pay18 (F := Ideal) q qs k ks v vs = k0_pay5 (F := Ideal) (k0_pay2 (F := Ideal) q k v qs ks vs) := by
  unfold k0_pay18 k0_pay16
  rw [View.ld_unit_zero hz8 _ q, View.ld_unit_zero hz8 _ k, View.ld_unit_zero hz8 _ v, View.ld_unit_zero hz8 _ qs, View.ld_unit_zero hz8 _ ks, View.ld_unit_zero hz8 _ vs]

/-- The array of scale bytes is `byteAt` of the argument arrays. -/
theorem G7_eq (q : Vec Ideal S5x8192x6144 .i8) (qs : Vec Ideal S5x64x48 .f32) (k : Vec Ideal S5x512x6144 .i8) (ks : Vec Ideal S5x4x48 .f32)
    (v : Vec Ideal S5x512x6144 .i8) (vs : Vec Ideal S5x4x48 .f32) (T : Tame q qs k ks v vs) :
    G7 (F := Ideal) q qs k ks v vs = fun i : S5x192x9216.Idx => byteAt q qs k ks v vs (i 0) (i 1) (i 2) := by
  funext i
  have e : i = ix3 (i 0) (i 1) (i 2) := by funext b; fin_cases b <;> rfl
  show k0_pay12 (k0_pay18 (F := Ideal) q qs k ks v vs) i = _
  rw [words_eq]
  exact (congrArg _ e).trans (G7_at q qs k ks v vs T (i 0) (i 1) (i 2))

end Cert.Proof.RefRun

end
-- ==== Proof.RefNib.lean ====
/- The reference's packed codes, element by element, from its argument arrays whole. -/
module

public import proofs.«01_k».proof.Proof.RefOut
public import proofs.«01_k».proof.Proof.NibNum

@[expose] public section

set_option maxRecDepth 16384

noncomputable section

namespace Cert.Proof.RefRun

open Cert.ReferenceIdeal Cert.ReferenceIdeal.Gen Cert.Proof.Num
open Idealize.ShloMosaic hiding ix1 ix2 ix3 ix4 ix5 ix6
open Idealize.ShloMosaic.TcCoe Idealize.ShloMosaic.ValueIdx
open Cert.Proof.KernelIdeal (mag mag_lt)

/-- A value's four-bit code. -/
theorem pay9_at (v41 : FVec Ideal S5x48x128x2x4608 .f32) (i : S5x192x32x2x4608.Idx) :
    k0_pay9 (F := Ideal) (k0_pay3 v41) (k0_pay6 v41) (k0_pay7 v41) k0_pay8 i = nibR (k0_pay3 (F := Ideal) v41 i) (k0_pay6 (F := Ideal) v41 i) := rfl

/-- A value's scaled magnitude. -/
theorem pay6_at (v41 : FVec Ideal S5x48x128x2x4608 .f32) (e : Fin 5) (g : Fin 192) (j : Fin 32) (h : Fin 2) (L : Fin 4608) :
    k0_pay6 (F := Ideal) v41 (ix5 e g j h L) = magR (k0_pay3 (F := Ideal) v41 (ix5 e g j h L)) (k0_pay5 (F := Ideal) v41 (ix4 e g h L)) := by
  have hL := L.isLt
  have key : ∀ x : S5x192x2x4608.Idx → EReal,
      broadcastTo S5x192x32x2x4608 (shapeCast S5x192x1x2x4608 x shapeCasts_S5x192x2x4608_S5x192x1x2x4608) broadcasts_S5x192x1x2x4608_S5x192x32x2x4608 (ix5 e g j h L) = x (ix4 e g h L) := by
    intro x
    rw [broadcastTo_apply _ _ _ (ix5 e g (0 : Fin 1) h L) (by intro a; fin_cases a <;> rfl)]
    refine shapeCast_apply _ _ _ _ ?_
    rw [Shape.rowMajor_val_four, Shape.rowMajor_val_five]
    show ((e.val * 192 + g.val) * 2 + h.val) * 4608 + L.val = (((e.val * 192 + g.val) * 1 + 0) * 2 + h.val) * 4608 + L.val
    omega
  exact congrArg (fun z : EReal => min (k0_pay4 (F := Ideal) v41 (ix5 e g j h L) * z) (Ideal.ofBits .f32 0x40C00000#32)) (key _)

/-- A byte holds the codes of the two halves. -/
theorem pay11_at (a b : FVec Ideal S5x192x32x2x4608 .f32) (w : IVec S5x192x32x2x4608 32) (z : FVec Ideal S5x192x32x2x4608 .f32) (e : Fin 5) (d : Fin 6144) (L : Fin 4608) :
    k0_pay11 (F := Ideal) a b w z (ix3 e d L)
      = (k0_pay9 (F := Ideal) a b w z (ix5 e ⟨d.val / 32, by omega⟩ ⟨d.val % 32, by omega⟩ 0 L)
          ||| IntOp.shli .vector (k0_pay9 (F := Ideal) a b w z (ix5 e ⟨d.val / 32, by omega⟩ ⟨d.val % 32, by omega⟩ 1 L)) 4#32).setWidth 8 := by
  have hL := L.isLt
  have hd := d.isLt
  unfold k0_pay11
  generalize k0_pay9 (F := Ideal) a b w z = n
  have k0 : shapeCast S5x192x32x4608 (extractStridedSlice S5x192x32x1x4608 ![0, 0, 0, 0, 0] n slices_S5x192x32x2x4608_o0_0_0_0_0_S5x192x32x1x4608) shapeCasts_S5x192x32x1x4608_S5x192x32x4608
      (ix4 e ⟨d.val / 32, by omega⟩ ⟨d.val % 32, by omega⟩ L) = n (ix5 e ⟨d.val / 32, by omega⟩ ⟨d.val % 32, by omega⟩ 0 L) := by
    rw [shapeCast_apply _ _ _ (ix5 e (⟨d.val / 32, by omega⟩ : Fin 192) (⟨d.val % 32, by omega⟩ : Fin 32) (0 : Fin 1) L)
      (by rw [Shape.rowMajor_val_four, Shape.rowMajor_val_five]
          show (((e.val * 192 + d.val / 32) * 32 + d.val % 32) * 1 + 0) * 4608 + L.val = ((e.val * 192 + d.val / 32) * 32 + d.val % 32) * 4608 + L.val
          omega)]
    refine congrArg n (funext fun b => Fin.ext ?_)
    fin_cases b
    · exact (show 0 + e.val = e.val by omega)
    · exact (show 0 + d.val / 32 = d.val / 32 by omega)
    · exact (show 0 + d.val % 32 = d.val % 32 by omega)
    · rfl
    · exact (show 0 + L.val = L.val by omega)
  have k1 : shapeCast S5x192x32x4608 (extractStridedSlice S5x192x32x1x4608 ![0, 0, 0, 1, 0] n slices_S5x192x32x2x4608_o0_0_0_1_0_S5x192x32x1x4608) shapeCasts_S5x192x32x1x4608_S5x192x32x4608
      (ix4 e ⟨d.val / 32, by omega⟩ ⟨d.val % 32, by omega⟩ L) = n (ix5 e ⟨d.val / 32, by omega⟩ ⟨d.val % 32, by omega⟩ 1 L) := by
    rw [shapeCast_apply _ _ _ (ix5 e (⟨d.val / 32, by omega⟩ : Fin 192) (⟨d.val % 32, by omega⟩ : Fin 32) (0 : Fin 1) L)
      (by rw [Shape.rowMajor_val_four, Shape.rowMajor_val_five]
          show (((e.val * 192 + d.val / 32) * 32 + d.val % 32) * 1 + 0) * 4608 + L.val = ((e.val * 192 + d.val / 32) * 32 + d.val % 32) * 4608 + L.val
          omega)]
    refine congrArg n (funext fun b => Fin.ext ?_)
    fin_cases b
    · exact (show 0 + e.val = e.val by omega)
    · exact (show 0 + d.val / 32 = d.val / 32 by omega)
    · exact (show 0 + d.val % 32 = d.val % 32 by omega)
    · rfl
    · exact (show 0 + L.val = L.val by omega)
  show (shapeCast S5x6144x4608 (ori (shapeCast S5x192x32x4608 (extractStridedSlice S5x192x32x1x4608 ![0, 0, 0, 0, 0] n slices_S5x192x32x2x4608_o0_0_0_0_0_S5x192x32x1x4608) shapeCasts_S5x192x32x1x4608_S5x192x32x4608)
    (shli (shapeCast S5x192x32x4608 (extractStridedSlice S5x192x32x1x4608 ![0, 0, 0, 1, 0] n slices_S5x192x32x2x4608_o0_0_0_1_0_S5x192x32x1x4608) shapeCasts_S5x192x32x1x4608_S5x192x32x4608) (broadcast S5x192x32x4608 4#32)))
    shapeCasts_S5x192x32x4608_S5x6144x4608 (ix3 e d L)).setWidth 8 = _
  refine congrArg (BitVec.setWidth 8) ?_
  rw [shapeCast_apply _ _ _ (ix4 e (⟨d.val / 32, by omega⟩ : Fin 192) (⟨d.val % 32, by omega⟩ : Fin 32) L)
    (by rw [Shape.rowMajor_val_four, Shape.rowMajor_val_three]
        show ((e.val * 192 + d.val / 32) * 32 + d.val % 32) * 4608 + L.val = (e.val * 6144 + d.val) * 4608 + L.val
        omega)]
  exact congrArg₂ (fun x y : BitVec 32 => x ||| IntOp.shli .vector y 4#32) k0 k1

/-- The code of half `h` at a place of layer `e`. -/
def nibAt (q : S5x8192x6144.Idx → BitVec 8) (k v : S5x512x6144.Idx → BitVec 8) (e : Fin 5) (d : Fin 6144) (h : Fin 2) (L : Fin 4608) : BitVec 32 :=
  nibOf (codeAt q k v e d h L) (mag fun j : Fin 32 => codeAt q k v e ⟨32 * (d.val / 32) + j.val, by omega⟩ h L)

/-- The packed byte at a place of layer `e`. -/
def packAt (q : S5x8192x6144.Idx → BitVec 8) (k v : S5x512x6144.Idx → BitVec 8) (e : Fin 5) (d : Fin 6144) (L : Fin 4608) : BitVec 8 :=
  (nibAt q k v e d 0 L ||| IntOp.shli .vector (nibAt q k v e d 1 L) 4#32).setWidth 8

theorem nib_at (q : Vec Ideal S5x8192x6144 .i8) (qs : Vec Ideal S5x64x48 .f32) (k : Vec Ideal S5x512x6144 .i8) (ks : Vec Ideal S5x4x48 .f32)
    (v : Vec Ideal S5x512x6144 .i8) (vs : Vec Ideal S5x4x48 .f32) (T : Tame q qs k ks v vs) (e : Fin 5) (d : Fin 6144) (h : Fin 2) (L : Fin 4608) :
    nibR (k0_pay3 (F := Ideal) (k0_pay2 (F := Ideal) q k v qs ks vs) (ix5 e ⟨d.val / 32, by omega⟩ ⟨d.val % 32, by omega⟩ h L))
        (k0_pay6 (F := Ideal) (k0_pay2 (F := Ideal) q k v qs ks vs) (ix5 e ⟨d.val / 32, by omega⟩ ⟨d.val % 32, by omega⟩ h L)) = nibAt q k v e d h L := by
  have hd := d.isLt
  have hL := L.isLt
  obtain ⟨n, hn⟩ := sel_all (fun s => ∃ n, Pow s n) L h
    (fun r : Fin 8192 => qs (ix3 e ⟨r.val / 128, by omega⟩ ⟨d.val / 128, by omega⟩)) (fun r : Fin 512 => ks (ix3 e ⟨r.val / 128, by omega⟩ ⟨d.val / 128, by omega⟩))
    (fun r : Fin 512 => vs (ix3 e ⟨r.val / 128, by omega⟩ ⟨d.val / 128, by omega⟩)) (fun r => T.qs _) (fun r => T.ks _) (fun r => T.vs _)
  have hcode : ∀ d' : Fin 6144, (codeAt q k v e d' h L).toNat % 128 ≠ 127 := fun d' =>
    sel_all (fun b : BitVec 8 => b.toNat % 128 ≠ 127) _ _ _ _ _ (fun r => T.q _) (fun r => T.k _) (fun r => T.v _)
  have hv : ∀ j : Fin 32, k0_pay2 (F := Ideal) q k v qs ks vs (ix5 e ⟨(⟨d.val / 32, by omega⟩ : Fin 192).val / 4, by simp only; omega⟩ ⟨(⟨d.val / 32, by omega⟩ : Fin 192).val % 4 * 32 + j.val, by simp only; omega⟩ h L)
      = Ideal.ofBits .fp8e4m3 (codeAt q k v e ⟨32 * (d.val / 32) + j.val, by omega⟩ h L) * scaleAt qs ks vs e ⟨d.val / 128, by omega⟩ h L := by
    intro j
    rw [pay2_at]
    have a1 : (⟨128 * (d.val / 32 / 4) + (d.val / 32 % 4 * 32 + j.val), by omega⟩ : Fin 6144) = ⟨32 * (d.val / 32) + j.val, by omega⟩ := Fin.ext (by simp only; omega)
    have a2 : (⟨d.val / 32 / 4, by omega⟩ : Fin 48) = ⟨d.val / 128, by omega⟩ := Fin.ext (by simp only; omega)
    simp only [a1, a2]
  have e3 : k0_pay3 (F := Ideal) (k0_pay2 (F := Ideal) q k v qs ks vs) (ix5 e ⟨d.val / 32, by omega⟩ ⟨d.val % 32, by omega⟩ h L)
      = Ideal.ofBits .fp8e4m3 (codeAt q k v e d h L) * scaleAt qs ks vs e ⟨d.val / 128, by omega⟩ h L := by
    have a3 : (⟨32 * (d.val / 32) + d.val % 32, by omega⟩ : Fin 6144) = d := Fin.ext (by simp only; omega)
    refine Eq.trans ?_ ((hv ⟨d.val % 32, by omega⟩).trans (by rw [a3]))
    unfold k0_pay3
    refine shapeCast_apply _ _ _ _ ?_
    rw [Shape.rowMajor_val_five, Shape.rowMajor_val_five]
    show (((e.val * 48 + d.val / 32 / 4) * 128 + (d.val / 32 % 4 * 32 + d.val % 32)) * 2 + h.val) * 4608 + L.val = (((e.val * 192 + d.val / 32) * 32 + d.val % 32) * 2 + h.val) * 4608 + L.val
    omega
  have e5 : k0_pay5 (F := Ideal) (k0_pay2 (F := Ideal) q k v qs ks vs) (ix4 e ⟨d.val / 32, by omega⟩ h L)
      = wordR ((vR (mag fun j : Fin 32 => codeAt q k v e ⟨32 * (d.val / 32) + j.val, by omega⟩ h L) * (2 : ℝ) ^ n : ℝ) : EReal) := by
    rw [pay5_eq]
    exact tail5_at _ _ _ (amax_at _ e ⟨d.val / 32, by omega⟩ h L (fun j : Fin 32 => codeAt q k v e ⟨32 * (d.val / 32) + j.val, by omega⟩ h L) _ n hn (fun j => hcode _) hv)
  rw [pay6_at, e3, e5]
  refine nib_eq hn _ (mag_lt _) _ (hcode d) ?_
  have a3 : (⟨32 * (d.val / 32) + d.val % 32, by omega⟩ : Fin 6144) = d := Fin.ext (by simp only; omega)
  have := Finset.le_sup (f := fun j : Fin 32 => (codeAt q k v e ⟨32 * (d.val / 32) + j.val, by omega⟩ h L).toNat % 128) (Finset.mem_univ (⟨d.val % 32, by omega⟩ : Fin 32))
  simp only [a3] at this
  exact this

theorem G6_at (q : Vec Ideal S5x8192x6144 .i8) (qs : Vec Ideal S5x64x48 .f32) (k : Vec Ideal S5x512x6144 .i8) (ks : Vec Ideal S5x4x48 .f32)
    (v : Vec Ideal S5x512x6144 .i8) (vs : Vec Ideal S5x4x48 .f32) (T : Tame q qs k ks v vs) (e : Fin 5) (d : Fin 6144) (L : Fin 4608) :
    k0_pay11 (F := Ideal) (k0_pay3 (k0_pay2 (F := Ideal) q k v qs ks vs)) (k0_pay6 (k0_pay2 (F := Ideal) q k v qs ks vs)) (k0_pay7 (k0_pay2 (F := Ideal) q k v qs ks vs)) k0_pay8 (ix3 e d L)
      = packAt q k v e d L := by
  rw [pay11_at, pay9_at, pay9_at, nib_at q qs k ks v vs T, nib_at q qs k ks v vs T]
  rfl

/-- The array of packed codes is `packAt` of the argument arrays. -/
theorem G6_eq (q : Vec Ideal S5x8192x6144 .i8) (qs : Vec Ideal S5x64x48 .f32) (k : Vec Ideal S5x512x6144 .i8) (ks : Vec Ideal S5x4x48 .f32)
    (v : Vec Ideal S5x512x6144 .i8) (vs : Vec Ideal S5x4x48 .f32) (T : Tame q qs k ks v vs) :
    G6 (F := Ideal) q qs k ks v vs = fun i : S5x6144x4608.Idx => packAt q k v (i 0) (i 1) (i 2) := by
  have hG : G6 (F := Ideal) q qs k ks v vs = k0_pay11 (F := Ideal) (k0_pay3 (k0_pay2 (F := Ideal) q k v qs ks vs)) (k0_pay6 (k0_pay2 (F := Ideal) q k v qs ks vs)) (k0_pay7 (k0_pay2 (F := Ideal) q k v qs ks vs)) k0_pay8 := by
    unfold G6 k0_pay17 k0_pay19 k0_pay20 k0_pay21 k0_pay16
    rw [View.ld_unit_zero hz8 _ q, View.ld_unit_zero hz8 _ k, View.ld_unit_zero hz8 _ v, View.ld_unit_zero hz8 _ qs, View.ld_unit_zero hz8 _ ks, View.ld_unit_zero hz8 _ vs]
  funext i
  have e : i = ix3 (i 0) (i 1) (i 2) := by funext b; fin_cases b <;> rfl
  rw [hG]
  exact (congrArg _ e).trans (G6_at q qs k ks v vs T (i 0) (i 1) (i 2))

end Cert.Proof.RefRun

end
-- ==== Proof.PackI.lean ====
/- The block of packed codes each point leaves, in terms of the argument arrays. -/
module

public import proofs.«01_k».proof.Proof.ElemI
public import proofs.«01_k».proof.Proof.RefNib

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx
open Cert.Proof.RefRun (sel codeAt nibAt packAt)
open Cert.Proof.Num (nibOf)

section

variable {F : FTy → Type} [FloatOps F]

/-- A byte of a packed word of two stacked 64-row pieces, whole. -/
theorem pay5_b (x y : Vec F S1x64x256 .i8) (p : Fin 64) (l : Fin 128) (b : Fin 4) :
    (k0_pay5 (F := F) x y (ix2 p l)).extractLsb' (8 * b.val) 8
      = if h : l.val < 64 then x (ix3 0 ⟨l.val, h⟩ ⟨4 * p.val + b.val, by omega⟩) else y (ix3 0 ⟨l.val - 64, by omega⟩ ⟨4 * p.val + b.val, by omega⟩) := by
  unfold k0_pay5
  rw [wb_cast _ _ p l b.val b.isLt ⟨4 * p.val + b.val, by omega⟩ rfl]
  pointwise
  split <;> rfl

theorem pay6_b (x y : Vec F S1x64x256 .i8) (p : Fin 64) (l : Fin 128) (b : Fin 4) :
    (k0_pay6 (F := F) x y (ix2 p l)).extractLsb' (8 * b.val) 8
      = if h : l.val < 64 then x (ix3 0 ⟨l.val, h⟩ ⟨4 * p.val + b.val, by omega⟩) else y (ix3 0 ⟨l.val - 64, by omega⟩ ⟨4 * p.val + b.val, by omega⟩) :=
  pay5_b x y p l b

theorem w1lo (i : grid0.Coords) (arg2 : Memref sig .tc .vmem S1x256x6144 .i8) (k0_h1 : k0_cond1 i = 1#1) (X2 : BufTy.Contents (Elt F) arg2.view.ty)
    (k : Fin k0_t1_loop.trips) (p : Fin 64) (b : Fin 4) (l : Fin 128) :
    (trip1.sl.r_2 i arg2 k0_h1 X2 k (ix2 p l)).extractLsb' (8 * b.val) 8
      = cd (arg2.view.read (Elt F) X2) ⟨l.val / 64 * 128 + l.val % 64, by omega⟩ (256 * k.val + (4 * p.val + b.val)) := by
  have hk := trips1 k
  unfold trip1.sl.r_2
  rw [pay5_b]
  unfold cd
  split
  · exact ld3 arg2.view X2 _ 0 (256 * k.val) (k0_off1_eq k) _ _ _ _ _ (by simp only; omega) (by simp only; omega)
  · exact ld3 arg2.view X2 _ 128 (256 * k.val) (k0_off2_eq k) _ _ _ _ _ (by simp only; omega) (by simp only; omega)

theorem w1hi (i : grid0.Coords) (arg2 : Memref sig .tc .vmem S1x256x6144 .i8) (k0_h1 : k0_cond1 i = 1#1) (X2 : BufTy.Contents (Elt F) arg2.view.ty)
    (k : Fin k0_t1_loop.trips) (p : Fin 64) (b : Fin 4) (l : Fin 128) :
    (trip1.sl.r_3 i arg2 k0_h1 X2 k (ix2 p l)).extractLsb' (8 * b.val) 8
      = cd (arg2.view.read (Elt F) X2) ⟨l.val / 64 * 128 + 64 + l.val % 64, by omega⟩ (256 * k.val + (4 * p.val + b.val)) := by
  have hk := trips1 k
  unfold trip1.sl.r_3
  rw [pay6_b]
  unfold cd
  split
  · exact ld3 arg2.view X2 _ 64 (256 * k.val) (k0_off3_eq k) _ _ _ _ _ (by simp only; omega) (by simp only; omega)
  · exact ld3 arg2.view X2 _ 192 (256 * k.val) (k0_off4_eq k) _ _ _ _ _ (by simp only; omega) (by simp only; omega)

/-- The packed words of a block of 128 rows, whole. -/
theorem pack_b (x : Vec F S1x128x256 .i8) (p : Fin 64) (l : Fin 128) (b : Fin 4) :
    (bitcast S64x128 32 (transpose S256x128 [1, 0] (shapeCast S128x256 x shapeCasts_S1x128x256_S128x256) transposes_S128x256_p1_0_S256x128) bitcasts_S256x128_w8_S64x128_w32 (ix2 p l)).extractLsb' (8 * b.val) 8
      = x (ix3 0 l ⟨4 * p.val + b.val, by omega⟩) := by
  rw [wb_cast _ _ p l b.val b.isLt ⟨4 * p.val + b.val, by omega⟩ rfl]
  pointwise
  rfl

theorem v45_b (i : grid0.Coords) (arg3 : Memref sig .tc .vmem S1x128x6144 .i8) (k0_h2 : k0_cond2 i = 1#1) (X3 : BufTy.Contents (Elt F) arg3.view.ty)
    (k : Fin k0_t2_loop.trips) (p : Fin 64) (l : Fin 128) (b : Fin 4) :
    (trip2.sl.v45 i arg3 k0_h2 X3 k (ix2 p l)).extractLsb' (8 * b.val) 8 = cd (arg3.view.read (Elt F) X3) l (256 * k.val + (4 * p.val + b.val)) := by
  have hk := trips2 k
  unfold trip2.sl.v45 trip2.sl.v44 trip2.sl.v43
  refine (pack_b _ p l b).trans ?_
  exact ld3 arg3.view X3 _ 0 (256 * k.val) (k0_off13_eq k) _ _ _ _ _ (by first | omega | (simp only; omega)) (by first | omega | (simp only; omega))

theorem v50_b (i : grid0.Coords) (arg4 : Memref sig .tc .vmem S1x128x6144 .i8) (k0_h2 : k0_cond2 i = 1#1) (X4 : BufTy.Contents (Elt F) arg4.view.ty)
    (k : Fin k0_t2_loop.trips) (p : Fin 64) (l : Fin 128) (b : Fin 4) :
    (trip2.sl.v50 i arg4 k0_h2 X4 k (ix2 p l)).extractLsb' (8 * b.val) 8 = cd (arg4.view.read (Elt F) X4) l (256 * k.val + (4 * p.val + b.val)) := by
  have hk := trips2 k
  unfold trip2.sl.v50 trip2.sl.v49 trip2.sl.v48
  refine (pack_b _ p l b).trans ?_
  exact ld3 arg4.view X4 _ 0 (256 * k.val) (k0_off13_eq k) _ _ _ _ _ (by first | omega | (simp only; omega)) (by first | omega | (simp only; omega))

theorem w2lo (i : grid0.Coords) (arg3 : Memref sig .tc .vmem S1x128x6144 .i8) (arg4 : Memref sig .tc .vmem S1x128x6144 .i8) (k0_h2 : k0_cond2 i = 1#1)
    (X3 : BufTy.Contents (Elt F) arg3.view.ty) (X4 : BufTy.Contents (Elt F) arg4.view.ty) (k : Fin k0_t2_loop.trips) (p : Fin 64) (b : Fin 4) (l : Fin 128) :
    (trip2.sl.v72 i arg3 arg4 lane k0_h2 X3 X4 k (ix2 p l)).extractLsb' (8 * b.val) 8
      = if l.val < 64 then cd (arg3.view.read (Elt F) X3) l (256 * k.val + (4 * p.val + b.val))
          else cd (arg4.view.read (Elt F) X4) ⟨2 * (l.val - 64), by omega⟩ (256 * k.val + (4 * p.val + b.val)) := by
  unfold trip2.sl.v72
  show (Scalar.select (trip2.sl.v52 lane (ix2 p l)) (trip2.sl.v45 i arg3 k0_h2 X3 k (ix2 p l)) (trip2.sl.v69 i arg4 lane k0_h2 X4 k (ix2 p l))).extractLsb' (8 * b.val) 8 = _
  rw [v52_at, v69_at]
  by_cases h : l.val < 64
  · simp only [if_pos h]
    exact v45_b i arg3 k0_h2 X3 k p l b
  · simp only [if_neg h]
    refine (v50_b i arg4 k0_h2 X4 k p (src l) b).trans ?_
    have e : src l = ⟨2 * (l.val - 64), by omega⟩ := Fin.ext (if_neg h)
    rw [e]

theorem w2hi (i : grid0.Coords) (arg3 : Memref sig .tc .vmem S1x128x6144 .i8) (arg4 : Memref sig .tc .vmem S1x128x6144 .i8) (k0_h2 : k0_cond2 i = 1#1)
    (X3 : BufTy.Contents (Elt F) arg3.view.ty) (X4 : BufTy.Contents (Elt F) arg4.view.ty) (k : Fin k0_t2_loop.trips) (p : Fin 64) (b : Fin 4) (l : Fin 128) :
    (trip2.sl.v76 i arg3 arg4 lane k0_h2 X3 X4 k (ix2 p l)).extractLsb' (8 * b.val) 8
      = if h : l.val < 64 then cd (arg3.view.read (Elt F) X3) ⟨l.val + 64, by omega⟩ (256 * k.val + (4 * p.val + b.val))
          else cd (arg4.view.read (Elt F) X4) ⟨2 * (l.val - 64) + 1, by omega⟩ (256 * k.val + (4 * p.val + b.val)) := by
  have hr : trip2.sl.v76 i arg3 arg4 lane k0_h2 X3 X4 k (ix2 p l) = trip2.sl.v75 i arg3 arg4 lane k0_h2 X3 X4 k (ix2 p ⟨(l.val + 64) % 128, Nat.mod_lt _ (by decide)⟩) := by
    unfold trip2.sl.v76
    refine dynamicRotate_apply _ _ _ _ _ _ fun b => ?_
    fin_cases b
    · rfl
    · exact (show (l.val + 64) % 128 = (l.val + 128 - 64 % 128) % 128 by omega)
  rw [hr]
  rw [v75_at]
  by_cases h : l.val < 64
  · rw [if_neg (by simp only; omega)]
    simp only [dif_pos h]
    refine (v45_b i arg3 k0_h2 X3 k p _ b).trans ?_
    have e : (⟨(l.val + 64) % 128, Nat.mod_lt _ (by decide)⟩ : Fin 128) = ⟨l.val + 64, by omega⟩ := Fin.ext (by simp only; omega)
    rw [e]
  · rw [if_pos (by simp only; omega)]
    simp only [dif_neg h]
    refine (v50_b i arg4 k0_h2 X4 k p _ b).trans ?_
    have e0 : (l.val + 64) % 128 < 64 := by omega
    have e : src ⟨(l.val + 64) % 128, Nat.mod_lt _ (by decide)⟩ = ⟨2 * (l.val - 64) + 1, by omega⟩ := Fin.ext ((if_pos e0).trans (by simp only; omega))
    rw [e]

end

section

variable (q : Cert.ReferenceIdeal.S5x8192x6144.Idx → BitVec 8) (kc : Cert.ReferenceIdeal.S5x512x6144.Idx → BitVec 8) (vc : Cert.ReferenceIdeal.S5x512x6144.Idx → BitVec 8)

/-- A code of the query block, half 0. -/
theorem codeA0 (X2 : S1x256x6144.Idx → BitVec 8) (e : Fin 5) (p : ℕ) (hp : p < 36) (hA : p % 9 < 8)
    (h2 : ∀ (r : Fin 256) (d : Fin 6144), X2 (ix3 0 r d) = q (ix3 e ⟨(p / 9 * 8 + min (p % 9) 7) * 256 + r.val, by omega⟩ d))
    (l : Fin 128) (n : ℕ) (d : Fin 6144) (hn : n = d.val) :
    cd X2 ⟨l.val / 64 * 128 + l.val % 64, by omega⟩ n = codeAt q kc vc e d 0 ⟨128 * p + l.val, by omega⟩ := by
  have hd := d.isLt
  unfold cd codeAt
  rw [h2, sel_A p hp hA l.val l.isLt _ rfl]
  refine congrArg q (funext fun b => ?_)
  fin_cases b
  · rfl
  · exact Fin.ext (by show (p / 9 * 8 + min (p % 9) 7) * 256 + (l.val / 64 * 128 + l.val % 64) = (p / 9 * 8 + min (p % 9) 7) * 256 + (l.val / 64 * 128 + 64 * 0 + l.val % 64); omega)
  · exact Fin.ext (by show n % 6144 = d.val; omega)

/-- A code of the query block, half 1. -/
theorem codeA1 (X2 : S1x256x6144.Idx → BitVec 8) (e : Fin 5) (p : ℕ) (hp : p < 36) (hA : p % 9 < 8)
    (h2 : ∀ (r : Fin 256) (d : Fin 6144), X2 (ix3 0 r d) = q (ix3 e ⟨(p / 9 * 8 + min (p % 9) 7) * 256 + r.val, by omega⟩ d))
    (l : Fin 128) (n : ℕ) (d : Fin 6144) (hn : n = d.val) :
    cd X2 ⟨l.val / 64 * 128 + 64 + l.val % 64, by omega⟩ n = codeAt q kc vc e d 1 ⟨128 * p + l.val, by omega⟩ := by
  have hd := d.isLt
  unfold cd codeAt
  rw [h2, sel_A p hp hA l.val l.isLt _ rfl]
  refine congrArg q (funext fun b => ?_)
  fin_cases b
  · rfl
  · exact Fin.ext (by show (p / 9 * 8 + min (p % 9) 7) * 256 + (l.val / 64 * 128 + 64 + l.val % 64) = (p / 9 * 8 + min (p % 9) 7) * 256 + (l.val / 64 * 128 + 64 * 1 + l.val % 64); omega)
  · exact Fin.ext (by show n % 6144 = d.val; omega)

/-- A code of the key and value blocks, half 0. -/
theorem codeB0 (X3 : S1x128x6144.Idx → BitVec 8) (X4 : S1x128x6144.Idx → BitVec 8) (e : Fin 5) (p : ℕ) (hp : p < 36) (hB : p % 9 = 8)
    (h3 : ∀ (r : Fin 128) (d : Fin 6144), X3 (ix3 0 r d) = kc (ix3 e ⟨p / 9 * 128 + r.val, by omega⟩ d))
    (h4 : ∀ (r : Fin 128) (d : Fin 6144), X4 (ix3 0 r d) = vc (ix3 e ⟨p / 9 * 128 + r.val, by omega⟩ d))
    (l : Fin 128) (n : ℕ) (d : Fin 6144) (hn : n = d.val) :
    (if l.val < 64 then cd X3 l n else cd X4 ⟨2 * (l.val - 64), by omega⟩ n) = codeAt q kc vc e d 0 ⟨128 * p + l.val, by omega⟩ := by
  have hd := d.isLt
  unfold cd codeAt
  rw [sel_B p hp hB l.val l.isLt _ rfl]
  by_cases hlt : l.val < 64
  · rw [if_pos hlt, dif_pos hlt, h3]
    refine congrArg kc (funext fun b => ?_)
    fin_cases b
    · rfl
    · exact Fin.ext (by show p / 9 * 128 + (l.val) = p / 9 * 128 + (l.val + 64 * 0); omega)
    · exact Fin.ext (by show n % 6144 = d.val; omega)
  · rw [if_neg hlt, dif_neg hlt, h4]
    refine congrArg vc (funext fun b => ?_)
    fin_cases b
    · rfl
    · exact Fin.ext (by show p / 9 * 128 + (2 * (l.val - 64)) = p / 9 * 128 + (2 * (l.val - 64) + 0); omega)
    · exact Fin.ext (by show n % 6144 = d.val; omega)

/-- A code of the key and value blocks, half 1. -/
theorem codeB1 (X3 : S1x128x6144.Idx → BitVec 8) (X4 : S1x128x6144.Idx → BitVec 8) (e : Fin 5) (p : ℕ) (hp : p < 36) (hB : p % 9 = 8)
    (h3 : ∀ (r : Fin 128) (d : Fin 6144), X3 (ix3 0 r d) = kc (ix3 e ⟨p / 9 * 128 + r.val, by omega⟩ d))
    (h4 : ∀ (r : Fin 128) (d : Fin 6144), X4 (ix3 0 r d) = vc (ix3 e ⟨p / 9 * 128 + r.val, by omega⟩ d))
    (l : Fin 128) (n : ℕ) (d : Fin 6144) (hn : n = d.val) :
    (if h : l.val < 64 then cd X3 ⟨l.val + 64, by omega⟩ n else cd X4 ⟨2 * (l.val - 64) + 1, by omega⟩ n) = codeAt q kc vc e d 1 ⟨128 * p + l.val, by omega⟩ := by
  have hd := d.isLt
  unfold cd codeAt
  rw [sel_B p hp hB l.val l.isLt _ rfl]
  by_cases hlt : l.val < 64
  · rw [dif_pos hlt, dif_pos hlt, h3]
    refine congrArg kc (funext fun b => ?_)
    fin_cases b
    · rfl
    · exact Fin.ext (by show p / 9 * 128 + (l.val + 64) = p / 9 * 128 + (l.val + 64 * 1); omega)
    · exact Fin.ext (by show n % 6144 = d.val; omega)
  · rw [dif_neg hlt, dif_neg hlt, h4]
    refine congrArg vc (funext fun b => ?_)
    fin_cases b
    · rfl
    · exact Fin.ext (by show p / 9 * 128 + (2 * (l.val - 64) + 1) = p / 9 * 128 + (2 * (l.val - 64) + 1); omega)
    · exact Fin.ext (by show n % 6144 = d.val; omega)

/-- The block of packed codes of a pair of query heads. -/
theorem packA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h1 : k0_cond1 i = 1#1) (X2 : S1x256x6144.Idx → BitVec 8)
    (e : Fin 5) (p : ℕ) (hp : p < 36) (hA : p % 9 < 8)
    (h2 : ∀ (r : Fin 256) (d : Fin 6144), X2 (ix3 0 r d) = q (ix3 e ⟨(p / 9 * 8 + min (p % 9) 7) * 256 + r.val, by omega⟩ d))
    (d : Fin 6144) (l : Fin 128) :
    Yof (y1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread X2)) (ix3 0 d l) = packAt q kc vc e d ⟨128 * p + l.val, by omega⟩ := by
  have hd := d.isLt
  have hl := l.isLt
  have k0 : nibs (valsE (F := Ideal) (trip1.sl.r_2 (F := Ideal) i arg2 k0_h1 (harg2.unread X2) (tr1 (d.val / 256) (by omega))) (twin (trip1.sl.v329 (F := Ideal) i arg2 arg14 k0_h1 (harg2.unread X2) (tr1 (d.val / 256) (by omega))))) (ix2 ⟨d.val % 256, by omega⟩ l)
      = nibAt q kc vc e d 0 ⟨128 * p + l.val, by omega⟩ := by
    unfold nibAt
    refine nib_of _ _ _ _ _ _ (mag_lt _) ?_ ?_
    · refine (w1lo i arg2 k0_h1 (harg2.unread X2) (tr1 (d.val / 256) (by omega)) ⟨d.val % 256 / 4, by omega⟩ ⟨d.val % 256 % 4, by omega⟩ l).trans ?_
      rw [harg2.read_unread]
      exact codeA0 q kc vc X2 e p hp hA h2 l _ d (by show 256 * (d.val / 256) + (4 * (d.val % 256 / 4) + d.val % 256 % 4) = d.val; omega)
    · rw [xlo_1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread X2) (tr1 (d.val / 256) (by omega))]
      refine congrArg codeX ?_
      rw [ulo1, u1lo, harg2.read_unread]
      refine congrArg (BitVec.ofNat 32) (mag_congr fun j => ?_)
      exact codeA0 q kc vc X2 e p hp hA h2 l _ ⟨32 * (d.val / 32) + j.val, by omega⟩ (by show 256 * (d.val / 256) + (32 * (d.val % 256 / 32) + j.val) = 32 * (d.val / 32) + j.val; omega)
  have k1 : nibs (valsE (F := Ideal) (trip1.sl.r_3 (F := Ideal) i arg2 k0_h1 (harg2.unread X2) (tr1 (d.val / 256) (by omega))) (twin (trip1.sl.v345 (F := Ideal) i arg2 arg14 k0_h1 (harg2.unread X2) (tr1 (d.val / 256) (by omega))))) (ix2 ⟨d.val % 256, by omega⟩ l)
      = nibAt q kc vc e d 1 ⟨128 * p + l.val, by omega⟩ := by
    unfold nibAt
    refine nib_of _ _ _ _ _ _ (mag_lt _) ?_ ?_
    · refine (w1hi i arg2 k0_h1 (harg2.unread X2) (tr1 (d.val / 256) (by omega)) ⟨d.val % 256 / 4, by omega⟩ ⟨d.val % 256 % 4, by omega⟩ l).trans ?_
      rw [harg2.read_unread]
      exact codeA1 q kc vc X2 e p hp hA h2 l _ d (by show 256 * (d.val / 256) + (4 * (d.val % 256 / 4) + d.val % 256 % 4) = d.val; omega)
    · rw [xhi_1 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread X2) (tr1 (d.val / 256) (by omega))]
      refine congrArg codeX ?_
      rw [uhi1, u1hi, harg2.read_unread]
      refine congrArg (BitVec.ofNat 32) (mag_congr fun j => ?_)
      exact codeA1 q kc vc X2 e p hp hA h2 l _ ⟨32 * (d.val / 32) + j.val, by omega⟩ (by show 256 * (d.val / 256) + (32 * (d.val % 256 / 32) + j.val) = 32 * (d.val / 32) + j.val; omega)
  unfold packAt
  rw [← k0, ← k1]
  rfl

/-- The block of packed codes of a key and a value head. -/
theorem packB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (k0_h2 : k0_cond2 i = 1#1) (X3 : S1x128x6144.Idx → BitVec 8) (X4 : S1x128x6144.Idx → BitVec 8)
    (e : Fin 5) (p : ℕ) (hp : p < 36) (hB : p % 9 = 8)
    (h3 : ∀ (r : Fin 128) (d : Fin 6144), X3 (ix3 0 r d) = kc (ix3 e ⟨p / 9 * 128 + r.val, by omega⟩ d))
    (h4 : ∀ (r : Fin 128) (d : Fin 6144), X4 (ix3 0 r d) = vc (ix3 e ⟨p / 9 * 128 + r.val, by omega⟩ d))
    (d : Fin 6144) (l : Fin 128) :
    Yof (y2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 (harg3.unread X3) (harg4.unread X4)) (ix3 0 d l) = packAt q kc vc e d ⟨128 * p + l.val, by omega⟩ := by
  have hd := d.isLt
  have hl := l.isLt
  have k0 : nibs (valsE (F := Ideal) (trip2.sl.v72 (F := Ideal) i arg3 arg4 lane k0_h2 (harg3.unread X3) (harg4.unread X4) (tr2 (d.val / 256) (by omega))) (twin (trip2.sl.v347 (F := Ideal) i arg3 arg4 arg14 lane k0_h2 (harg3.unread X3) (harg4.unread X4) (tr2 (d.val / 256) (by omega))))) (ix2 ⟨d.val % 256, by omega⟩ l)
      = nibAt q kc vc e d 0 ⟨128 * p + l.val, by omega⟩ := by
    unfold nibAt
    refine nib_of _ _ _ _ _ _ (mag_lt _) ?_ ?_
    · refine (w2lo i arg3 arg4 k0_h2 (harg3.unread X3) (harg4.unread X4) (tr2 (d.val / 256) (by omega)) ⟨d.val % 256 / 4, by omega⟩ ⟨d.val % 256 % 4, by omega⟩ l).trans ?_
      rw [harg3.read_unread, harg4.read_unread]
      exact codeB0 q kc vc X3 X4 e p hp hB h3 h4 l _ d (by show 256 * (d.val / 256) + (4 * (d.val % 256 / 4) + d.val % 256 % 4) = d.val; omega)
    · rw [xlo_2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 (harg3.unread X3) (harg4.unread X4) (tr2 (d.val / 256) (by omega))]
      refine congrArg codeX ?_
      rw [ulo2, u2lo, harg3.read_unread, harg4.read_unread]
      refine congrArg (BitVec.ofNat 32) (mag_congr fun j => ?_)
      exact codeB0 q kc vc X3 X4 e p hp hB h3 h4 l _ ⟨32 * (d.val / 32) + j.val, by omega⟩ (by show 256 * (d.val / 256) + (32 * (d.val % 256 / 32) + j.val) = 32 * (d.val / 32) + j.val; omega)
  have k1 : nibs (valsE (F := Ideal) (trip2.sl.v76 (F := Ideal) i arg3 arg4 lane k0_h2 (harg3.unread X3) (harg4.unread X4) (tr2 (d.val / 256) (by omega))) (twin (trip2.sl.v363 (F := Ideal) i arg3 arg4 arg14 lane k0_h2 (harg3.unread X3) (harg4.unread X4) (tr2 (d.val / 256) (by omega))))) (ix2 ⟨d.val % 256, by omega⟩ l)
      = nibAt q kc vc e d 1 ⟨128 * p + l.val, by omega⟩ := by
    unfold nibAt
    refine nib_of _ _ _ _ _ _ (mag_lt _) ?_ ?_
    · refine (w2hi i arg3 arg4 k0_h2 (harg3.unread X3) (harg4.unread X4) (tr2 (d.val / 256) (by omega)) ⟨d.val % 256 / 4, by omega⟩ ⟨d.val % 256 % 4, by omega⟩ l).trans ?_
      rw [harg3.read_unread, harg4.read_unread]
      exact codeB1 q kc vc X3 X4 e p hp hB h3 h4 l _ d (by show 256 * (d.val / 256) + (4 * (d.val % 256 / 4) + d.val % 256 % 4) = d.val; omega)
    · rw [xhi_2 𝒱 c bd i arg2 harg2 arg3 harg3 arg4 harg4 arg5 harg5 arg6 harg6 arg7 harg7 arg8 harg8 arg9 harg9 arg10 harg10 arg11 harg11 arg12 harg12 arg13 harg13 arg14 harg14 arg15 harg15 lane k0_h2 (harg3.unread X3) (harg4.unread X4) (tr2 (d.val / 256) (by omega))]
      refine congrArg codeX ?_
      rw [uhi2, u2hi, harg3.read_unread, harg4.read_unread]
      refine congrArg (BitVec.ofNat 32) (mag_congr fun j => ?_)
      exact codeB1 q kc vc X3 X4 e p hp hB h3 h4 l _ ⟨32 * (d.val / 32) + j.val, by omega⟩ (by show 256 * (d.val / 256) + (32 * (d.val % 256 / 32) + j.val) = 32 * (d.val / 32) + j.val; omega)
  unfold packAt
  rw [← k0, ← k1]
  rfl

end

end Cert.Proof.KernelIdeal

end
-- ==== Proof.BlockI.lean ====
/- The blocks each point fetches, in terms of the argument arrays. -/
module

public import proofs.«01_k».proof.Proof.Gen.KernelIdeal.Frame
public import Idealize.ShloMosaic.Lib.Pipeline.ValueKit
public import Idealize.ShloMosaic.Lib.ValueIdx

@[expose] public section

set_option maxRecDepth 16384

noncomputable section

namespace Cert.Proof.KernelIdeal

open Cert.KernelIdeal Cert.KernelIdeal.Gen
open Idealize.ShloMosaic hiding ix1 ix2 ix3 ix4 ix5
open Idealize.ShloMosaic.TcCoe Idealize.ShloMosaic.Tactic Idealize.ShloMosaic.ValueIdx

variable {F : FTy → Type} [FloatOps F]
variable (m : (ℓ : Loc nD τ sig) → Buf (Elt F) ℓ)

theorem idx0 : ∀ t : Fin cfg0.N, win0_0.index t = ![t.val / 36, t.val % 36 / 9 * 8 + min (t.val % 36 % 9) 7, 0] := (by decide +kernel : ∀ t : Fin grid0.N, _)
theorem idx1 : ∀ t : Fin cfg0.N, win0_1.index t = ![t.val / 36, t.val % 36 / 9, 0] := (by decide +kernel : ∀ t : Fin grid0.N, _)
theorem idx2 : ∀ t : Fin cfg0.N, win0_2.index t = ![t.val / 36, t.val % 36 / 9, 0] := (by decide +kernel : ∀ t : Fin grid0.N, _)
theorem idx3 : ∀ t : Fin cfg0.N, win0_3.index t = ![t.val / 36, t.val % 36 / 9 * 8 + min (t.val % 36 % 9) 7, 0, 0] := (by decide +kernel : ∀ t : Fin grid0.N, _)
theorem idx4 : ∀ t : Fin cfg0.N, win0_4.index t = ![t.val / 36, t.val % 36 / 9, 0, 0] := (by decide +kernel : ∀ t : Fin grid0.N, _)
theorem idx5 : ∀ t : Fin cfg0.N, win0_5.index t = ![t.val / 36, t.val % 36 / 9, 0, 0] := (by decide +kernel : ∀ t : Fin grid0.N, _)
theorem idx7 : ∀ t : Fin cfg0.N, win0_7.index t = ![t.val / 36, 0, t.val % 36] := (by decide +kernel : ∀ t : Fin grid0.N, _)

theorem tlt (t : Fin cfg0.N) : t.val < 180 := t.isLt

theorem V_v0 (c : Dev nD) : V m c main_v0 = shapeCast S5x32x2x48 (m ((c : Thread nD τ).loc main_arg1)) shapeCasts_S5x64x48_S5x32x2x48 := by
  show StableHlo.after hostOps0 (fun b => m (c, b)) (Proc.devRef .tc main_v0) = _
  rw [StableHlo.after_cons, StableHlo.after_cons, StableHlo.after_cons, StableHlo.after_nil, StableHlo.reshape_result_ne _ _ _ _ _ _ _ (by decide), StableHlo.reshape_result_ne _ _ _ _ _ _ _ (by decide), StableHlo.reshape_result]
  rfl
theorem V_v1 (c : Dev nD) : V m c main_v1 = shapeCast S5x4x1x48 (m ((c : Thread nD τ).loc main_arg3)) shapeCasts_S5x4x48_S5x4x1x48 := by
  show StableHlo.after hostOps0 (fun b => m (c, b)) (Proc.devRef .tc main_v1) = _
  rw [StableHlo.after_cons, StableHlo.after_cons, StableHlo.after_cons, StableHlo.after_nil, StableHlo.reshape_result_ne _ _ _ _ _ _ _ (by decide), StableHlo.reshape_result, StableHlo.reshape_result_ne _ _ _ _ _ _ _ (by decide)]
  rfl
theorem V_v2 (c : Dev nD) : V m c main_v2 = shapeCast S5x4x1x48 (m ((c : Thread nD τ).loc main_arg5)) shapeCasts_S5x4x48_S5x4x1x48 := by
  show StableHlo.after hostOps0 (fun b => m (c, b)) (Proc.devRef .tc main_v2) = _
  rw [StableHlo.after_cons, StableHlo.after_cons, StableHlo.after_cons, StableHlo.after_nil, StableHlo.reshape_result, StableHlo.reshape_result_ne _ _ _ _ _ _ _ (by decide), StableHlo.reshape_result_ne _ _ _ _ _ _ _ (by decide)]
  rfl

theorem blk0 (c : Dev nD) (t : Fin cfg0.N) (r : Fin 256) (d : Fin 6144) :
    iblk m c 0 t (ix3 (0 : Fin 1) r d) = m ((c : Thread nD τ).loc main_arg0)
      (ix3 (⟨t.val / 36, by have := tlt t; omega⟩ : Fin 5) (⟨(t.val % 36 / 9 * 8 + min (t.val % 36 % 9) 7) * 256 + r.val, by have := tlt t; omega⟩ : Fin 8192) d) := by
  rw [← V_main_arg0 m c]
  blk_simp [iblk, idx0]
  refine congrArg (V m c main_arg0) ?_
  blk_ext [idx0]

theorem blk1 (c : Dev nD) (t : Fin cfg0.N) (r : Fin 128) (d : Fin 6144) :
    iblk m c 1 t (ix3 (0 : Fin 1) r d) = m ((c : Thread nD τ).loc main_arg2)
      (ix3 (⟨t.val / 36, by have := tlt t; omega⟩ : Fin 5) (⟨t.val % 36 / 9 * 128 + r.val, by have := tlt t; omega⟩ : Fin 512) d) := by
  rw [← V_main_arg2 m c]
  blk_simp [iblk, idx1]
  refine congrArg (V m c main_arg2) ?_
  blk_ext [idx1]

theorem blk2 (c : Dev nD) (t : Fin cfg0.N) (r : Fin 128) (d : Fin 6144) :
    iblk m c 2 t (ix3 (0 : Fin 1) r d) = m ((c : Thread nD τ).loc main_arg4)
      (ix3 (⟨t.val / 36, by have := tlt t; omega⟩ : Fin 5) (⟨t.val % 36 / 9 * 128 + r.val, by have := tlt t; omega⟩ : Fin 512) d) := by
  rw [← V_main_arg4 m c]
  blk_simp [iblk, idx2]
  refine congrArg (V m c main_arg4) ?_
  blk_ext [idx2]

theorem blk3 (c : Dev nD) (t : Fin cfg0.N) (a : Fin 2) (b : Fin 48) :
    iblk m c 3 t (ix4 (0 : Fin 1) (0 : Fin 1) a b) = m ((c : Thread nD τ).loc main_arg1)
      (ix3 (⟨t.val / 36, by have := tlt t; omega⟩ : Fin 5) (⟨(t.val % 36 / 9 * 8 + min (t.val % 36 % 9) 7) * 2 + a.val, by have := tlt t; omega⟩ : Fin 64) b) := by
  have ht := tlt t
  have e : iblk m c 3 t (ix4 (0 : Fin 1) (0 : Fin 1) a b)
      = V m c main_v0 (ix4 (⟨t.val / 36, by omega⟩ : Fin 5) (⟨t.val % 36 / 9 * 8 + min (t.val % 36 % 9) 7, by omega⟩ : Fin 32) a b) := by
    blk_simp [iblk, idx3]
    refine congrArg (V m c main_v0) ?_
    blk_ext [idx3]
  rw [e, V_v0]
  exact shapeCast_apply _ _ _ _ (by
    show (S5x64x48.rowMajor _).val = (S5x32x2x48.rowMajor _).val
    rw [Shape.rowMajor_val_three, Shape.rowMajor_val_four]
    show (t.val / 36 * 64 + ((t.val % 36 / 9 * 8 + min (t.val % 36 % 9) 7) * 2 + a.val)) * 48 + b.val
      = ((t.val / 36 * 32 + (t.val % 36 / 9 * 8 + min (t.val % 36 % 9) 7)) * 2 + a.val) * 48 + b.val
    omega)

theorem blk4 (c : Dev nD) (t : Fin cfg0.N) (b : Fin 48) :
    iblk m c 4 t (ix4 (0 : Fin 1) (0 : Fin 1) (0 : Fin 1) b) = m ((c : Thread nD τ).loc main_arg3)
      (ix3 (⟨t.val / 36, by have := tlt t; omega⟩ : Fin 5) (⟨t.val % 36 / 9, by have := tlt t; omega⟩ : Fin 4) b) := by
  have ht := tlt t
  have e : iblk m c 4 t (ix4 (0 : Fin 1) (0 : Fin 1) (0 : Fin 1) b)
      = V m c main_v1 (ix4 (⟨t.val / 36, by omega⟩ : Fin 5) (⟨t.val % 36 / 9, by omega⟩ : Fin 4) (0 : Fin 1) b) := by
    blk_simp [iblk, idx4]
    refine congrArg (V m c main_v1) ?_
    blk_ext [idx4]
  rw [e, V_v1]
  exact shapeCast_apply _ _ _ _ (by
    show (S5x4x48.rowMajor _).val = (S5x4x1x48.rowMajor _).val
    rw [Shape.rowMajor_val_three, Shape.rowMajor_val_four]
    show (t.val / 36 * 4 + t.val % 36 / 9) * 48 + b.val = ((t.val / 36 * 4 + t.val % 36 / 9) * 1 + 0) * 48 + b.val
    omega)

theorem blk5 (c : Dev nD) (t : Fin cfg0.N) (b : Fin 48) :
    iblk m c 5 t (ix4 (0 : Fin 1) (0 : Fin 1) (0 : Fin 1) b) = m ((c : Thread nD τ).loc main_arg5)
      (ix3 (⟨t.val / 36, by have := tlt t; omega⟩ : Fin 5) (⟨t.val % 36 / 9, by have := tlt t; omega⟩ : Fin 4) b) := by
  have ht := tlt t
  have e : iblk m c 5 t (ix4 (0 : Fin 1) (0 : Fin 1) (0 : Fin 1) b)
      = V m c main_v2 (ix4 (⟨t.val / 36, by omega⟩ : Fin 5) (⟨t.val % 36 / 9, by omega⟩ : Fin 4) (0 : Fin 1) b) := by
    blk_simp [iblk, idx5]
    refine congrArg (V m c main_v2) ?_
    blk_ext [idx5]
  rw [e, V_v2]
  exact shapeCast_apply _ _ _ _ (by
    show (S5x4x48.rowMajor _).val = (S5x4x1x48.rowMajor _).val
    rw [Shape.rowMajor_val_three, Shape.rowMajor_val_four]
    show (t.val / 36 * 4 + t.val % 36 / 9) * 48 + b.val = ((t.val / 36 * 4 + t.val % 36 / 9) * 1 + 0) * 48 + b.val
    omega)

theorem kindA : ∀ t : Fin cfg0.N, k0_cond1 (grid0.coords t) = 1#1 → t.val % 36 % 9 < 8 := (by decide +kernel : ∀ t : Fin grid0.N, k0_cond1 (grid0.coords t) = 1#1 → t.val % 36 % 9 < 8)
theorem kindB : ∀ t : Fin cfg0.N, k0_cond2 (grid0.coords t) = 1#1 → t.val % 36 % 9 = 8 := (by decide +kernel : ∀ t : Fin grid0.N, k0_cond2 (grid0.coords t) = 1#1 → t.val % 36 % 9 = 8)

end Cert.Proof.KernelIdeal

end
-- ==== Proof.ValI.lean ====
/- The arrays of packed codes and of scale bytes after the run, in terms of the argument arrays. -/
module

public import proofs.«01_k».proof.Proof.ByteI
public import proofs.«01_k».proof.Proof.PackI
public import proofs.«01_k».proof.Proof.BlockI
public import proofs.«01_k».proof.Proof.RunI
public import Idealize.ShloMosaic.Lib.Pipeline.ValueKit

@[expose] public section

set_option maxRecDepth 16384

noncomputable section

namespace Cert.Proof.KernelIdeal

open Cert.KernelIdeal Cert.KernelIdeal.Gen Cert.Proof.Bytes
open Idealize.ShloMosaic hiding ix1 ix2 ix3 ix4 ix5
open Idealize.ShloMosaic.TcCoe Idealize.ShloMosaic.Tactic Idealize.ShloMosaic.ValueIdx
open Idealize.SL Idealize.SL.RA Idealize.SL.Sem
open Idealize.ShloMosaic.Pipeline (Dat RDat)
open Cert.Proof.RefRun (byteAt packAt)

section

variable (q : Cert.ReferenceIdeal.S5x8192x6144.Idx → BitVec 8) (qs : Cert.ReferenceIdeal.S5x64x48.Idx → EReal) (kc : Cert.ReferenceIdeal.S5x512x6144.Idx → BitVec 8)
  (ks : Cert.ReferenceIdeal.S5x4x48.Idx → EReal) (vc : Cert.ReferenceIdeal.S5x512x6144.Idx → BitVec 8) (vs : Cert.ReferenceIdeal.S5x4x48.Idx → EReal)

/-- A block holding the reference's scale bytes of batch `e`, lanes from `128 * p`. -/
def Has (e : Fin 5) (p : ℕ) (hp : p < 36) (X : S1x192x256.Idx → BitVec 8) : Prop :=
  ∀ (gr : Fin 192) (col : Fin 256), X (ix3 0 gr col) = byteAt q qs kc ks vc vs e gr ⟨256 * p + col.val, by omega⟩

/-- A block holding the reference's packed codes of batch `e`, lanes from `128 * p`. -/
def Has8 (e : Fin 5) (p : ℕ) (hp : p < 36) (X : S1x6144x128.Idx → BitVec 8) : Prop :=
  ∀ (d : Fin 6144) (l : Fin 128), X (ix3 0 d l) = packAt q kc vc e d ⟨128 * p + l.val, by omega⟩

/-- At a point of kind A the blocks of packed codes and of scale bytes are the reference's. -/
theorem meetsA (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt Ideal .i8)) (X3 : (S1x128x6144.Idx → Elt Ideal .i8)) (X4 : (S1x128x6144.Idx → Elt Ideal .i8)) (X5 : (S1x1x2x48.Idx → Elt Ideal .f32)) (X6 : (S1x1x1x48.Idx → Elt Ideal .f32)) (X7 : (S1x1x1x48.Idx → Elt Ideal .f32))
    (e : Fin 5) (p : ℕ) (hp : p < 36) (hk : k0_cond1 i = 1#1 → p % 9 < 8)
    (h2 : ∀ (r : Fin 256) (d : Fin 6144), X2 (ix3 0 r d) = q (ix3 e ⟨(p / 9 * 8 + min (p % 9) 7) * 256 + r.val, by omega⟩ d))
    (h5 : ∀ (a : Fin 2) (b : Fin 48), X5 (ix4 0 0 a b) = qs (ix3 e ⟨(p / 9 * 8 + min (p % 9) 7) * 2 + a.val, by omega⟩ b)) :
    MeetsA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 (Has8 q kc vc e p hp) (Has q qs kc ks vc vs e p hp) (fun _ => True) (fun _ => True) (fun _ => True) := by
  intro k0_h1 k0_h2 k0_h3 f8 f9 f10 f11 f12 f13 hS0
  refine ⟨fun d l => ?_, fun gr col => ?_, trivial, trivial⟩
  · rw [x8_A]
    exact packA q kc vc 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 e p hp (hk k0_h1) h2 d l
  rw [x9_A]
  exact byteA q qs kc ks vc vs 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 X2 X5 e p hp (hk k0_h1) h2 h5 gr col

/-- At a point of kind B the blocks of packed codes and of scale bytes are the reference's. -/
theorem meetsB (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt Ideal .i8)) (X3 : (S1x128x6144.Idx → Elt Ideal .i8)) (X4 : (S1x128x6144.Idx → Elt Ideal .i8)) (X5 : (S1x1x2x48.Idx → Elt Ideal .f32)) (X6 : (S1x1x1x48.Idx → Elt Ideal .f32)) (X7 : (S1x1x1x48.Idx → Elt Ideal .f32))
    (e : Fin 5) (p : ℕ) (hp : p < 36) (hk : k0_cond2 i = 1#1 → p % 9 = 8)
    (h3 : ∀ (r : Fin 128) (d : Fin 6144), X3 (ix3 0 r d) = kc (ix3 e ⟨p / 9 * 128 + r.val, by omega⟩ d))
    (h4 : ∀ (r : Fin 128) (d : Fin 6144), X4 (ix3 0 r d) = vc (ix3 e ⟨p / 9 * 128 + r.val, by omega⟩ d))
    (h6 : ∀ (b : Fin 48), X6 (ix4 0 0 0 b) = ks (ix3 e ⟨p / 9, by omega⟩ b))
    (h7 : ∀ (b : Fin 48), X7 (ix4 0 0 0 b) = vs (ix3 e ⟨p / 9, by omega⟩ b)) :
    MeetsB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 (Has8 q kc vc e p hp) (Has q qs kc ks vc vs e p hp) (fun _ => True) (fun _ => True) (fun _ => True) := by
  intro k0_h1 k0_h2 k0_h3 f8 f9 f10 f11 f12 f13 hS0
  refine ⟨fun d l => ?_, fun gr col => ?_, trivial, trivial⟩
  · rw [x8_B]
    exact packB q kc vc 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X3 X4 e p hp (hk k0_h2) h3 h4 d l
  rw [x9_B]
  exact byteB q qs kc ks vc vs 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X3 X4 X6 X7 e p hp (hk k0_h2) h3 h4 h6 h7 gr col

/-- At a point of kind C the blocks of packed codes and of scale bytes are the reference's. -/
theorem meetsC (𝒱 : Variants) (c : Dev nD) (bd : Option 𝒱.V) (i : grid0.Coords) (arg2 : Memref sig .tc .vmem S1x256x6144 .i8) (harg2 : arg2.IsWhole) (arg3 : Memref sig .tc .vmem S1x128x6144 .i8) (harg3 : arg3.IsWhole) (arg4 : Memref sig .tc .vmem S1x128x6144 .i8) (harg4 : arg4.IsWhole) (arg5 : Memref sig .tc .smem S1x1x2x48 .f32) (harg5 : arg5.IsWhole) (arg6 : Memref sig .tc .smem S1x1x1x48 .f32) (harg6 : arg6.IsWhole) (arg7 : Memref sig .tc .smem S1x1x1x48 .f32) (harg7 : arg7.IsWhole) (arg8 : Memref sig .tc .vmem S1x6144x128 .i8) (harg8 : arg8.IsWhole) (arg9 : Memref sig .tc .vmem S1x192x256 .i8) (harg9 : arg9.IsWhole) (arg10 : Memref sig .tc .vmem S1x72x48 .f32) (harg10 : arg10.IsWhole) (arg11 : Memref sig .tc .vmem S192x256 .i32) (harg11 : arg11.IsWhole) (arg12 : Memref sig .tc .vmem S192x128 .f32) (harg12 : arg12.IsWhole) (arg13 : Memref sig .tc .vmem S36x48x128 .f32) (harg13 : arg13.IsWhole) (arg14 : Memref sig .tc .vmem S2x72x128 .i32) (harg14 : arg14.IsWhole) (arg15 : Memref sig .tc .vmem S2x8x128 .i32) (harg15 : arg15.IsWhole) (X2 : (S1x256x6144.Idx → Elt Ideal .i8)) (X3 : (S1x128x6144.Idx → Elt Ideal .i8)) (X4 : (S1x128x6144.Idx → Elt Ideal .i8)) (X5 : (S1x1x2x48.Idx → Elt Ideal .f32)) (X6 : (S1x1x1x48.Idx → Elt Ideal .f32)) (X7 : (S1x1x1x48.Idx → Elt Ideal .f32))
    (e : Fin 5) (p : ℕ) (hp : p < 36) (hk : k0_cond2 i = 1#1 → p % 9 = 8)
    (h3 : ∀ (r : Fin 128) (d : Fin 6144), X3 (ix3 0 r d) = kc (ix3 e ⟨p / 9 * 128 + r.val, by omega⟩ d))
    (h4 : ∀ (r : Fin 128) (d : Fin 6144), X4 (ix3 0 r d) = vc (ix3 e ⟨p / 9 * 128 + r.val, by omega⟩ d))
    (h6 : ∀ (b : Fin 48), X6 (ix4 0 0 0 b) = ks (ix3 e ⟨p / 9, by omega⟩ b))
    (h7 : ∀ (b : Fin 48), X7 (ix4 0 0 0 b) = vs (ix3 e ⟨p / 9, by omega⟩ b)) :
    MeetsC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 (Has8 q kc vc e p hp) (Has q qs kc ks vc vs e p hp) (fun _ => True) (fun _ => True) (fun _ => True) := by
  intro k0_h1 k0_h2 k0_h3 f8 f9 f10 f11 f12 f13 hS0
  refine ⟨fun d l => ?_, fun gr col => ?_, trivial, trivial⟩
  · rw [x8_C]
    exact packB q kc vc 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X3 X4 e p hp (hk k0_h2) h3 h4 d l
  rw [x9_C]
  exact byteB q qs kc ks vc vs 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h2 X3 X4 X6 X7 e p hp (hk k0_h2) h3 h4 h6 h7 gr col

end

variable (m : (ℓ : Loc nD τ sig) → Buf (Elt Ideal) ℓ)

/-- The array of scale bytes that the reference leaves of the kernel's argument arrays. -/
def bytesOf (c : Dev nD) : S5x192x9216.Idx → BitVec 8 := fun i =>
  byteAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (i 0) (i 1) (i 2)

/-- The array of packed codes that the reference leaves of the kernel's argument arrays. -/
def codesOf (c : Dev nD) : S5x6144x4608.Idx → BitVec 8 := fun i =>
  packAt (m ((c : Thread nD τ).loc main_arg0)) (m ((c : Thread nD τ).loc main_arg2)) (m ((c : Thread nD τ).loc main_arg4)) (i 0) (i 1) (i 2)

/-- What each point leaves: the reference's packed codes and scale bytes, and nothing said of the rest. -/
def preds : Preds Ideal where
  P6 c t := Has8 (m ((c : Thread nD τ).loc main_arg0)) (m ((c : Thread nD τ).loc main_arg2)) (m ((c : Thread nD τ).loc main_arg4))
    ⟨t.val / 36, by have := tlt t; omega⟩ (t.val % 36) (Nat.mod_lt _ (by decide))
  P7 c t := Has (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨t.val / 36, by have := tlt t; omega⟩ (t.val % 36) (Nat.mod_lt _ (by decide))
  P8 _ _ _ := True
  S _ _ _ := True

theorem steps : Steps m (preds m) where
  A c t := meetsA _ _ _ _ _ _ _ _ _ _ _ _ _ _ _ _ _ _ _ _ _ _ _ _ _ _ _ _ _ _ _ _ _ _ _ _ _ _ _ _ _ _ _ _ _ _ (Nat.mod_lt _ (by decide)) (kindA t) (blk0 m c t) (blk3 m c t)
  B c t := meetsB _ _ _ _ _ _ _ _ _ _ _ _ _ _ _ _ _ _ _ _ _ _ _ _ _ _ _ _ _ _ _ _ _ _ _ _ _ _ _ _ _ _ _ _ _ _ (Nat.mod_lt _ (by decide)) (kindB t) (blk1 m c t) (blk2 m c t) (blk4 m c t) (blk5 m c t)
  C c t := meetsC _ _ _ _ _ _ _ _ _ _ _ _ _ _ _ _ _ _ _ _ _ _ _ _ _ _ _ _ _ _ _ _ _ _ _ _ _ _ _ _ _ _ _ _ _ _ (Nat.mod_lt _ (by decide)) (kindB t) (blk1 m c t) (blk2 m c t) (blk4 m c t) (blk5 m c t)
  S0 _ _ := trivial

theorem has_at {q qs kc ks vc vs} {e : Fin 5} {p : ℕ} {hp : p < 36} {X : S1x192x256.Idx → BitVec 8} (h : Has q qs kc ks vc vs e p hp X) (y : S1x192x256.Idx) :
    X y = byteAt q qs kc ks vc vs e (y 1) ⟨256 * p + (y 2).val, by have : (y 2).val < 256 := (y 2).isLt; omega⟩ := by
  have e0 : y = ix3 (0 : Fin 1) (y 1) (y 2) := by
    funext b
    fin_cases b
    · exact Fin.ext (by have : (y 0).val < 1 := (y 0).isLt; show (y 0).val = 0; omega)
    · rfl
    · rfl
  exact (congrArg X e0).trans (h (y 1) (y 2))

theorem has8_at {q kc vc} {e : Fin 5} {p : ℕ} {hp : p < 36} {X : S1x6144x128.Idx → BitVec 8} (h : Has8 q kc vc e p hp X) (y : S1x6144x128.Idx) :
    X y = packAt q kc vc e (y 1) ⟨128 * p + (y 2).val, by have : (y 2).val < 128 := (y 2).isLt; omega⟩ := by
  have e0 : y = ix3 (0 : Fin 1) (y 1) (y 2) := by
    funext b
    fin_cases b
    · exact Fin.ext (by have : (y 0).val < 1 := (y 0).isLt; show (y 0).val = 0; omega)
    · rfl
    · rfl
  exact (congrArg X e0).trans (h (y 1) (y 2))

theorem idx6 : ∀ t : Fin cfg0.N, win0_6.index t = ![t.val / 36, 0, t.val % 36] := (by decide +kernel : ∀ t : Fin grid0.N, _)

/-- The array of packed codes after a run. -/
theorem post6 {r : PUnit × MemSt nD τ sig (Elt Ideal)} (h : RDat.FramePost cfg0 (rdat m (preds m)) (V m) r) (c : Dev nD) :
    r.2.mem ((c : Thread nD τ).loc main_v3_0) = codesOf m c := by
  obtain ⟨after, hL, hA⟩ := h.exists_exact c
  refine (hA 6).trans ?_
  refine ((rdat m (preds m) c).withAfter after).arrAt_eq_of_covers 6 (codesOf m c) (by decide +kernel) fun t hf y => ?_
  have hP : (preds m).P6 c t (after 6 t) := Dat.toRRel_leaves (dat m (preds m) c) (w := 6) rfl (hL 6 t hf)
  rw [RDat.withAfter_after]
  blk_simp
  refine (has8_at (hp := Nat.mod_lt _ (by decide)) hP y).trans ?_
  unfold codesOf
  have ht := tlt t
  congr 1
  all_goals first
    | rfl
    | (refine Fin.ext ?_; blk_simp [idx6]; try exact congrArg (· + (y 2).val) (Nat.mul_comm _ _))

/-- The array of scale bytes after a run. -/
theorem post7 {r : PUnit × MemSt nD τ sig (Elt Ideal)} (h : RDat.FramePost cfg0 (rdat m (preds m)) (V m) r) (c : Dev nD) :
    r.2.mem ((c : Thread nD τ).loc main_v3_1) = bytesOf m c := by
  obtain ⟨after, hL, hA⟩ := h.exists_exact c
  refine (hA 7).trans ?_
  refine ((rdat m (preds m) c).withAfter after).arrAt_eq_of_covers 7 (bytesOf m c) (by decide +kernel) fun t hf y => ?_
  have hP : (preds m).P7 c t (after 7 t) := Dat.toRRel_leaves (dat m (preds m) c) (w := 7) rfl (hL 7 t hf)
  rw [RDat.withAfter_after]
  blk_simp
  refine (has_at (hp := Nat.mod_lt _ (by decide)) hP y).trans ?_
  unfold bytesOf
  have ht := tlt t
  congr 1
  all_goals first
    | rfl
    | (refine Fin.ext ?_; blk_simp [idx7]; try exact congrArg (· + (y 2).val) (Nat.mul_comm _ _))

/-- Every run of the kernel leaves the reference's packed codes and scale bytes, and the argument arrays as they were. -/
theorem run7 (ρ : Dev nD → PrngReg) : θ_run defs (onTc (τ := τ) (main (F := Ideal))) ⟨m, fun _ => 0, ρ⟩ (fun r => ∀ c : Dev nD,
      r.2.mem ((c.tc : Thread nD τ).loc main_v3_0) = codesOf m c
      ∧ r.2.mem ((c.tc : Thread nD τ).loc main_v3_1) = bytesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨post6 m h.1 c, post7 m h.1 c, post_args h.1 c⟩) (run_rel ρ (steps m))

end Cert.Proof.KernelIdeal

end
-- ==== Proof.PreI.lean ====
/- What the precondition says of the codes and scales. -/
module

public import proofs.«01_k».proof.Pre_tame
public import proofs.«01_k».proof.Proof.RefByte
public import Idealize.ShloMosaic.Lib.ReduceAll

@[expose] public section

set_option maxRecDepth 16384

noncomputable section

namespace Cert.Proof.PreI

open Idealize.ShloMosaic Cert.Pre_tame Cert.Proof.Num

/-- The relations between the predicate's shapes. -/
theorem facts : Cert.Pre_tame.Facts where
  bcast_S_S5x8192x6144 := by decide
  reducesTo_S5x8192x6144_S_d0_1_2 := by decide
  h_S_ := by decide
  bcast_S_S5x512x6144 := by decide
  reducesTo_S5x512x6144_S_d0_1_2 := by decide
  bcast_S_S5x64x48 := by decide
  reducesTo_S5x64x48_S_d0_1_2 := by decide
  bcast_S_S5x4x48 := by decide
  reducesTo_S5x4x48_S_d0_1_2 := by decide

theorem code_ok : ∀ b : BitVec 8, b ≠ 127#8 → b ≠ 255#8 → b.toNat % 128 ≠ 127 := by decide

instance : Subsingleton S_.Idx := ⟨fun a b => funext fun x => x.elim0⟩

theorem sixtythree_eq : Ideal.ofBits .f32 0x427C0000#32 = ((63 : ℝ) : EReal) := by
  show Ideal.ieee 8 23 0x427C0000#32 = _
  have h1 : (BitVec.extractLsb' 23 8 (0x427C0000#32)).toNat = 132 := by decide
  have h2 : (BitVec.extractLsb' 0 23 (0x427C0000#32)).toNat = 8126464 := by decide
  have h3 : (BitVec.extractLsb' (8 + 23) 1 (0x427C0000#32) == 1#1) = false := by decide
  unfold Ideal.ieee
  simp only [h1, h2, h3]
  norm_num

theorem minus_eq : Ideal.ofBits .f32 0xC27C0000#32 = ((-63 : ℝ) : EReal) := by
  show Ideal.ieee 8 23 0xC27C0000#32 = _
  have h1 : (BitVec.extractLsb' 23 8 (0xC27C0000#32)).toNat = 132 := by decide
  have h2 : (BitVec.extractLsb' 0 23 (0xC27C0000#32)).toNat = 8126464 := by decide
  have h3 : (BitVec.extractLsb' (8 + 23) 1 (0xC27C0000#32) == 1#1) = true := by decide
  unfold Ideal.ieee
  simp only [h1, h2, h3]
  norm_num

/-- The logarithm of a scale in base two, as the predicate computes it. -/
def lgS (s : EReal) : EReal := Ideal.div (Ideal.log s) (Ideal.log (Ideal.ofBits .f32 0x40000000#32))

/-- A scale the predicate takes is a power of two with an exponent in range. -/
theorem pow_of (s : EReal) (h0 : Ideal.ofBits .f32 0x00000000#32 < s) (h1 : Ideal.liftRound Int.floor (lgS s) = lgS s)
    (h2 : Ideal.ofBits .f32 0xC27C0000#32 ≤ lgS s) (h3 : lgS s ≤ Ideal.ofBits .f32 0x427C0000#32) : ∃ n, Pow s n := by
  rw [zero_eq] at h0
  rw [minus_eq] at h2
  rw [sixtythree_eq] at h3
  induction s using EReal.rec with
  | bot => exact absurd h0 (by simp)
  | top =>
    exfalso
    have e2 : Ideal.log ((2 : ℝ) : EReal) = ((Real.log 2 : ℝ) : EReal) := if_neg (by norm_num)
    have : lgS ⊤ = ⊤ := by
      unfold lgS
      rw [two_eq, e2]
      unfold Ideal.div
      rw [if_neg (by exact_mod_cast log2_pos.ne'), ← EReal.coe_inv]
      exact EReal.top_mul_coe_of_pos (inv_pos.2 log2_pos)
    rw [this] at h3
    exact absurd h3 (by simp)
  | coe r =>
    have hr : 0 < r := by exact_mod_cast h0
    have e : lgS (r : EReal) = ((lg r : ℝ) : EReal) := div_log r hr
    rw [e] at h1 h2 h3
    have h1' : ((⌊lg r⌋ : ℤ) : ℝ) = lg r := EReal.coe_injective h1
    have h2' : (-63 : ℝ) ≤ lg r := by exact_mod_cast h2
    have h3' : lg r ≤ (63 : ℝ) := by exact_mod_cast h3
    have hx : Real.log r = ⌊lg r⌋ * Real.log 2 := by
      rw [h1']; unfold lg; rw [mul_assoc, inv_mul_cancel₀ log2_pos.ne', mul_one]
    refine ⟨⌊lg r⌋, ?_, ?_, ?_⟩
    · have : r = (2 : ℝ) ^ ⌊lg r⌋ := by
        apply Real.log_injOn_pos (Set.mem_Ioi.2 hr) (Set.mem_Ioi.2 (zpow_nn _))
        rw [Real.log_zpow, hx]
      exact congrArg _ this
    · rw [← h1'] at h2'; exact_mod_cast h2'
    · rw [← h1'] at h3'; exact_mod_cast h3'

theorem scale_ok {s : Shape} (x : s.Idx → EReal) (i : s.Idx)
    (h : IntOp.andi (IntOp.andi (IntOp.andi (FloatOps.cmpf (F := Ideal) (φ := .f32) .ogt (x i) (Ideal.ofBits .f32 0x00000000#32))
        (FloatOps.cmpf (F := Ideal) (φ := .f32) .oeq (Ideal.liftRound Int.floor (lgS (x i))) (lgS (x i))))
        (FloatOps.cmpf (F := Ideal) (φ := .f32) .oge (lgS (x i)) (Ideal.ofBits .f32 0xC27C0000#32)))
        (FloatOps.cmpf (F := Ideal) (φ := .f32) .ole (lgS (x i)) (Ideal.ofBits .f32 0x427C0000#32)) = 1#1) : ∃ n, Pow (x i) n := by
  obtain ⟨h, h3⟩ := IntOp.andi_eq_one.1 h
  obtain ⟨h, h2⟩ := IntOp.andi_eq_one.1 h
  obtain ⟨h0, h1⟩ := IntOp.andi_eq_one.1 h
  have b : ∀ p : Prop, [Decidable p] → BitVec.ofBool (decide p) = 1#1 → p := fun p _ h => by
    by_contra hp
    rw [decide_eq_false hp] at h
    exact absurd h (by decide)
  exact pow_of _ (b _ h0) (b _ h1) (b _ h2) (b _ h3)

/-- The precondition gives codes that are not NaN and scales that are powers of two. -/
theorem tame (q : IVec S5x8192x6144 8) (qs : FVec Ideal S5x64x48 .f32) (k : IVec S5x512x6144 8) (ks : FVec Ideal S5x4x48 .f32) (v : IVec S5x512x6144 8) (vs : FVec Ideal S5x4x48 .f32)
    (j : S_.Idx) (h : @Cert.Pre_tame.fn facts Ideal _ q qs k ks v vs j = 1#1) : Cert.Proof.RefRun.Tame q qs k ks v vs := by
  haveI := facts
  unfold fn fn_part1 fn_part2 fn_part3 fn_part4 at h
  obtain ⟨h, hvs⟩ := IntOp.andi_eq_one.1 h
  obtain ⟨h, hks⟩ := IntOp.andi_eq_one.1 h
  obtain ⟨h, hqs⟩ := IntOp.andi_eq_one.1 h
  obtain ⟨h, hv⟩ := IntOp.andi_eq_one.1 h
  obtain ⟨hq, hk⟩ := IntOp.andi_eq_one.1 h
  refine ⟨fun i => ?_, fun i => ?_, fun i => ?_, fun i => ?_, fun i => ?_, fun i => ?_⟩
  · have e := IntOp.andi_eq_one.1 (Host.reduce_andi_all _ _ _ _ j hq i)
    exact code_ok _ (IntOp.cmpi_ne.1 e.1) (IntOp.cmpi_ne.1 e.2)
  · have e := IntOp.andi_eq_one.1 (Host.reduce_andi_all _ _ _ _ j hk i)
    exact code_ok _ (IntOp.cmpi_ne.1 e.1) (IntOp.cmpi_ne.1 e.2)
  · have e := IntOp.andi_eq_one.1 (Host.reduce_andi_all _ _ _ _ j hv i)
    exact code_ok _ (IntOp.cmpi_ne.1 e.1) (IntOp.cmpi_ne.1 e.2)
  · exact scale_ok qs i (Host.reduce_andi_all _ _ _ _ j hqs i)
  · exact scale_ok ks i (Host.reduce_andi_all _ _ _ _ j hks i)
  · exact scale_ok vs i (Host.reduce_andi_all _ _ _ _ j hvs i)

end Cert.Proof.PreI

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.RefRun
public import proofs.«01_k».proof.Proof.RunI
public import proofs.«01_k».proof.Proof.RunK
public import proofs.«01_k».proof.Proof.ValI
public import proofs.«01_k».proof.Proof.RefOut
public import proofs.«01_k».proof.Proof.RefNib
public import proofs.«01_k».proof.Proof.PreI
public import Idealize.ShloMosaic.Adequacy
public import Idealize.ShloMosaic.Init

@[expose] public section

noncomputable section

namespace Cert.Proof

open Idealize.ShloMosaic Idealize.SL.Sem

theorem mask_facts : Cert.On_codes_and_scales.Facts where
  bcast_S_S5x6144x4608 := by decide
  bcast_S_S5x192x9216 := by decide
  bcast_S_S5x72x48 := by decide

/-- The kernel's packed codes and scale bytes are the reference's. -/
theorem algebraic : Cert.algebraic_KernelIdeal_ReferenceIdeal_on_codes_and_scales_pre_tame (hKernelIdeal := Cert.KernelIdeal.Gen.facts)
    (hReferenceIdeal := Cert.ReferenceIdeal.Gen.facts) (hPre_tame := Cert.Proof.PreI.facts) (hOn_codes_and_scales := mask_facts) := by
  intro m g m' g' hpre hargs
  refine ⟨fun c => Cert.Proof.KernelIdeal.codesOf m c, fun c => Cert.Proof.KernelIdeal.bytesOf m c,
    fun c => m ((c.tc : Thread Cert.KernelIdeal.nD Cert.KernelIdeal.τ).loc Cert.KernelIdeal.main_v3_2), ?_, ?_⟩
  · refine (θ_run _ _ _).mono (fun r h c => ?_) (Cert.Proof.KernelIdeal.run7 m g)
    obtain ⟨h6, h7, ha⟩ := h c
    exact ⟨fun i _ => congrFun h6 i, fun i _ => congrFun h7 i, fun i hi => absurd hi (by decide : ¬ (0#1 : BitVec 1) = 1#1), ha⟩
  · refine (θ_run _ _ _).mono (fun r h c => ?_) (Cert.Proof.RefRun.run m' g')
    obtain ⟨h6, h7, _, ha⟩ := h c
    obtain ⟨e0, e1, e2, e3, e4, e5⟩ := hargs c
    have T := Cert.Proof.PreI.tame _ _ _ _ _ _ (fun a : Fin 0 => a.elim0) (congrFun (hpre c) (fun a : Fin 0 => a.elim0))
    rw [e0, e1, e2, e3, e4, e5] at h6 h7
    exact ⟨fun i _ => congrFun (h6.trans (Cert.Proof.RefRun.G6_eq _ _ _ _ _ _ T)) i, fun i _ => congrFun (h7.trans (Cert.Proof.RefRun.G7_eq _ _ _ _ _ _ T)) i,
      fun i hi => absurd hi (by decide : ¬ (0#1 : BitVec 1) = 1#1), ha⟩

theorem claim : Cert.Claim :=
  ⟨Cert.Kernel.Gen.facts, Cert.KernelIdeal.Gen.facts, Cert.ReferenceIdeal.Gen.facts, Cert.Proof.PreI.facts, mask_facts,
    fun m ρ _ => Cert.Proof.Kernel.frame m ρ, fun m ρ _ => Cert.Proof.KernelIdeal.frame m ρ, fun m ρ _ => Cert.Proof.KernelIdeal.frame m ρ,
    fun m ρ _ => Cert.ReferenceIdeal.Gen.frame m ρ, fun m ρ _ => Cert.ReferenceIdeal.Gen.frame m ρ, trivial, algebraic⟩

end Cert.Proof

end
